-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk [hPre_finite_qk : Cert.Pre_finite_qk.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qk [hPre_finite_qk : Cert.Pre_finite_qk.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qk.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_qk [hKernel2Ideal : Cert.Kernel2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_qk [hReference2Ideal : Cert.Reference2Ideal.Facts] [hPre_finite_qk : Cert.Pre_finite_qk.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qk m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  IdealRules.named_const.Statement Cert.KernelIdeal.κ "c2" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "c2" .f32 0x3DD53B95#32 (((Real.sqrt 192)⁻¹ * (Real.log 2)⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite_qk [hKernel2Ideal : Cert.Kernel2Ideal.Facts] [hReference2Ideal : Cert.Reference2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qk m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_qk (hKernel2Ideal := hKernel2Ideal) (hPre_finite_qk := hPre_finite_qk)
    ∧ quiescent_Reference2Ideal (hReference2Ideal := hReference2Ideal)
    ∧ quiescent_Reference2Ideal_pre_finite_qk (hReference2Ideal := hReference2Ideal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_qk (hKernel2Ideal := hKernel2Ideal) (hReference2Ideal := hReference2Ideal) (hPre_finite_qk := hPre_finite_qk)
-- ==== Pre_finite.lean ====
abbrev S8x8192x192 : Shape := ⟨3, ![8, 8192, 192]⟩
abbrev S8x8192x128 : Shape := ⟨3, ![8, 8192, 128]⟩
abbrev S8192x1024 : Shape := ⟨2, ![8192, 1024]⟩
abbrev S_ : Shape := ⟨0, ![]⟩

class Facts : Prop where
  bcast_S_S8x8192x192 : S_.BroadcastsInDim S8x8192x192 (![] : Fin 0 → Fin S8x8192x192.rank)
  reducesTo_S8x8192x192_S_d0_1_2 : S8x8192x192.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8x8192x192 .f32) (main_arg1 : FVec F S8x8192x192 .f32) (main_arg2 : FVec F S8x8192x128 .f32) (main_arg3 : FVec F S8192x1024 .f32) : IVec S_ 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_c : IVec S_ 1 := constantI S_ 1 1#1
  let main_v3 : IVec S_ 1 := (fun x v => Host.reduce IntOp.andi x v reducesTo_S8x8192x192_S_d0_1_2 h_S_) main_v2 main_c
  let main_v4 : FVec F S8x8192x192 .f32 := Host.absf main_arg1
  let main_cst_0 : FVec F S_ .f32 := constant S_ .f32 0x7F800000#32
  let main_v5 : FVec F S8x8192x192 .f32 := broadcastInDim S8x8192x192 ![] bcast_S_S8x8192x192 main_cst_0
  let main_v6 : IVec S8x8192x192 1 := cmpf .olt main_v4 main_v5
  let main_c_1 : IVec S_ 1 := constantI S_ 1 1#1
  let main_v7 : IVec S_ 1 := (fun x v => Host.reduce IntOp.andi x v reducesTo_S8x8192x192_S_d0_1_2 h_S_) main_v6 main_c_1
  let main_v8 : IVec S_ 1 := andi main_v3 main_v7
  let main_v9 : FVec F S8x8192x128 .f32 := Host.absf main_arg2
  let main_cst_2 : FVec F S_ .f32 := constant S_ .f32 0x7F800000#32
  let main_v10 : FVec F S8x8192x128 .f32 := broadcastInDim S8x8192x128 ![] bcast_S_S8x8192x128 main_cst_2
  let main_v11 : IVec S8x8192x128 1 := cmpf .olt main_v9 main_v10
  let main_c_3 : IVec S_ 1 := constantI S_ 1 1#1
  let main_v12 : IVec S_ 1 := (fun x v => Host.reduce IntOp.andi x v reducesTo_S8x8192x128_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_qk.lean ====
abbrev S8x8192x192 : Shape := ⟨3, ![8, 8192, 192]⟩
abbrev S8x8192x128 : Shape := ⟨3, ![8, 8192, 128]⟩
abbrev S_ : Shape := ⟨0, ![]⟩

class Facts : Prop where
  bcast_S_S8x8192x192 : S_.BroadcastsInDim S8x8192x192 (![] : Fin 0 → Fin S8x8192x192.rank)
  reducesTo_S8x8192x192_S_d0_1_2 : S8x8192x192.ReducesTo [0, 1, 2] S_
  h_S_ : 0 < S_.numel

variable [Facts]

def fn {F : FTy → Type} [FloatOps F] (main_arg0 : FVec F S8x8192x192 .f32) (main_arg1 : FVec F S8x8192x192 .f32) (main_arg2 : FVec F S8x8192x128 .f32) : IVec S_ 1 :=
  let main_v0 : FVec F S8x8192x192 .f32 := Host.absf main_arg0
  let main_cst : FVec F S_ .f32 := constant S_ .f32 0x7F800000#32
  let main_v1 : FVec F S8x8192x192 .f32 := broadcastInDim S8x8192x192 ![] bcast_S_S8x8192x192 main_cst
  let main_v2 : IVec S8x8192x192 1 := cmpf .olt main_v0 main_v1
  let main_c : IVec S_ 1 := constantI S_ 1 1#1
  let main_v3 : IVec S_ 1 := (fun x v => Host.reduce IntOp.andi x v reducesTo_S8x8192x192_S_d0_1_2 h_S_) main_v2 main_c
  let main_v4 : FVec F S8x8192x192 .f32 := Host.absf main_arg1
  let main_cst_0 : FVec F S_ .f32 := constant S_ .f32 0x7F800000#32
  let main_v5 : FVec F S8x8192x192 .f32 := broadcastInDim S8x8192x192 ![] bcast_S_S8x8192x192 main_cst_0
  let main_v6 : IVec S8x8192x192 1 := cmpf .olt main_v4 main_v5
  let main_c_1 : IVec S_ 1 := constantI S_ 1 1#1
  let main_v7 : IVec S_ 1 := (fun x v => Host.reduce IntOp.andi x v reducesTo_S8x8192x192_S_d0_1_2 h_S_) main_v6 main_c_1
  let main_v8 : IVec S_ 1 := andi main_v3 main_v7
  main_v8
-- ==== Kernel.lean ====
abbrev S8x8192x192 : Shape := ⟨3, ![8, 8192, 192]⟩
abbrev S8x8192x128 : Shape := ⟨3, ![8, 8192, 128]⟩
abbrev S8192x1024 : Shape := ⟨2, ![8192, 1024]⟩
abbrev S72 : Shape := ⟨1, ![72]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8192x8 : Shape := ⟨2, ![8192, 8]⟩
abbrev S8x8192x256 : Shape := ⟨3, ![8, 8192, 256]⟩
abbrev S8x1x8192 : Shape := ⟨3, ![8, 1, 8192]⟩
abbrev S2x512x256 : Shape := ⟨3, ![2, 512, 256]⟩
abbrev S1 : Shape := ⟨1, ![1]⟩
abbrev S2x1024x256 : Shape := ⟨3, ![2, 1024, 256]⟩
abbrev S2x1024x128 : Shape := ⟨3, ![2, 1024, 128]⟩
abbrev S512x256 : Shape := ⟨2, ![512, 256]⟩
abbrev S2x1x512 : Shape := ⟨3, ![2, 1, 512]⟩
abbrev S2x8192x256 : Shape := ⟨3, ![2, 8192, 256]⟩
abbrev S512x128 : Shape := ⟨2, ![512, 128]⟩
abbrev S1x512x128 : Shape := ⟨3, ![1, 512, 128]⟩
abbrev S2x512x128 : Shape := ⟨3, ![2, 512, 128]⟩
abbrev S2x512x512 : Shape := ⟨3, ![2, 512, 512]⟩
abbrev S1x512x512 : Shape := ⟨3, ![1, 512, 512]⟩
abbrev S2x1024x512 : Shape := ⟨3, ![2, 1024, 512]⟩
abbrev S1x1024x512 : Shape := ⟨3, ![1, 1024, 512]⟩

abbrev nBuf : Space → Nat
  | .hbm => 59
  | .vmem => 17
  | .smem => 2
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x1, .f32⟩
  | .hbm, ⟨30, _⟩ => ⟨S8x8192x1, .f32⟩
  | .hbm, ⟨31, _⟩ => ⟨S_, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x128x8192, .f32⟩
  | .hbm, ⟨38, _⟩ => ⟨S8192x8x128, .f32⟩
  | .hbm, ⟨39, _⟩ => ⟨S8192x1024, .f32⟩
  | .hbm, ⟨40, _⟩ => ⟨S8192x1024, .f32⟩
  | .hbm, ⟨41, _⟩ => ⟨S8192x8x128, .f32⟩
  | .hbm, ⟨42, _⟩ => ⟨S_, .f32⟩
  | .hbm, ⟨43, _⟩ => ⟨S8192x8, .f32⟩
  | .hbm, ⟨44, _⟩ => ⟨S8x8192, .f32⟩
  | .hbm, ⟨45, _⟩ => ⟨S_, .i32⟩
  | .hbm, ⟨46, _⟩ => ⟨S_, .f32⟩
  | .hbm, ⟨47, _⟩ => ⟨S8x8192x256, .f32⟩
  | .hbm, ⟨48, _⟩ => ⟨S8x8192x256, .bf16⟩
  | .hbm, ⟨49, _⟩ => ⟨S_, .i32⟩
  | .hbm, ⟨50, _⟩ => ⟨S_, .f32⟩
  | .hbm, ⟨51, _⟩ => ⟨S8x8192x256, .f32⟩
  | .hbm, ⟨52, _⟩ => ⟨S8x8192x256, .bf16⟩
  | .hbm, ⟨53, _⟩ => ⟨S8x8192x128, .bf16⟩
  | .hbm, ⟨54, _⟩ => ⟨S8x1x8192, .f32⟩
  | .hbm, ⟨55, _⟩ => ⟨S8x1x8192, .f32⟩
  | .hbm, ⟨56, _⟩ => ⟨S8x8192x256, .f32⟩
  | .hbm, ⟨57, _⟩ => ⟨S8x8192x256, .f32⟩
  | .hbm, ⟨58, _⟩ => ⟨S8x8192x128, .f32⟩
  | .local _ .vmem, ⟨0, _⟩ => ⟨S2x512x256, .bf16⟩
  | .local _ .vmem, ⟨1, _⟩ => ⟨S2x512x256, .bf16⟩
  | .local _ .vmem, ⟨2, _⟩ => ⟨S2x1024x256, .bf16⟩
  | .local _ .vmem, ⟨3, _⟩ => ⟨S2x1024x256, .bf16⟩
  | .local _ .vmem, ⟨4, _⟩ => ⟨S2x1024x128, .bf16⟩
  | .local _ .vmem, ⟨5, _⟩ => ⟨S2x1024x128, .bf16⟩
  | .local _ .vmem, ⟨6, _⟩ => ⟨S512x256, .f32⟩
  | .local _ .vmem, ⟨7, _⟩ => ⟨S512x256, .f32⟩
  | .local _ .vmem, ⟨8, _⟩ => ⟨S2x1x512, .f32⟩
  | .local _ .vmem, ⟨9, _⟩ => ⟨S2x1x512, .f32⟩
  | .local _ .vmem, ⟨10, _⟩ => ⟨S2x1x512, .f32⟩
  | .local _ .vmem, ⟨11, _⟩ => ⟨S2x1x512, .f32⟩
  | .local _ .vmem, ⟨12, _⟩ => ⟨S2x1024x256, .f32⟩
  | .local _ .vmem, ⟨13, _⟩ => ⟨S2x1024x256, .f32⟩
  | .local _ .vmem, ⟨14, _⟩ => ⟨S2x1024x128, .f32⟩
  | .local _ .vmem, ⟨15, _⟩ => ⟨S2x1024x128, .f32⟩
  | .local _ .vmem, ⟨16, _⟩ => ⟨S2x8192x256, .f32⟩
  | .local _ .smem, ⟨0, _⟩ => ⟨S72, .i32⟩
  | .local _ .smem, ⟨1, _⟩ => ⟨S72, .i32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_call2_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v39_2 : Ref sig .tc := ⟨.hbm, 58, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32_48 : BitVec 32 := 512#32
  let v110 : BitVec 32 := Scalar.muli v1 c512_i32_48
  v110
def k0_cond2 (v1 : BitVec 32) (v3 : BitVec 32) : BitVec 1 :=
  let c2_i32 : BitVec 32 := 2#32
  let v7 : BitVec 32 := Scalar.muli c2_i32 v3
  let v8 : BitVec 1 := Scalar.cmpi .eq v1 v7
  let v9 : BitVec 32 := Scalar.extui v8
  let c0_i32_1 : BitVec 32 := 0#32
  let v10 : BitVec 1 := Scalar.cmpi .ne v9 c0_i32_1
  v10

def k0_off2 (v1 : BitVec 32) : Fin 3 → Nat :=
  let c0_49 : Index := 0#32
  let c512_i32_48 : BitVec 32 := 512#32
  let v110 : BitVec 32 := Scalar.muli v1 c512_i32_48
  let v111 : BitVec 32 := v110
  let v112 : Index := Scalar.indexCast v111
  let c0_50 : Index := 0#32
  ![0, v112.toNat, 0]
def k0_mult2 (v1 : BitVec 32) : BitVec 32 :=
  let c512_i32_48 : BitVec 32 := 512#32
  let v110 : BitVec 32 := Scalar.muli v1 c512_i32_48
  v110
def k0_cond3 (v1 : BitVec 32) (v3 : BitVec 32) : BitVec 1 :=
  let c2_i32_2 : BitVec 32 := 2#32
  let v11 : BitVec 32 := Scalar.muli c2_i32_2 v3
  let v12 : BitVec 1 := Scalar.cmpi .ne v1 v11
  let c0_i32_4 : BitVec 32 := 0#32
  let v14 : BitVec 1 := Scalar.cmpi .sgt v1 c0_i32_4
  let v15 : BitVec 32 := Scalar.extui v14
  let c0_i32_5 : BitVec 32 := 0#32
  let v16 : BitVec 1 := Scalar.cmpi .slt v1 c0_i32_5
  let v17 : BitVec 32 := Scalar.extui v16
  let v18 : BitVec 32 := Scalar.subi v15 v17
  let c2_i32_3 : BitVec 32 := 2#32
  let c0_i32_6 : BitVec 32 := 0#32
  let v19 : BitVec 1 := Scalar.cmpi .sgt c2_i32_3 c0_i32_6
  let v20 : BitVec 32 := Scalar.extui v19
  let c0_i32_7 : BitVec 32 := 0#32
  let v21 : BitVec 1 := Scalar.cmpi .slt c2_i32_3 c0_i32_7
  let v22 : BitVec 32 := Scalar.extui v21
  let v23 : BitVec 32 := Scalar.subi v20 v22
  let v24 : BitVec 1 := Scalar.cmpi .ne v18 v23
  let v25 : BitVec 32 := Scalar.remsi v1 c2_i32_3
  let c0_i32_8 : BitVec 32 := 0#32
  let v26 : BitVec 1 := Scalar.cmpi .ne v25 c0_i32_8
  let v27 : BitVec 1 := Scalar.andi v24 v26
  let v13 : BitVec 32 := Scalar.divsi v1 c2_i32_3
  let c1_i32 : BitVec 32 := 1#32
  let v28 : BitVec 32 := Scalar.subi v13 c1_i32
  let v29 : BitVec 32 := Scalar.select v27 v28 v13
  let v30 : BitVec 1 := Scalar.cmpi .eq v29 v3
  let v31 : BitVec 1 := Scalar.andi v12 v30
  let v32 : BitVec 32 := Scalar.extui v31
  let c0_i32_9 : BitVec 32 := 0#32
  let v33 : BitVec 1 := Scalar.cmpi .ne v32 c0_i32_9
  v33

def k0_off3 (v1 : BitVec 32) : Fin 3 → Nat :=
  let c0_49 : Index := 0#32
  let c512_i32_48 : BitVec 32 := 512#32
  let v110 : BitVec 32 := Scalar.muli v1 c512_i32_48
  let v111 : BitVec 32 := v110
  let v112 : Index := Scalar.indexCast v111
  let c0_50 : Index := 0#32
  ![0, v112.toNat, 0]
def k0_mult3 (v1 : BitVec 32) : BitVec 32 :=
  let c512_i32 : BitVec 32 := 512#32
  let v90 : BitVec 32 := Scalar.muli v1 c512_i32
  v90
def k0_cond4 (v1 : BitVec 32) (v3 : BitVec 32) : BitVec 1 :=
  let c0_i32_11 : BitVec 32 := 0#32
  let v35 : BitVec 1 := Scalar.cmpi .sgt v1 c0_i32_11
  let v36 : BitVec 32 := Scalar.extui v35
  let c0_i32_12 : BitVec 32 := 0#32
  let v37 : BitVec 1 := Scalar.cmpi .slt v1 c0_i32_12
  let v38 : BitVec 32 := Scalar.extui v37
  let v39 : BitVec 32 := Scalar.subi v36 v38
  let c2_i32_10 : BitVec 32 := 2#32
  let c0_i32_13 : BitVec 32 := 0#32
  let v40 : BitVec 1 := Scalar.cmpi .sgt c2_i32_10 c0_i32_13
  let v41 : BitVec 32 := Scalar.extui v40
  let c0_i32_14 : BitVec 32 := 0#32
  let v42 : BitVec 1 := Scalar.cmpi .slt c2_i32_10 c0_i32_14
  let v43 : BitVec 32 := Scalar.extui v42
  let v44 : BitVec 32 := Scalar.subi v41 v43
  let v45 : BitVec 1 := Scalar.cmpi .ne v39 v44
  let v46 : BitVec 32 := Scalar.remsi v1 c2_i32_10
  let c0_i32_15 : BitVec 32 := 0#32
  let v47 : BitVec 1 := Scalar.cmpi .ne v46 c0_i32_15
  let v48 : BitVec 1 := Scalar.andi v45 v47
  let v34 : BitVec 32 := Scalar.divsi v1 c2_i32_10
  let c1_i32_16 : BitVec 32 := 1#32
  let v49 : BitVec 32 := Scalar.subi v34 c1_i32_16
  let v50 : BitVec 32 := Scalar.select v48 v49 v34
  let v51 : BitVec 1 := Scalar.cmpi .sgt v50 v3
  let v52 : BitVec 32 := Scalar.extui v51
  let c0_i32_17 : BitVec 32 := 0#32
  let v53 : BitVec 1 := Scalar.cmpi .ne v52 c0_i32_17
  v53

def k0_off4 (v1 : BitVec 32) : Fin 3 → Nat :=
  let c0_41 : Index := 0#32
  let c512_i32 : BitVec 32 := 512#32
  let v90 : BitVec 32 := Scalar.muli v1 c512_i32
  let v91 : BitVec 32 := v90
  let v92 : Index := Scalar.indexCast v91
  let c0_42 : Index := 0#32
  ![0, v92.toNat, 0]

def k0_chk1 (v1 : BitVec 32) (v3 : BitVec 32) : Prop :=
  (∀ (k0_h2 : k0_cond2 v1 v3 = 1#1), 512 ∣ (k0_mult1 v1).toNat) ∧
  (∀ (k0_h2 : k0_cond2 v1 v3 = 1#1), ∀ a, (k0_off2 v1) a + S2x512x256.size a ≤ S2x8192x256.size a) ∧
  (∀ (k0_h3 : k0_cond3 v1 v3 = 1#1), 512 ∣ (k0_mult2 v1).toNat) ∧
  (∀ (k0_h3 : k0_cond3 v1 v3 = 1#1), ∀ a, (k0_off3 v1) a + S2x512x256.size a ≤ S2x8192x256.size a) ∧
  (∀ (k0_h4 : k0_cond4 v1 v3 = 1#1), 512 ∣ (k0_mult3 v1).toNat) ∧
  (∀ (k0_h4 : k0_cond4 v1 v3 = 1#1), ∀ a, (k0_off4 v1) a + S2x512x256.size a ≤ S2x8192x256.size a)
theorem k0_mult1_dvd : ∀ (v1 : BitVec 32) (v3 : BitVec 32) (k0_hw1 : k0_chk1 v1 v3), ∀ (k0_h2 : k0_cond2 v1 v3 = 1#1), 512 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v1) a + S2x512x256.size a ≤ S2x8192x256.size a := fun v1 v3 k0_hw1 k0_h2 => k0_hw1.2.1 k0_h2
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v1) a + S2x512x256.size a ≤ S2x8192x256.size a := fun v1 v3 k0_hw1 k0_h3 => k0_hw1.2.2.2.1 k0_h3
theorem k0_mult3_dvd : ∀ (v1 : BitVec 32) (v3 : BitVec 32) (k0_hw1 : k0_chk1 v1 v3), ∀ (k0_h4 : k0_cond4 v1 v3 = 1#1), 512 ∣ (k0_mult3 v1).toNat := fun v1 v3 k0_hw1 k0_h4 => k0_hw1.2.2.2.2.1 k0_h4
theorem k0_off4_inb : ∀ (v1 : BitVec 32) (v3 : BitVec 32) (k0_hw1 : k0_chk1 v1 v3), ∀ (k0_h4 : k0_cond4 v1 v3 = 1#1), ∀ a, (k0_off4 v1) a + S2x512x256.size a ≤ S2x8192x256.size a := fun v1 v3 k0_hw1 k0_h4 => k0_hw1.2.2.2.2.2 k0_h4

def k0_cond5 (i : grid0.Coords) : BitVec 1 :=
  let arg1 : BitVec 32 := BitVec.ofNat 32 (i 1).val
  let c71_i32 : BitVec 32 := 71#32
  let v54 : BitVec 1 := Scalar.cmpi .eq arg1 c71_i32
  let v55 : BitVec 32 := Scalar.extui v54
  let c0_i32_18 : BitVec 32 := 0#32
  let v56 : BitVec 1 := Scalar.cmpi .ne v55 c0_i32_18
  v56

def k0_off5 (i : grid0.Coords) : Fin 3 → Nat :=
  let arg0 : BitVec 32 := BitVec.ofNat 32 (i 0).val
  let c2_i32_19 : BitVec 32 := 2#32
  let v57 : BitVec 32 := Scalar.muli arg0 c2_i32_19
  let c0_i32_20 : BitVec 32 := 0#32
  let c0_i32_21 : BitVec 32 := 0#32
  ![v57.toNat, 0, 0]
def cc0_transform_0 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "c2" => some (((Real.sqrt 192)⁻¹ * (Real.log 2)⁻¹ : ℝ) : EReal)
  | "scale" => some (((Real.sqrt 192)⁻¹ : ℝ) : EReal)
  | _ => none
-- ==== ReferenceIdeal.lean ====
abbrev S8x8192x192 : Shape := ⟨3, ![8, 8192, 192]⟩
abbrev S8x8192x128 : Shape := ⟨3, ![8, 8192, 128]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8x8192x256 : Shape := ⟨3, ![8, 8192, 256]⟩

abbrev nBuf : Space → Nat
  | .hbm => 95
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x128x8192, .f32⟩
  | .hbm, ⟨61, _⟩ => ⟨S8192x8x128, .f32⟩
  | .hbm, ⟨62, _⟩ => ⟨S8192x1024, .f32⟩
  | .hbm, ⟨63, _⟩ => ⟨S8192x8x128, .f32⟩
  | .hbm, ⟨64, _⟩ => ⟨S8x128x8192, .f32⟩
  | .hbm, ⟨65, _⟩ => ⟨S8x8192x8192, .f32⟩
  | .hbm, ⟨66, _⟩ => ⟨S8x128x8192, .f32⟩
  | .hbm, ⟨67, _⟩ => ⟨S8x8192x128, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S8x8192x192, .f32⟩
  | .hbm, ⟨88, _⟩ => ⟨S8x8192x192, .f32⟩
  | .hbm, ⟨89, _⟩ => ⟨S_, .i32⟩
  | .hbm, ⟨90, _⟩ => ⟨S_, .f32⟩
  | .hbm, ⟨91, _⟩ => ⟨S8x8192x256, .f32⟩
  | .hbm, ⟨92, _⟩ => ⟨S_, .i32⟩
  | .hbm, ⟨93, _⟩ => ⟨S_, .f32⟩
  | .hbm, ⟨94, _⟩ => ⟨S8x8192x256, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_call2_v0 : Ref sig .tc := ⟨.hbm, 90, rfl⟩
abbrev main_v64 : Ref sig .tc := ⟨.hbm, 91, rfl⟩
abbrev main_c_13 : Ref sig .tc := ⟨.hbm, 92, rfl⟩
abbrev main_call3_v0 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== Kernel2.lean ====
abbrev S8x8192x192 : Shape := ⟨3, ![8, 8192, 192]⟩
abbrev S8x8192x128 : Shape := ⟨3, ![8, 8192, 128]⟩
abbrev S72 : Shape := ⟨1, ![72]⟩
abbrev S_ : Shape := ⟨0, ![]⟩
abbrev S8x8192x256 : Shape := ⟨3, ![8, 8192, 256]⟩
abbrev S8192x1024 : Shape := ⟨2, ![8192, 1024]⟩
abbrev S8x8192x1 : Shape := ⟨3, ![8, 8192, 1]⟩
abbrev S4x512x256 : Shape := ⟨3, ![4, 512, 256]⟩
abbrev S1 : Shape := ⟨1, ![1]⟩
abbrev S4x1024x256 : Shape := ⟨3, ![4, 1024, 256]⟩
abbrev S4x1024x128 : Shape := ⟨3, ![4, 1024, 128]⟩
abbrev S512x512 : Shape := ⟨2, ![512, 512]⟩
abbrev S4x512x1 : Shape := ⟨3, ![4, 512, 1]⟩
abbrev S4x512x1024 : Shape := ⟨3, ![4, 512, 1024]⟩
abbrev S4x512 : Shape := ⟨2, ![4, 512]⟩
abbrev S4x512x512 : Shape := ⟨3, ![4, 512, 512]⟩
abbrev S1x512x512 : Shape := ⟨3, ![1, 512, 512]⟩
abbrev S4x512x128 : Shape := ⟨3, ![4, 512, 128]⟩
abbrev S512x1024 : Shape := ⟨2, ![512, 1024]⟩
abbrev S1x512x1024 : Shape := ⟨3, ![1, 512, 1024]⟩
abbrev S1x512x128 : Shape := ⟨3, ![1, 512, 128]⟩
abbrev S512x128 : Shape := ⟨2, ![512, 128]⟩

abbrev nBuf : Space → Nat
  | .hbm => 14
  | .vmem => 12
  | .smem => 2
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S_, .i32⟩
  | .hbm, ⟨4, _⟩ => ⟨S_, .f32⟩
  | .hbm, ⟨5, _⟩ => ⟨S8x8192x256, .f32⟩
  | .hbm, ⟨6, _⟩ => ⟨S8x8192x256, .bf16⟩
  | .hbm, ⟨7, _⟩ => ⟨S_, .i32⟩
  | .hbm, ⟨8, _⟩ => ⟨S_, .f32⟩
  | .hbm, ⟨9, _⟩ => ⟨S8x8192x256, .f32⟩
  | .hbm, ⟨10, _⟩ => ⟨S8x8192x256, .bf16⟩
  | .hbm, ⟨11, _⟩ => ⟨S8x8192x128, .bf16⟩
  | .hbm, ⟨12, _⟩ => ⟨S8192x1024, .f32⟩
  | .hbm, ⟨13, _⟩ => ⟨S8x8192x1, .f32⟩
  | .local _ .vmem, ⟨0, _⟩ => ⟨S4x512x256, .bf16⟩
  | .local _ .vmem, ⟨1, _⟩ => ⟨S4x512x256, .bf16⟩
  | .local _ .vmem, ⟨2, _⟩ => ⟨S4x1024x256, .bf16⟩
  | .local _ .vmem, ⟨3, _⟩ => ⟨S4x1024x256, .bf16⟩
  | .local _ .vmem, ⟨4, _⟩ => ⟨S4x1024x128, .bf16⟩
  | .local _ .vmem, ⟨5, _⟩ => ⟨S4x1024x128, .bf16⟩
  | .local _ .vmem, ⟨6, _⟩ => ⟨S512x512, .f32⟩
  | .local _ .vmem, ⟨7, _⟩ => ⟨S512x512, .f32⟩
  | .local _ .vmem, ⟨8, _⟩ => ⟨S4x512x1, .f32⟩
  | .local _ .vmem, ⟨9, _⟩ => ⟨S4x512x1, .f32⟩
  | .local _ .vmem, ⟨10, _⟩ => ⟨S4x512x1, .f32⟩
  | .local _ .vmem, ⟨11, _⟩ => ⟨S4x512x256, .f32⟩
  | .local _ .smem, ⟨0, _⟩ => ⟨S72, .i32⟩
  | .local _ .smem, ⟨1, _⟩ => ⟨S72, .i32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c_1 : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond5 (v1 : BitVec 32) (v3 : BitVec 32) : BitVec 1 :=
  let c0_i32 : BitVec 32 := 0#32
  let v5 : BitVec 1 := Scalar.cmpi .sgt v1 c0_i32
  let v6 : BitVec 32 := Scalar.extui v5
  let c0_i32_0 : BitVec 32 := 0#32
  let v7 : BitVec 1 := Scalar.cmpi .slt v1 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v1 c2_i32
  let c0_i32_3 : BitVec 32 := 0#32
  let v17 : BitVec 1 := Scalar.cmpi .ne v16 c0_i32_3
  let v18 : BitVec 1 := Scalar.andi v15 v17
  let v4 : BitVec 32 := Scalar.divsi v1 c2_i32
  let c1_i32 : BitVec 32 := 1#32
  let v19 : BitVec 32 := Scalar.subi v4 c1_i32
  let v20 : BitVec 32 := Scalar.select v18 v19 v4
  let v57 : BitVec 1 := Scalar.cmpi .eq v3 v20
  let v58 : BitVec 32 := Scalar.extui v57
  let c0_i32_23 : BitVec 32 := 0#32
  let v59 : BitVec 1 := Scalar.cmpi .ne v58 c0_i32_23
  v59

def cc0_transform_0 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S72) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "c2" => some (((Real.sqrt 192)⁻¹ * (Real.log 2)⁻¹ : ℝ) : EReal)
  | "log2e" => some (((Real.log 2)⁻¹ : ℝ) : EReal)
  | _ => none
-- ==== Reference2Ideal.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8192x1024 : Shape := ⟨2, ![8192, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8x8192x8192, .f32⟩
  | .hbm, ⟨4, _⟩ => ⟨S_, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x1, .f32⟩
  | .hbm, ⟨29, _⟩ => ⟨S8x8192x1, .f32⟩
  | .hbm, ⟨30, _⟩ => ⟨S8x8192x8192, .f32⟩
  | .hbm, ⟨31, _⟩ => ⟨S_, .f32⟩
  | .hbm, ⟨32, _⟩ => ⟨S_, .f32⟩
  | .hbm, ⟨33, _⟩ => ⟨S8x8192x8192, .f32⟩
  | .hbm, ⟨34, _⟩ => ⟨S8x8192x8192, .f32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S8x8192x8192, .i1⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192, .f32⟩
  | .hbm, ⟨48, _⟩ => ⟨S_, .f32⟩
  | .hbm, ⟨49, _⟩ => ⟨S8x8192, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x128x8192, .f32⟩
  | .hbm, ⟨61, _⟩ => ⟨S8192x8x128, .f32⟩
  | .hbm, ⟨62, _⟩ => ⟨S8192x1024, .f32⟩
  | .hbm, ⟨63, _⟩ => ⟨S_, .f32⟩
  | .hbm, ⟨64, _⟩ => ⟨S_, .f32⟩
  | .hbm, ⟨65, _⟩ => ⟨S8x8192x1, .f32⟩
  | .hbm, ⟨66, _⟩ => ⟨S8x8192x1, .f32⟩
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Proof.State.lean ====
/-
  What one step of the gradient kernel leaves in its buffers, as plain functions of the blocks it reads.
  A step takes a block of 512 queries `qi` and a block of 1024 keys `kj` with `qi / 2 ≥ kj`. It adds to rows
  `512 qi … 512 qi + 511` of the scratch array of query gradients, and writes or adds to the blocks of the
  key and value gradients. Three kinds of step: `A` (the first query block that meets the key block: its
  upper half only, stored), `B` (the second: masked, added), `C` (all later ones: no mask, added).
-/
module

public import proofs.«01_k».proof.Proof.Gen.KernelIdeal.Skeleton
public import Idealize.ShloMosaic.Lib.VecWindow

@[expose] public section

noncomputable section

namespace Cert.Proof.Flash

open Cert.KernelIdeal Cert.KernelIdeal.Gen
open Idealize.ShloMosaic Idealize.ShloMosaic.VecWindow

variable {F : FTy → Type} [FloatOps F] [Named F]

/-- The blocks one step reads: queries, keys, values, the output's gradient (two heads side by side), the
    rows' logarithms of sums and the rows' corrections. -/
structure Ins (F : FTy → Type) where
  q : Vec F S2x512x256 .bf16
  k : Vec F S2x1024x256 .bf16
  v : Vec F S2x1024x128 .bf16
  g : Vec F S512x256 .f32
  lse : Vec F S2x1x512 .f32
  dl : Vec F S2x1x512 .f32

/-- What a step carries on: the scratch array of query gradients, the key gradient's block, the value gradient's. -/
structure St (F : FTy → Type) where
  dq : Vec F S2x8192x256 .f32
  dk : Vec F S2x1024x256 .f32
  dv : Vec F S2x1024x128 .f32

/-- Where query block `qi` begins in the scratch array. -/
abbrev offq (qi : Fin 16) : Fin 3 → ℕ := ![0, qi.val * 512, 0]

theorem offq_inb (qi : Fin 16) : ∀ a, offq qi a + S2x512x256.size a ≤ S2x8192x256.size a := by
  intro a
  have := qi.isLt
  fin_cases a
  · show 0 + 2 ≤ 2; omega
  · show qi.val * 512 + 512 ≤ 8192; omega
  · show 0 + 256 ≤ 256; omega

/-- Query block `qi`'s rows of the scratch array, -/
def rows (S : Vec F S2x8192x256 .f32) (qi : Fin 16) : Vec F S2x512x256 .f32 := window S (offq qi) S2x512x256.size (offq_inb qi)
/-- and the scratch array with those rows replaced. -/
def setRows (S : Vec F S2x8192x256 .f32) (qi : Fin 16) (w : Vec F S2x512x256 .f32) : Vec F S2x8192x256 .f32 := put S (offq qi) S2x512x256.size w

/-- The two heads of the output's gradient block. -/
def head0 (g : Vec F S512x256 .f32) : Vec F S512x128 .f32 := window g ![0, 0] S512x128.size inb_S512x256_S512x128_0_0
def head1 (g : Vec F S512x256 .f32) : Vec F S512x128 .f32 := window g ![0, 128] S512x128.size inb_S512x256_S512x128_0_128

/-- The upper half of a block of keys, and of values. -/
def upK (k : Vec F S2x1024x256 .bf16) : Vec F S2x512x256 .bf16 := window k ![0, 0, 0] S2x512x256.size inb_S2x1024x256_S2x512x256_0_0_0
def upV (v : Vec F S2x1024x128 .bf16) : Vec F S2x512x128 .bf16 := window v ![0, 0, 0] S2x512x128.size inb_S2x1024x128_S2x512x128_0_0_0

/-- Two halves of 512 rows put together. -/
def halvesK (a b : Vec F S2x512x256 .f32) : Vec F S2x1024x256 .f32 :=
  put (put (fun _ => Scalar.ofBits .f32 0x00000000#32) ![0, 0, 0] S2x512x256.size a) ![0, 512, 0] S2x512x256.size b
def halvesV (a b : Vec F S2x512x128 .f32) : Vec F S2x1024x128 .f32 :=
  put (put (fun _ => Scalar.ofBits .f32 0x00000000#32) ![0, 0, 0] S2x512x128.size a) ![0, 512, 0] S2x512x128.size b

/-- A step of kind `A`: the two halves of the key block are the diagonal block and zeros. -/
def stepA (w : BitVec 32) (qi : Fin 16) (x : Ins F) (S : Vec F S2x8192x256 .f32) : St F :=
  let d := k0_pay6 (head0 x.g) (head1 x.g)
  let p := k0_pay7 w x.q (upK x.k) x.lse
  { dq := setRows S qi (k0_pay11 (k0_pay5 (upK x.k)) d p (upV x.v) x.dl (rows S qi))
    dk := halvesK (k0_pay10 (k0_pay4 x.q) d p (upV x.v) x.dl) k0_pay12
    dv := halvesV (k0_pay8 d p) k0_pay30 }

/-- A step of kind `B`. -/
def stepB (w : BitVec 32) (qi : Fin 16) (x : Ins F) (s : St F) : St F :=
  let d := k0_pay15 (head0 x.g) (head1 x.g)
  let p := k0_pay16 w x.q x.k x.lse
  { dq := setRows s.dq qi (k0_pay19 (k0_pay14 x.k) d p x.v x.dl (rows s.dq qi))
    dk := k0_pay20 (k0_pay13 x.q) d p x.v x.dl s.dk
    dv := k0_pay31 (k0_pay17 d p) (k0_pay21 s.dv) }

/-- A step of kind `C`. -/
def stepC (qi : Fin 16) (x : Ins F) (s : St F) : St F :=
  { dq := setRows s.dq qi (k0_pay1 (k0_pay23 x.k) (k0_pay27 x.q x.k (head0 x.g) (head1 x.g) x.lse x.v x.dl) (rows s.dq qi))
    dk := k0_pay2 (k0_pay28 x.q x.k (head0 x.g) (head1 x.g) x.lse x.v x.dl) s.dk
    dv := k0_pay3 (k0_pay26 x.q x.k (head0 x.g) (head1 x.g) x.lse) s.dv }

/-- Halves put over anything are the halves put together: they cover the block. -/
theorem put_halvesK (X : Vec F S2x1024x256 .f32) (a b : Vec F S2x512x256 .f32) :
    put (put X ![0, 0, 0] S2x512x256.size a) ![0, 512, 0] S2x512x256.size b = halvesK a b := by
  funext y
  unfold halvesK put
  by_cases h : ∀ i, (![0, 512, 0] : Fin 3 → ℕ) i ≤ (y i).val ∧ (y i).val < (![0, 512, 0] : Fin 3 → ℕ) i + S2x512x256.size i
  · rw [dif_pos h, dif_pos h]
  rw [dif_neg h, dif_neg h, dif_pos ?_, dif_pos]
  all_goals
    intro i
    have h0 : (y 0).val < 2 := (y 0).isLt
    have h1 : (y 1).val < 1024 := (y 1).isLt
    have h2 : (y 2).val < 256 := (y 2).isLt
    have : (y 1).val < 512 := by
      by_contra hn
      exact h fun i => by
        fin_cases i
        · show 0 ≤ (y 0).val ∧ (y 0).val < 0 + 2; omega
        · show 512 ≤ (y 1).val ∧ (y 1).val < 512 + 512; omega
        · show 0 ≤ (y 2).val ∧ (y 2).val < 0 + 256; omega
    fin_cases i
    · show 0 ≤ (y 0).val ∧ (y 0).val < 0 + 2; omega
    · show 0 ≤ (y 1).val ∧ (y 1).val < 0 + 512; omega
    · show 0 ≤ (y 2).val ∧ (y 2).val < 0 + 256; omega

theorem put_halvesV (X : Vec F S2x1024x128 .f32) (a b : Vec F S2x512x128 .f32) :
    put (put X ![0, 0, 0] S2x512x128.size a) ![0, 512, 0] S2x512x128.size b = halvesV a b := by
  funext y
  unfold halvesV put
  by_cases h : ∀ i, (![0, 512, 0] : Fin 3 → ℕ) i ≤ (y i).val ∧ (y i).val < (![0, 512, 0] : Fin 3 → ℕ) i + S2x512x128.size i
  · rw [dif_pos h, dif_pos h]
  rw [dif_neg h, dif_neg h, dif_pos ?_, dif_pos]
  all_goals
    intro i
    have h0 : (y 0).val < 2 := (y 0).isLt
    have h1 : (y 1).val < 1024 := (y 1).isLt
    have h2 : (y 2).val < 128 := (y 2).isLt
    have : (y 1).val < 512 := by
      by_contra hn
      exact h fun i => by
        fin_cases i
        · show 0 ≤ (y 0).val ∧ (y 0).val < 0 + 2; omega
        · show 512 ≤ (y 1).val ∧ (y 1).val < 512 + 512; omega
        · show 0 ≤ (y 2).val ∧ (y 2).val < 0 + 128; omega
    fin_cases i
    · show 0 ≤ (y 0).val ∧ (y 0).val < 0 + 2; omega
    · show 0 ≤ (y 1).val ∧ (y 1).val < 0 + 512; omega
    · show 0 ≤ (y 2).val ∧ (y 2).val < 0 + 128; omega

end Cert.Proof.Flash

end
end
-- ==== Proof.Held.lean ====
/-
  What a step of the gradient kernel holds: the two tables of steps, the staged blocks, the blocks and the
  scratch array that it carries on.
-/
module

public import proofs.«01_k».proof.Proof.State
public import proofs.«01_k».proof.Proof.Gen.KernelIdeal.Launch
public import Idealize.ShloMosaic.Lib.Tactic
public import Idealize.ShloMosaic.Lib.Pipeline.Kit

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters

local notation "𝕄" => MT nD τ sig Unit (Elt F) ℕ (UU nD τ) ℕ

/-- The one place of a single-element shape. -/
abbrev only : S1.Idx := Shape.Idx.first (s := S1) (numel1_S1.symm ▸ Nat.one_pos)

/-- The word of a table that the step at `i` reads. -/
abbrev wordAt (i : grid0.Coords) (b : Memref sig .tc .smem S72 .i32) (T : b.view.ty.Contents (Elt F)) : BitVec 32 :=
  ((b.access (Rect.unit (s := S72) (k0_off1 i) S1.size (k0_off1_inb i)) : View sig .tc _ _ _).read (Elt F) T) only

abbrev T0 : Memref sig .tc .smem S72 .i32 := Memref.whole main_c
abbrev T1 : Memref sig .tc .smem S72 .i32 := Memref.whole main_c_0

/-- The blocks of a step, held. -/
abbrev insHeld (c : Dev nD) (M4 : Memref sig .tc .vmem S2x512x256 .bf16) (M5 : Memref sig .tc .vmem S2x1024x256 .bf16)
    (M6 : Memref sig .tc .vmem S2x1024x128 .bf16) (M7 : Memref sig .tc .vmem S512x256 .f32) (M8 M9 : Memref sig .tc .vmem S2x1x512 .f32) (x : Ins F) : sProp 𝕄 :=
  iprop(owns (c : Thread nD τ) M4 fullShare x.q ∗ owns (c : Thread nD τ) M5 fullShare x.k ∗ owns (c : Thread nD τ) M6 fullShare x.v
    ∗ owns (c : Thread nD τ) M7 fullShare x.g ∗ owns (c : Thread nD τ) M8 fullShare x.lse ∗ owns (c : Thread nD τ) M9 fullShare x.dl)

abbrev stHeld (c : Dev nD) (M13 : Memref sig .tc .vmem S2x8192x256 .f32) (M11 : Memref sig .tc .vmem S2x1024x256 .f32) (M12 : Memref sig .tc .vmem S2x1024x128 .f32) (s : St F) : sProp 𝕄 :=
  iprop(owns (c : Thread nD τ) M13 fullShare s.dq ∗ owns (c : Thread nD τ) M11 fullShare s.dk ∗ owns (c : Thread nD τ) M12 fullShare s.dv)

/-- The two tables, held whole. -/
abbrev tbl (c : Dev nD) (t0 : (T0).view.ty.Contents (Elt F)) (t1 : (T1).view.ty.Contents (Elt F)) : sProp 𝕄 :=
  iprop(((T0).view.loc (c : Thread nD τ) ↦{fullShare} t0) ∗ ((T1).view.loc (c : Thread nD τ) ↦{fullShare} t1))

/-- The condition under which the step clears the scratch array: its second coordinate is zero. -/
abbrev first (i : grid0.Coords) : Prop := Scalar.cmpi .ne (Scalar.extui (Scalar.cmpi .eq (BitVec.ofNat 32 (i 1).val) 0#32) : BitVec 32) 0#32 = 1#1

end Cert.Proof.Flash

end
end
-- ==== Proof.Tables.lean ====
/-
  The two tables of steps: which block of queries and which block of keys each of the 72 steps of a row works on.
-/
module

public import proofs.«01_k».proof.Proof.Held
public import proofs.«01_k».proof.Proof.Gen.KernelIdeal.Launch

@[expose] public section

noncomputable section

namespace Cert.Proof.Flash

open Cert.KernelIdeal Cert.KernelIdeal.Gen

open Idealize.ShloMosaic
open Idealize.ShloMosaic.TcCoe

variable {F : FTy → Type} [FloatOps F] [Named F]

/-- The block of queries, and the block of keys, of step `s`. -/
def qiAt (s : Fin 72) : Fin 16 := ⟨(lit0 s).toNat, (by decide : ∀ s : Fin 72, (lit0 s).toNat < 16) s⟩
def kjAt (s : Fin 72) : Fin 8 := ⟨(lit1 s).toNat, (by decide : ∀ s : Fin 72, (lit1 s).toNat < 8) s⟩

/-- The step of a grid point. -/
abbrev stepOf (i : grid0.Coords) : Fin 72 := i 1

set_option backward.proofsInPublic true in
/-- The tables' contents. -/
def tabs : pre0.Contents (Elt F) := fun
  | ⟨0, _⟩ => fun i => lit0 (S72.rowMajor i)
  | ⟨1, _⟩ => fun i => lit1 (S72.rowMajor i)
  | ⟨_ + 2, h⟩ => absurd h (by simp)

theorem rowMajor72 (x : S72.Idx) : (S72.rowMajor x).val = (x 0).val := by
  show (Shape.rowMajorPi _ x).val = _
  rw [Shape.rowMajorPi_succ_val]
  simp [Shape.rowMajorPi, Shape.rankPi]

theorem k0_off1_eq (i : grid0.Coords) : k0_off1 i 0 = (i 1).val := by
  have h : (i 1).val < 72 := (i 1).isLt
  show (BitVec.ofNat 32 (i 1).val).toNat = _
  rw [BitVec.toNat_ofNat, Nat.mod_eq_of_lt (by omega)]

theorem atD0 (i : grid0.Coords) : (tabs (F := F)).atD 0 (k0_off1 i) = lit0 (stepOf i) := by
  unfold Pipeline.Prefetch.Contents.atD
  rw [dif_pos (fun a => by fin_cases a; exact k0_off1_inb i 0)]
  show lit0 _ = _
  congr 1
  apply Fin.ext
  exact (rowMajor72 _).trans (k0_off1_eq i)

theorem atD1 (i : grid0.Coords) : (tabs (F := F)).atD 1 (k0_off1 i) = lit1 (stepOf i) := by
  unfold Pipeline.Prefetch.Contents.atD
  rw [dif_pos (fun a => by fin_cases a; exact k0_off1_inb i 0)]
  show lit1 _ = _
  congr 1
  apply Fin.ext
  exact (rowMajor72 _).trans (k0_off1_eq i)

/-- The words that the step at `i` loads. -/
theorem word0 (i : grid0.Coords) : wordAt (F := F) i T0 (fun i => lit0 (S72.rowMajor i)) = lit0 (stepOf i) := by
  show lit0 _ = _
  congr 1
  apply Fin.ext
  refine (rowMajor72 _).trans ?_
  exact (k0_off1_eq i)

theorem word1 (i : grid0.Coords) : wordAt (F := F) i T1 (fun i => lit1 (S72.rowMajor i)) = lit1 (stepOf i) := by
  show lit1 _ = _
  congr 1
  apply Fin.ext
  refine (rowMajor72 _).trans ?_
  exact (k0_off1_eq i)

/-! ## The kinds of the steps -/

def kindA (s : Fin 72) : Prop := (qiAt s).val = 2 * (kjAt s).val
def kindB (s : Fin 72) : Prop := (qiAt s).val = 2 * (kjAt s).val + 1
def kindC (s : Fin 72) : Prop := 2 * (kjAt s).val + 1 < (qiAt s).val
instance (s : Fin 72) : Decidable (kindA s) := by unfold kindA; infer_instance
instance (s : Fin 72) : Decidable (kindB s) := by unfold kindB; infer_instance
instance (s : Fin 72) : Decidable (kindC s) := by unfold kindC; infer_instance

theorem kinds (s : Fin 72) : kindA s ∨ kindB s ∨ kindC s := by revert s; decide
theorem condA : ∀ s : Fin 72, k0_cond2 (lit0 s) (lit1 s) = 1#1 ↔ kindA s := by decide
theorem condB : ∀ s : Fin 72, k0_cond3 (lit0 s) (lit1 s) = 1#1 ↔ kindB s := by decide
theorem condC : ∀ s : Fin 72, k0_cond4 (lit0 s) (lit1 s) = 1#1 ↔ kindC s := by decide
theorem chk (s : Fin 72) : k0_chk1 (lit0 s) (lit1 s) := by
  revert s
  unfold k0_chk1
  decide
theorem off2_eq (s : Fin 72) : k0_off2 (lit0 s) = offq (qiAt s) := by revert s; decide
theorem off3_eq (s : Fin 72) : k0_off3 (lit0 s) = offq (qiAt s) := by revert s; decide
theorem off4_eq (s : Fin 72) : k0_off4 (lit0 s) = offq (qiAt s) := by revert s; decide
theorem first_iff (i : grid0.Coords) : first i ↔ stepOf i = 0 := by
  have : ∀ s : Fin 72, (Scalar.cmpi .ne (Scalar.extui (Scalar.cmpi .eq (BitVec.ofNat 32 s.val) 0#32) : BitVec 32) 0#32 = 1#1) ↔ s = 0 := by decide
  exact this (i 1)
theorem last_iff (i : grid0.Coords) : k0_cond5 i = 1#1 ↔ stepOf i = 71 := by
  have : ∀ s : Fin 72, (Scalar.cmpi .ne (Scalar.extui (Scalar.cmpi .eq (BitVec.ofNat 32 s.val) 71#32) : BitVec 32) 0#32 = 1#1) ↔ s = 71 := by decide
  exact this (i 1)

/-! ## The blocks' indices -/

theorem wwQ : ∀ (g : Fin 4) (q : Fin 16), S8x8192x256.WholeWordsAt 2 (fun a => (![g.val, q.val, 0] : Fin 3 → ℕ) a * S2x512x256.size a) S2x512x256.size (fun _ => 1) := by decide
theorem wwK : ∀ (g : Fin 4) (k : Fin 8), S8x8192x256.WholeWordsAt 2 (fun a => (![g.val, k.val, 0] : Fin 3 → ℕ) a * S2x1024x256.size a) S2x1024x256.size (fun _ => 1) := by decide
theorem wwV : ∀ (g : Fin 4) (k : Fin 8), S8x8192x128.WholeWordsAt 2 (fun a => (![g.val, k.val, 0] : Fin 3 → ℕ) a * S2x1024x128.size a) S2x1024x128.size (fun _ => 1) := by decide

theorem grp_eq (i : grid0.Coords) : (BitVec.ofNat 32 (i 0).val).toNat = (i 0).val := by
  have h : (i 0).val < 4 := (i 0).isLt
  rw [BitVec.toNat_ofNat, Nat.mod_eq_of_lt (by omega)]

theorem at0 (i : grid0.Coords) : (tabs (F := F)).at 0 (Rect.unit (s := S72) (k0_off1 i) S1.size (k0_off1_inb i)) numel1_S1 = lit0 (stepOf i) := by
  show lit0 _ = _
  congr 1
  apply Fin.ext
  exact (rowMajor72 _).trans (k0_off1_eq i)

theorem at1 (i : grid0.Coords) : (tabs (F := F)).at 1 (Rect.unit (s := S72) (k0_off1 i) S1.size (k0_off1_inb i)) numel1_S1 = lit1 (stepOf i) := by
  show lit1 _ = _
  congr 1
  apply Fin.ext
  exact (rowMajor72 _).trans (k0_off1_eq i)

theorem at0n (i : grid0.Coords) : ((tabs (F := F)).at 0 (Rect.unit (s := S72) (k0_off1 i) S1.size (k0_off1_inb i)) numel1_S1 : BitVec 32).toNat = (qiAt (stepOf i)).val := by
  have h : (qiAt (stepOf i)).val = (lit0 (stepOf i)).toNat := rfl
  rw [h, at0 i]

theorem at1n (i : grid0.Coords) : ((tabs (F := F)).at 1 (Rect.unit (s := S72) (k0_off1 i) S1.size (k0_off1_inb i)) numel1_S1 : BitVec 32).toNat = (kjAt (stepOf i)).val := by
  have h : (kjAt (stepOf i)).val = (lit1 (stepOf i)).toNat := rfl
  rw [h, at1 i]

section
variable (i : grid0.Coords)

theorem three {a b c a' b' c' : ℕ} (ha : a = a') (hb : b = b') (hc : c = c') : (![a, b, c] : Fin 3 → ℕ) = ![a', b', c'] := by
  rw [ha, hb, hc]
theorem two {a b a' b' : ℕ} (ha : a = a') (hb : b = b') : (![a, b] : Fin 2 → ℕ) = ![a', b'] := by
  rw [ha, hb]

theorem tf0 : cc0_transform_0 k0_off1_inb numel1_S1 (tabs (F := F)) i = ![(i 0).val, (qiAt (stepOf i)).val, 0] :=
  three (grp_eq i) (at0n i) rfl
theorem tf1 : cc0_transform_1 k0_off1_inb numel1_S1 (tabs (F := F)) i = ![(i 0).val, (kjAt (stepOf i)).val, 0] :=
  three (grp_eq i) (at1n i) rfl
theorem tf2 : cc0_transform_2 k0_off1_inb numel1_S1 (tabs (F := F)) i = ![(i 0).val, (kjAt (stepOf i)).val, 0] :=
  three (grp_eq i) (at1n i) rfl
theorem tf3 : cc0_transform_3 k0_off1_inb numel1_S1 (tabs (F := F)) i = ![(qiAt (stepOf i)).val, (i 0).val] :=
  two (at0n i) (grp_eq i)
theorem tf4 : cc0_transform_4 k0_off1_inb numel1_S1 (tabs (F := F)) i = ![(i 0).val, 0, (qiAt (stepOf i)).val] :=
  three (grp_eq i) rfl (at0n i)
theorem tf5 : cc0_transform_5 k0_off1_inb numel1_S1 (tabs (F := F)) i = ![(i 0).val, 0, (qiAt (stepOf i)).val] :=
  three (grp_eq i) rfl (at0n i)
theorem tf7 : cc0_transform_7 k0_off1_inb numel1_S1 (tabs (F := F)) i = ![(i 0).val, (kjAt (stepOf i)).val, 0] :=
  three (grp_eq i) (at1n i) rfl
theorem tf8 : cc0_transform_8 k0_off1_inb numel1_S1 (tabs (F := F)) i = ![(i 0).val, (kjAt (stepOf i)).val, 0] :=
  three (grp_eq i) (at1n i) rfl

end

theorem ib3 {S : Fin 3 → ℕ} {B : Fin 3 → ℕ} {a b c : ℕ} (ha : (a + 1) * B 0 ≤ S 0) (hb : (b + 1) * B 1 ≤ S 1) (hc : (c + 1) * B 2 ≤ S 2) :
    ∀ d, ((![a, b, c] : Fin 3 → ℕ) d + 1) * B d ≤ S d := fun
  | 0 => ha
  | 1 => hb
  | 2 => hc
theorem ib2 {S : Fin 2 → ℕ} {B : Fin 2 → ℕ} {a b : ℕ} (ha : (a + 1) * B 0 ≤ S 0) (hb : (b + 1) * B 1 ≤ S 1) :
    ∀ d, ((![a, b] : Fin 2 → ℕ) d + 1) * B d ≤ S d := fun
  | 0 => ha
  | 1 => hb

theorem g4 (i : grid0.Coords) : (i 0).val < 4 := (i 0).isLt

theorem inb0' (i : grid0.Coords) : ∀ d, ((![(i 0).val, (qiAt (stepOf i)).val, 0] : Fin 3 → ℕ) d + 1) * S2x512x256.size d ≤ S8x8192x256.size d := by
  have h := g4 i
  have h' := (qiAt (stepOf i)).isLt
  exact ib3 (show _ * 2 ≤ 8 by omega) (show _ * 512 ≤ 8192 by omega) (show (0 + 1) * 256 ≤ 256 by omega)
theorem inb1' (i : grid0.Coords) : ∀ d, ((![(i 0).val, (kjAt (stepOf i)).val, 0] : Fin 3 → ℕ) d + 1) * S2x1024x256.size d ≤ S8x8192x256.size d := by
  have h := g4 i
  have h' := (kjAt (stepOf i)).isLt
  exact ib3 (show _ * 2 ≤ 8 by omega) (show _ * 1024 ≤ 8192 by omega) (show (0 + 1) * 256 ≤ 256 by omega)
theorem inb2' (i : grid0.Coords) : ∀ d, ((![(i 0).val, (kjAt (stepOf i)).val, 0] : Fin 3 → ℕ) d + 1) * S2x1024x128.size d ≤ S8x8192x128.size d := by
  have h := g4 i
  have h' := (kjAt (stepOf i)).isLt
  exact ib3 (show _ * 2 ≤ 8 by omega) (show _ * 1024 ≤ 8192 by omega) (show (0 + 1) * 128 ≤ 128 by omega)
theorem inb3' (i : grid0.Coords) : ∀ d, ((![(qiAt (stepOf i)).val, (i 0).val] : Fin 2 → ℕ) d + 1) * S512x256.size d ≤ S8192x1024.size d := by
  have h := g4 i
  have h' := (qiAt (stepOf i)).isLt
  exact ib2 (show _ * 512 ≤ 8192 by omega) (show _ * 256 ≤ 1024 by omega)
theorem inb4' (i : grid0.Coords) : ∀ d, ((![(i 0).val, 0, (qiAt (stepOf i)).val] : Fin 3 → ℕ) d + 1) * S2x1x512.size d ≤ S8x1x8192.size d := by
  have h := g4 i
  have h' := (qiAt (stepOf i)).isLt
  exact ib3 (show _ * 2 ≤ 8 by omega) (show (0 + 1) * 1 ≤ 1 by omega) (show _ * 512 ≤ 8192 by omega)

/-- The tables are admissible. -/
theorem ok_tabs : ok0 (F := F) tabs := by
  unfold ok0
  refine ⟨fun i => ?_, fun i => ?_, fun i => ?_, fun i => ?_, fun i => ?_, fun i => ?_, fun i => ?_, fun i => ?_⟩
  · rw [tf0]
    exact ⟨inb0' i, .inr ((Rect.wholeWords_iff_at _ _).2 (wwQ ⟨_, g4 i⟩ (qiAt (stepOf i))))⟩
  · rw [tf1]
    exact ⟨inb1' i, .inr ((Rect.wholeWords_iff_at _ _).2 (wwK ⟨_, g4 i⟩ (kjAt (stepOf i))))⟩
  · rw [tf2]
    exact ⟨inb2' i, .inr ((Rect.wholeWords_iff_at _ _).2 (wwV ⟨_, g4 i⟩ (kjAt (stepOf i))))⟩
  · rw [tf3]
    exact ⟨inb3' i, .inl rfl⟩
  · rw [tf4]
    exact ⟨inb4' i, .inl rfl⟩
  · rw [tf5]
    exact ⟨inb4' i, .inl rfl⟩
  · rw [tf7]
    exact ⟨inb1' i, .inl rfl⟩
  · rw [tf8]
    exact ⟨inb2' i, .inl rfl⟩

def adm : (pcfg0 (F := F)).Adm := ⟨tabs, ok_tabs⟩
abbrev cfgA : Pipeline.Cfg sig Λ₀ := cfg0 (F := F) adm
abbrev pcs : Fin 1 → Pipeline.Cfg sig Λ₀ := Pipeline.pin (pcfgs (F := F)) fun _ => adm

theorem idle_false (w : Fin 8) (i : grid0.Coords) : (cfgA (F := F)).idle w i = false := by
  have key : ∀ s : Fin 72, (!(k0_cond2 (lit0 s) (lit1 s) == 1#1) && !(k0_cond3 (lit0 s) (lit1 s) == 1#1) && !(k0_cond4 (lit0 s) (lit1 s) == 1#1)) = false := by decide
  have h : ∀ a b : BitVec 32, a = lit0 (stepOf i) → b = lit1 (stepOf i) →
      (!(k0_cond2 a b == 1#1) && !(k0_cond3 a b == 1#1) && !(k0_cond4 a b == 1#1)) = false := by
    rintro _ _ rfl rfl
    exact key (stepOf i)
  fin_cases w <;> first | rfl | exact h _ _ (atD0 i) (atD1 i)

end Cert.Proof.Flash

end
end
-- ==== Proof.BodyA.lean ====
module

public import proofs.«01_k».proof.Proof.Held

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 2000000 in
/-- A step of kind `A` after the first of its row. -/
theorem runA (c : Dev nD) (i : grid0.Coords) (M4 : Memref sig .tc .vmem S2x512x256 .bf16) (h4 : M4.IsWhole) (M5 : Memref sig .tc .vmem S2x1024x256 .bf16) (h5 : M5.IsWhole)
    (M6 : Memref sig .tc .vmem S2x1024x128 .bf16) (h6 : M6.IsWhole) (M7 : Memref sig .tc .vmem S512x256 .f32) (h7 : M7.IsWhole)
    (M8 : Memref sig .tc .vmem S2x1x512 .f32) (h8 : M8.IsWhole) (M9 : Memref sig .tc .vmem S2x1x512 .f32) (h9 : M9.IsWhole)
    (M10 : Memref sig .tc .hbm S8x8192x256 .f32) (h10 : M10.IsWhole) (M11 : Memref sig .tc .vmem S2x1024x256 .f32) (h11 : M11.IsWhole) (M12 : Memref sig .tc .vmem S2x1024x128 .f32) (h12 : M12.IsWhole) (M13 : Memref sig .tc .vmem S2x8192x256 .f32) (h13 : M13.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (qi : Fin 16) (hoff : k0_off2 w1 = offq qi) (x : Ins F) (s : St F)
    (hchk : k0_chk1 w1 w3) (c1 : ¬ first i) (c2 : k0_cond2 w1 w3 = 1#1) (c3 : ¬ k0_cond3 w1 w3 = 1#1) (c4 : ¬ k0_cond4 w1 w3 = 1#1) (c5 : ¬ k0_cond5 i = 1#1)
    (Q : PUnit → sProp 𝕄) :
    iprop(tbl c t0 t1 ∗ insHeld c M4 M5 M6 M7 M8 M9 x ∗ stHeld c M13 M11 M12 s
      ∗ (iprop(tbl c t0 t1 ∗ insHeld c M4 M5 M6 M7 M8 M9 x ∗ stHeld c M13 M11 M12 (stepA w1 qi x s.dq)) -∗ Q ⟨⟩))
    ⊢ wp frame (wpE (defs₀ (F := F)) Variants.none c none) Set.univ
        (cc0_flash_bwd i T0 (Memref.isWhole_whole _) T1 (Memref.isWhole_whole _) M4 h4 M5 h5 M6 h6 M7 h7 M8 h8 M9 h9
          M10 h10 M11 h11 M12 h12 M13 h13 cc0_scratch1) Q := by
  obtain ⟨q, k, v, g, lse, dl⟩ := x
  obtain ⟨dq, dk, dv⟩ := s
  unfold insHeld stHeld
  unfold owns
  iintro ⟨⟨Ht0, Ht1⟩, ⟨⟨%f4, %e4, H4⟩, ⟨%f5, %e5, H5⟩, ⟨%f6, %e6, H6⟩, ⟨%f7, %e7, H7⟩, ⟨%f8, %e8, H8⟩, ⟨%f9, %e9, H9⟩⟩, ⟨⟨%f13, %e13, H13⟩, ⟨%f11, %e11, H11⟩, ⟨%f12, %e12, H12⟩⟩, Hk⟩
  dsimp only at e4 e5 e6 e7 e8 e9 e11 e12 e13
  subst e4 e5 e6 e7 e8 e9 e11 e12 e13
  rw [cc0_flash_bwd_eq_skeleton]
  unfold cc0_flash_bwd_skel
  rw [k0_part6_eq_skeleton]
  unfold k0_part6_skel smemLoad smemLoadElt
  rw [k0_part1_eq_skeleton, k0_part2_eq_skeleton]
  unfold k0_part1_skel k0_part2_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S2x512x256) ![0, 0, 0] ![2, 512, 256] inb_S2x512x256_S2x512x256_0_0_0).toLoadRect f4 = M4.view.read (Elt F) f4 := View.readAt_full _ _ _
  have E8 : View.readAt (Elt F) M8.view (Rect.unit (s := S2x1x512) ![0, 0, 0] ![2, 1, 512] inb_S2x1x512_S2x1x512_0_0_0).toLoadRect f8 = M8.view.read (Elt F) f8 := View.readAt_full _ _ _
  have E9 : View.readAt (Elt F) M9.view (Rect.unit (s := S2x1x512) ![0, 0, 0] ![2, 1, 512] inb_S2x1x512_S2x1x512_0_0_0).toLoadRect f9 = M9.view.read (Elt F) f9 := View.readAt_full _ _ _
  have E13 : View.readAt (Elt F) M13.view (Rect.unit (s := S2x8192x256) (k0_off2 w1) ![2, 512, 256] (k0_off2_inb w1 w3 hchk c2)).toLoadRect f13 = rows (M13.view.read (Elt F) f13) qi := View.readAt_unit _ _ _ hoff _
  sl_step
  iapply Hk
  isplitl [Ht0 Ht1]
  · isplitl [Ht0]; · iexact Ht0
    iexact Ht1
  isplitl [H4 H5 H6 H7 H8 H9]
  · isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    iexists f9; isplitr; · ipureintro; rfl
    iexact H9
  isplitl [H13]
  · iexists _; isplitr; swap; · iexact H13
    ipureintro
    rw [View.read_writes_cons_put _ _ _ _ _ hoff]
    unfold runA.sl.v113
    simp only [E4, E8, E9, E13]
    rfl
  isplitl [H11]
  · iexists _; isplitr; swap; · iexact H11
    ipureintro
    refine (View.read_writes_cons_put _ _ _ _ _ rfl).trans ?_
    rw [View.read_writes_cons_put _ _ _ _ _ rfl]
    refine (put_halvesK _ _ _).trans ?_
    simp only [E4, E8, E9]
    rfl
  iexists _; isplitr; swap; · iexact H12
  ipureintro
  refine (View.read_writes_cons_put _ _ _ _ _ rfl).trans ?_
  rw [View.read_writes_cons_put _ _ _ _ _ rfl]
  refine (put_halvesV _ _ _).trans ?_
  simp only [E4, E8, E9]
  rfl

end Cert.Proof.Flash

end
end
-- ==== Proof.BodyA0.lean ====
module

public import proofs.«01_k».proof.Proof.Held

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 2000000 in
/-- The first step of a row, of kind `A`: the scratch array is cleared first. -/
theorem runA0 (c : Dev nD) (i : grid0.Coords) (M4 : Memref sig .tc .vmem S2x512x256 .bf16) (h4 : M4.IsWhole) (M5 : Memref sig .tc .vmem S2x1024x256 .bf16) (h5 : M5.IsWhole)
    (M6 : Memref sig .tc .vmem S2x1024x128 .bf16) (h6 : M6.IsWhole) (M7 : Memref sig .tc .vmem S512x256 .f32) (h7 : M7.IsWhole)
    (M8 : Memref sig .tc .vmem S2x1x512 .f32) (h8 : M8.IsWhole) (M9 : Memref sig .tc .vmem S2x1x512 .f32) (h9 : M9.IsWhole)
    (M10 : Memref sig .tc .hbm S8x8192x256 .f32) (h10 : M10.IsWhole) (M11 : Memref sig .tc .vmem S2x1024x256 .f32) (h11 : M11.IsWhole) (M12 : Memref sig .tc .vmem S2x1024x128 .f32) (h12 : M12.IsWhole) (M13 : Memref sig .tc .vmem S2x8192x256 .f32) (h13 : M13.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (qi : Fin 16) (hoff : k0_off2 w1 = offq qi) (x : Ins F) (s : St F)
    (hchk : k0_chk1 w1 w3) (c1 : first i) (c2 : k0_cond2 w1 w3 = 1#1) (c3 : ¬ k0_cond3 w1 w3 = 1#1) (c4 : ¬ k0_cond4 w1 w3 = 1#1) (c5 : ¬ k0_cond5 i = 1#1)
    (Q : PUnit → sProp 𝕄) :
    iprop(tbl c t0 t1 ∗ insHeld c M4 M5 M6 M7 M8 M9 x ∗ stHeld c M13 M11 M12 s
      ∗ (iprop(tbl c t0 t1 ∗ insHeld c M4 M5 M6 M7 M8 M9 x ∗ stHeld c M13 M11 M12 (stepA w1 qi x k0_pay29)) -∗ Q ⟨⟩))
    ⊢ wp frame (wpE (defs₀ (F := F)) Variants.none c none) Set.univ
        (cc0_flash_bwd i T0 (Memref.isWhole_whole _) T1 (Memref.isWhole_whole _) M4 h4 M5 h5 M6 h6 M7 h7 M8 h8 M9 h9
          M10 h10 M11 h11 M12 h12 M13 h13 cc0_scratch1) Q := by
  obtain ⟨q, k, v, g, lse, dl⟩ := x
  obtain ⟨dq, dk, dv⟩ := s
  unfold insHeld stHeld
  unfold owns
  iintro ⟨⟨Ht0, Ht1⟩, ⟨⟨%f4, %e4, H4⟩, ⟨%f5, %e5, H5⟩, ⟨%f6, %e6, H6⟩, ⟨%f7, %e7, H7⟩, ⟨%f8, %e8, H8⟩, ⟨%f9, %e9, H9⟩⟩, ⟨⟨%f13, %e13, H13⟩, ⟨%f11, %e11, H11⟩, ⟨%f12, %e12, H12⟩⟩, Hk⟩
  dsimp only at e4 e5 e6 e7 e8 e9 e11 e12 e13
  subst e4 e5 e6 e7 e8 e9 e11 e12 e13
  rw [cc0_flash_bwd_eq_skeleton]
  unfold cc0_flash_bwd_skel
  rw [k0_part6_eq_skeleton]
  unfold k0_part6_skel smemLoad smemLoadElt
  rw [k0_part1_eq_skeleton, k0_part2_eq_skeleton]
  unfold k0_part1_skel k0_part2_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S2x512x256) ![0, 0, 0] ![2, 512, 256] inb_S2x512x256_S2x512x256_0_0_0).toLoadRect f4 = M4.view.read (Elt F) f4 := View.readAt_full _ _ _
  have E8 : View.readAt (Elt F) M8.view (Rect.unit (s := S2x1x512) ![0, 0, 0] ![2, 1, 512] inb_S2x1x512_S2x1x512_0_0_0).toLoadRect f8 = M8.view.read (Elt F) f8 := View.readAt_full _ _ _
  have E9 : View.readAt (Elt F) M9.view (Rect.unit (s := S2x1x512) ![0, 0, 0] ![2, 1, 512] inb_S2x1x512_S2x1x512_0_0_0).toLoadRect f9 = M9.view.read (Elt F) f9 := View.readAt_full _ _ _
  have Z : M13.view.read (Elt F) (M13.view.writes (Elt F) M13.view.junk runA0.sl.H13_1) = k0_pay29 := View.read_writes_full _ _ _ _ _
  have E13 : View.readAt (Elt F) M13.view (Rect.unit (s := S2x8192x256) (k0_off2 w1) ![2, 512, 256] (k0_off2_inb w1 w3 hchk c2)).toLoadRect (M13.view.writes (Elt F) M13.view.junk runA0.sl.H13_1) = rows (M13.view.read (Elt F) (M13.view.writes (Elt F) M13.view.junk runA0.sl.H13_1)) qi := View.readAt_unit _ _ _ hoff _
  sl_step
  iapply Hk
  isplitl [Ht0 Ht1]
  · isplitl [Ht0]; · iexact Ht0
    iexact Ht1
  isplitl [H4 H5 H6 H7 H8 H9]
  · isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    iexists f9; isplitr; · ipureintro; rfl
    iexact H9
  isplitl [H13]
  · iexists _; isplitr; swap; · iexact H13
    ipureintro
    rw [View.read_writes_cons_put _ _ _ _ _ hoff]
    unfold runA0.sl.v113
    rw [E13, Z]
    simp only [E4, E8, E9]
    rfl
  isplitl [H11]
  · iexists _; isplitr; swap; · iexact H11
    ipureintro
    refine (View.read_writes_cons_put _ _ _ _ _ rfl).trans ?_
    rw [View.read_writes_cons_put _ _ _ _ _ rfl]
    refine (put_halvesK _ _ _).trans ?_
    simp only [E4, E8, E9]
    rfl
  iexists _; isplitr; swap; · iexact H12
  ipureintro
  refine (View.read_writes_cons_put _ _ _ _ _ rfl).trans ?_
  rw [View.read_writes_cons_put _ _ _ _ _ rfl]
  refine (put_halvesV _ _ _).trans ?_
  simp only [E4, E8, E9]
  rfl

end Cert.Proof.Flash

end
end
-- ==== Proof.BodyB.lean ====
module

public import proofs.«01_k».proof.Proof.Held

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 2000000 in
/-- A step of kind `B` before the last of its row. -/
theorem runB (c : Dev nD) (i : grid0.Coords) (M4 : Memref sig .tc .vmem S2x512x256 .bf16) (h4 : M4.IsWhole) (M5 : Memref sig .tc .vmem S2x1024x256 .bf16) (h5 : M5.IsWhole)
    (M6 : Memref sig .tc .vmem S2x1024x128 .bf16) (h6 : M6.IsWhole) (M7 : Memref sig .tc .vmem S512x256 .f32) (h7 : M7.IsWhole)
    (M8 : Memref sig .tc .vmem S2x1x512 .f32) (h8 : M8.IsWhole) (M9 : Memref sig .tc .vmem S2x1x512 .f32) (h9 : M9.IsWhole)
    (M10 : Memref sig .tc .hbm S8x8192x256 .f32) (h10 : M10.IsWhole) (M11 : Memref sig .tc .vmem S2x1024x256 .f32) (h11 : M11.IsWhole) (M12 : Memref sig .tc .vmem S2x1024x128 .f32) (h12 : M12.IsWhole) (M13 : Memref sig .tc .vmem S2x8192x256 .f32) (h13 : M13.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (qi : Fin 16) (hoff : k0_off3 w1 = offq qi) (x : Ins F) (s : St F)
    (hchk : k0_chk1 w1 w3) (c1 : ¬ first i) (c2 : ¬ k0_cond2 w1 w3 = 1#1) (c3 : k0_cond3 w1 w3 = 1#1) (c4 : ¬ k0_cond4 w1 w3 = 1#1) (c5 : ¬ k0_cond5 i = 1#1)
    (Q : PUnit → sProp 𝕄) :
    iprop(tbl c t0 t1 ∗ insHeld c M4 M5 M6 M7 M8 M9 x ∗ stHeld c M13 M11 M12 s
      ∗ (iprop(tbl c t0 t1 ∗ insHeld c M4 M5 M6 M7 M8 M9 x ∗ stHeld c M13 M11 M12 (stepB w1 qi x s)) -∗ Q ⟨⟩))
    ⊢ wp frame (wpE (defs₀ (F := F)) Variants.none c none) Set.univ
        (cc0_flash_bwd i T0 (Memref.isWhole_whole _) T1 (Memref.isWhole_whole _) M4 h4 M5 h5 M6 h6 M7 h7 M8 h8 M9 h9
          M10 h10 M11 h11 M12 h12 M13 h13 cc0_scratch1) Q := by
  obtain ⟨q, k, v, g, lse, dl⟩ := x
  obtain ⟨dq, dk, dv⟩ := s
  unfold insHeld stHeld
  unfold owns
  iintro ⟨⟨Ht0, Ht1⟩, ⟨⟨%f4, %e4, H4⟩, ⟨%f5, %e5, H5⟩, ⟨%f6, %e6, H6⟩, ⟨%f7, %e7, H7⟩, ⟨%f8, %e8, H8⟩, ⟨%f9, %e9, H9⟩⟩, ⟨⟨%f13, %e13, H13⟩, ⟨%f11, %e11, H11⟩, ⟨%f12, %e12, H12⟩⟩, Hk⟩
  dsimp only at e4 e5 e6 e7 e8 e9 e11 e12 e13
  subst e4 e5 e6 e7 e8 e9 e11 e12 e13
  rw [cc0_flash_bwd_eq_skeleton]
  unfold cc0_flash_bwd_skel
  rw [k0_part6_eq_skeleton]
  unfold k0_part6_skel smemLoad smemLoadElt
  rw [k0_part3_eq_skeleton, k0_part4_eq_skeleton]
  unfold k0_part3_skel k0_part4_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S2x512x256) ![0, 0, 0] ![2, 512, 256] inb_S2x512x256_S2x512x256_0_0_0).toLoadRect f4 = M4.view.read (Elt F) f4 := View.readAt_full _ _ _
  have E5 : View.readAt (Elt F) M5.view (Rect.unit (s := S2x1024x256) ![0, 0, 0] ![2, 1024, 256] inb_S2x1024x256_S2x1024x256_0_0_0).toLoadRect f5 = M5.view.read (Elt F) f5 := View.readAt_full _ _ _
  have E6 : View.readAt (Elt F) M6.view (Rect.unit (s := S2x1024x128) ![0, 0, 0] ![2, 1024, 128] inb_S2x1024x128_S2x1024x128_0_0_0).toLoadRect f6 = M6.view.read (Elt F) f6 := View.readAt_full _ _ _
  have E8 : View.readAt (Elt F) M8.view (Rect.unit (s := S2x1x512) ![0, 0, 0] ![2, 1, 512] inb_S2x1x512_S2x1x512_0_0_0).toLoadRect f8 = M8.view.read (Elt F) f8 := View.readAt_full _ _ _
  have E9 : View.readAt (Elt F) M9.view (Rect.unit (s := S2x1x512) ![0, 0, 0] ![2, 1, 512] inb_S2x1x512_S2x1x512_0_0_0).toLoadRect f9 = M9.view.read (Elt F) f9 := View.readAt_full _ _ _
  have E11 : View.readAt (Elt F) M11.view (Rect.unit (s := S2x1024x256) ![0, 0, 0] ![2, 1024, 256] inb_S2x1024x256_S2x1024x256_0_0_0).toLoadRect f11 = M11.view.read (Elt F) f11 := View.readAt_full _ _ _
  have E12 : View.readAt (Elt F) M12.view (Rect.unit (s := S2x1024x128) ![0, 0, 0] ![2, 1024, 128] inb_S2x1024x128_S2x1024x128_0_0_0).toLoadRect f12 = M12.view.read (Elt F) f12 := View.readAt_full _ _ _
  have E13 : View.readAt (Elt F) M13.view (Rect.unit (s := S2x8192x256) (k0_off3 w1) ![2, 512, 256] (k0_off3_inb w1 w3 hchk c3)).toLoadRect f13 = rows (M13.view.read (Elt F) f13) qi := View.readAt_unit _ _ _ hoff _
  sl_step
  iapply Hk
  isplitl [Ht0 Ht1]
  · isplitl [Ht0]; · iexact Ht0
    iexact Ht1
  isplitl [H4 H5 H6 H7 H8 H9]
  · isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    iexists f9; isplitr; · ipureintro; rfl
    iexact H9
  isplitl [H13]
  · iexists _; isplitr; swap; · iexact H13
    ipureintro
    rw [View.read_writes_cons_put _ _ _ _ _ hoff]
    unfold runB.sl.v113
    simp only [E4, E5, E6, E8, E9, E13]
    rfl
  isplitl [H11]
  · iexists _; isplitr; swap; · iexact H11
    ipureintro
    refine (View.read_writes_full _ _ _ _ _).trans ?_
    simp only [E4, E5, E6, E8, E9, E11]
    rfl
  iexists _; isplitr; swap; · iexact H12
  ipureintro
  refine (View.read_writes_full _ _ _ _ _).trans ?_
  simp only [E4, E5, E6, E8, E9, E12]
  rfl

end Cert.Proof.Flash

end
end
-- ==== Proof.Copy.lean ====
/-
  The copy at the end of a row of steps: the scratch array, whole, into two heads of the array of query gradients.
-/
module

public import proofs.«01_k».proof.Proof.Held

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- What the array of query gradients holds after the copy at `i`. -/
def copied (i : grid0.Coords) (X : Vec F S8x8192x256 .f32) (S : Vec F S2x8192x256 .f32) : Vec F S8x8192x256 .f32 :=
  VecWindow.put X (k0_off5 i) S2x8192x256.size S

theorem copyOut (c : Dev nD) (i : grid0.Coords) (M10 : Memref sig .tc .hbm S8x8192x256 .f32) (M13 : Memref sig .tc .vmem S2x8192x256 .f32) (h5 : k0_cond5 i = 1#1)
    (f13 : M13.view.ty.Contents (Elt F)) (f10 : M10.view.ty.Contents (Elt F)) (W : Waits sig Unit) (h13 : M13.IsWhole) (S : Vec F S2x8192x256 .f32)
    (Q : PUnit → sProp 𝕄) :
    iprop((M13.view.loc (c : Thread nD τ) ↦[M13.view.set]{fullShare} f13) ∗ ⌜M13.view.read (Elt F) f13 = S⌝ ∗ (M10.view.loc (c : Thread nD τ) ↦[M10.view.set]{fullShare} f10)
      ∗ semVal ((c : Thread nD τ), (SemLoc.dma 16 : SemLoc sig)) 0 ∗ owes (c : Thread nD τ) 0 W
      ∗ (iprop(owns (c : Thread nD τ) M13 fullShare S ∗ owns (c : Thread nD τ) M10 fullShare (copied i (M10.view.read (Elt F) f10) S)
          ∗ semVal ((c : Thread nD τ), (SemLoc.dma 16 : SemLoc sig)) 0 ∗ ∃ W, owes (c : Thread nD τ) 0 W) -∗ Q ⟨⟩))
    ⊢ wp frame (wpE (defs₀ (F := F)) Variants.none c none) Set.univ
        ((do
          Prog.lift (.enqueueDma M13 (.here (M10.slice (Rect.unit (s := S8x8192x256) (k0_off5 i) S2x8192x256.size (k0_off5_inb i h5)) (fun _ => rfl))) (.dma cc0_scratch1.sem) h13.wordExact (View.wordExact_bits rfl) ⟨Or.inl rfl, trivial⟩)
          Prog.lift (.waitDma2 cc0_scratch1.sem M13 (M10.slice (Rect.unit (s := S8x8192x256) (k0_off5 i) S2x8192x256.size (k0_off5_inb i h5)) (fun _ => rfl)) h13.wordExact (View.wordExact_bits rfl))
          pure ⟨⟩) : Prog (TpuEff nD τ sig (Elt F) Λ₀ .tc) PUnit) Q := by
  iintro ⟨H13, %hS, H10, HD, HO, Hk⟩
  subst hS
  have hpos : 0 < S2x8192x256.numel := by
    rw [Shape.numel]
    exact Finset.prod_pos fun a _ => by fin_cases a <;> decide
  simp only [Prog.bind_op, Prog.bind_ret]
  iapply (Transfers.wp_dmaLocal countersEmb Variants.none (c : Thread nD τ) none (sm := .dma 16) (dst := M10.slice (Rect.unit (s := S8x8192x256) (k0_off5 i) S2x8192x256.size (k0_off5_inb i h5)) (fun _ => rfl)) () _ rfl
    (View.dmaCredit_pos _ hpos) (Sd := M10.view.set) (View.set_slice_subset _ _)) $$ [H13 H10 HD]
  · isplitl [H13]; · iexact H13
    isplitl [H10]; · iexact H10
    iexact HD
  iintro HF
  simp only [Prog.bind_op, Prog.bind_ret]
  iapply (Transfers.wp_waitLocal countersEmb Variants.none (c : Thread nD τ) none (sem := 16) (dstw := M10.slice (Rect.unit (s := S8x8192x256) (k0_off5 i) S2x8192x256.size (k0_off5_inb i h5)) (fun _ => rfl)) () rfl) $$ [HF HO]
  · isplitl [HF]; · iexact HF
    iexact HO
  iintro ⟨⟨H10, H13⟩, HD, HO⟩
  simp only [Prog.bind_op, Prog.bind_ret, Prog.bind]
  sl_exec
  sl_step
  iapply Hk
  isplitl [H13]
  · unfold owns; iexists f13; isplitr; · ipureintro; rfl
    iexact H13
  isplitl [H10]
  · unfold owns
    iexists _; isplitr; swap; · iexact H10
    ipureintro
    exact View.read_writes_cons_put M10.view f10 (k0_off5_inb i h5) _ [] rfl
  isplitl [HD]; · iexact HD
  iexists _; iexact HO

end Cert.Proof.Flash

end
end
-- ==== Proof.BodyBL.lean ====
module

public import proofs.«01_k».proof.Proof.Copy

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 2000000 in
/-- The last step of a row, of kind `B`: at its end the scratch array is copied into the group's two heads of the array of query gradients. -/
theorem runBL (c : Dev nD) (i : grid0.Coords) (M4 : Memref sig .tc .vmem S2x512x256 .bf16) (h4 : M4.IsWhole) (M5 : Memref sig .tc .vmem S2x1024x256 .bf16) (h5 : M5.IsWhole)
    (M6 : Memref sig .tc .vmem S2x1024x128 .bf16) (h6 : M6.IsWhole) (M7 : Memref sig .tc .vmem S512x256 .f32) (h7 : M7.IsWhole)
    (M8 : Memref sig .tc .vmem S2x1x512 .f32) (h8 : M8.IsWhole) (M9 : Memref sig .tc .vmem S2x1x512 .f32) (h9 : M9.IsWhole)
    (M10 : Memref sig .tc .hbm S8x8192x256 .f32) (h10 : M10.IsWhole) (M11 : Memref sig .tc .vmem S2x1024x256 .f32) (h11 : M11.IsWhole) (M12 : Memref sig .tc .vmem S2x1024x128 .f32) (h12 : M12.IsWhole) (M13 : Memref sig .tc .vmem S2x8192x256 .f32) (h13 : M13.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (qi : Fin 16) (hoff : k0_off3 w1 = offq qi) (x : Ins F) (s : St F) (X : Vec F S8x8192x256 .f32) (W : Waits sig Unit)
    (hchk : k0_chk1 w1 w3) (c1 : ¬ first i) (c2 : ¬ k0_cond2 w1 w3 = 1#1) (c3 : k0_cond3 w1 w3 = 1#1) (c4 : ¬ k0_cond4 w1 w3 = 1#1) (c5 : k0_cond5 i = 1#1)
    (Q : PUnit → sProp 𝕄) :
    iprop(tbl c t0 t1 ∗ insHeld c M4 M5 M6 M7 M8 M9 x ∗ stHeld c M13 M11 M12 s ∗ owns (c : Thread nD τ) M10 fullShare X
      ∗ semVal ((c : Thread nD τ), (SemLoc.dma 16 : SemLoc sig)) 0 ∗ owes (c : Thread nD τ) 0 W
      ∗ (iprop(tbl c t0 t1 ∗ insHeld c M4 M5 M6 M7 M8 M9 x ∗ stHeld c M13 M11 M12 (stepB w1 qi x s)
          ∗ owns (c : Thread nD τ) M10 fullShare (copied i X (stepB w1 qi x s).dq)
          ∗ semVal ((c : Thread nD τ), (SemLoc.dma 16 : SemLoc sig)) 0 ∗ ∃ W, owes (c : Thread nD τ) 0 W) -∗ Q ⟨⟩))
    ⊢ wp frame (wpE (defs₀ (F := F)) Variants.none c none) Set.univ
        (cc0_flash_bwd i T0 (Memref.isWhole_whole _) T1 (Memref.isWhole_whole _) M4 h4 M5 h5 M6 h6 M7 h7 M8 h8 M9 h9
          M10 h10 M11 h11 M12 h12 M13 h13 cc0_scratch1) Q := by
  obtain ⟨q, k, v, g, lse, dl⟩ := x
  obtain ⟨dq, dk, dv⟩ := s
  unfold insHeld stHeld
  unfold owns
  iintro ⟨⟨Ht0, Ht1⟩, ⟨⟨%f4, %e4, H4⟩, ⟨%f5, %e5, H5⟩, ⟨%f6, %e6, H6⟩, ⟨%f7, %e7, H7⟩, ⟨%f8, %e8, H8⟩, ⟨%f9, %e9, H9⟩⟩, ⟨⟨%f13, %e13, H13⟩, ⟨%f11, %e11, H11⟩, ⟨%f12, %e12, H12⟩⟩, ⟨%f10, %e10, H10⟩, HDO⟩
  dsimp only at e4 e5 e6 e7 e8 e9 e10 e11 e12 e13
  subst e4 e5 e6 e7 e8 e9 e10 e11 e12 e13
  rw [cc0_flash_bwd_eq_skeleton]
  unfold cc0_flash_bwd_skel
  rw [k0_part6_eq_skeleton]
  unfold k0_part6_skel smemLoad smemLoadElt
  rw [k0_part3_eq_skeleton, k0_part4_eq_skeleton]
  unfold k0_part3_skel k0_part4_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S2x512x256) ![0, 0, 0] ![2, 512, 256] inb_S2x512x256_S2x512x256_0_0_0).toLoadRect f4 = M4.view.read (Elt F) f4 := View.readAt_full _ _ _
  have E5 : View.readAt (Elt F) M5.view (Rect.unit (s := S2x1024x256) ![0, 0, 0] ![2, 1024, 256] inb_S2x1024x256_S2x1024x256_0_0_0).toLoadRect f5 = M5.view.read (Elt F) f5 := View.readAt_full _ _ _
  have E6 : View.readAt (Elt F) M6.view (Rect.unit (s := S2x1024x128) ![0, 0, 0] ![2, 1024, 128] inb_S2x1024x128_S2x1024x128_0_0_0).toLoadRect f6 = M6.view.read (Elt F) f6 := View.readAt_full _ _ _
  have E8 : View.readAt (Elt F) M8.view (Rect.unit (s := S2x1x512) ![0, 0, 0] ![2, 1, 512] inb_S2x1x512_S2x1x512_0_0_0).toLoadRect f8 = M8.view.read (Elt F) f8 := View.readAt_full _ _ _
  have E9 : View.readAt (Elt F) M9.view (Rect.unit (s := S2x1x512) ![0, 0, 0] ![2, 1, 512] inb_S2x1x512_S2x1x512_0_0_0).toLoadRect f9 = M9.view.read (Elt F) f9 := View.readAt_full _ _ _
  have E11 : View.readAt (Elt F) M11.view (Rect.unit (s := S2x1024x256) ![0, 0, 0] ![2, 1024, 256] inb_S2x1024x256_S2x1024x256_0_0_0).toLoadRect f11 = M11.view.read (Elt F) f11 := View.readAt_full _ _ _
  have E12 : View.readAt (Elt F) M12.view (Rect.unit (s := S2x1024x128) ![0, 0, 0] ![2, 1024, 128] inb_S2x1024x128_S2x1024x128_0_0_0).toLoadRect f12 = M12.view.read (Elt F) f12 := View.readAt_full _ _ _
  have E13 : View.readAt (Elt F) M13.view (Rect.unit (s := S2x8192x256) (k0_off3 w1) ![2, 512, 256] (k0_off3_inb w1 w3 hchk c3)).toLoadRect f13 = rows (M13.view.read (Elt F) f13) qi := View.readAt_unit _ _ _ hoff _
  icases HDO with ⟨HD, HO, Hk⟩
  iapply (copyOut c i M10 M13 c5 _ f10 W h13 (stepB w1 qi ⟨M4.view.read (Elt F) f4, M5.view.read (Elt F) f5, M6.view.read (Elt F) f6, M7.view.read (Elt F) f7, M8.view.read (Elt F) f8, M9.view.read (Elt F) f9⟩ ⟨M13.view.read (Elt F) f13, M11.view.read (Elt F) f11, M12.view.read (Elt F) f12⟩).dq Q)
  isplitl [H13]; · iexact H13
  isplitr
  · ipureintro
    rw [View.read_writes_cons_put _ _ _ _ _ hoff]
    unfold runBL.sl.v113
    simp only [E4, E5, E6, E8, E9, E13]
    rfl
  isplitl [H10]; · iexact H10
  isplitl [HD]; · iexact HD
  isplitl [HO]; · iexact HO
  iintro ⟨H13, H10, HD, HO⟩
  iapply Hk
  isplitl [Ht0 Ht1]
  · isplitl [Ht0]; · iexact Ht0
    iexact Ht1
  isplitl [H4 H5 H6 H7 H8 H9]
  · isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    iexists f9; isplitr; · ipureintro; rfl
    iexact H9
  isplitl [H13 H11 H12]
  · isplitl [H13]; · unfold owns; iexact H13
    isplitl [H11]
    · iexists _; isplitr; swap; · iexact H11
      ipureintro
      refine (View.read_writes_full _ _ _ _ _).trans ?_
      simp only [E4, E5, E6, E8, E9, E11]
      rfl
    iexists _; isplitr; swap; · iexact H12
    ipureintro
    refine (View.read_writes_full _ _ _ _ _).trans ?_
    simp only [E4, E5, E6, E8, E9, E12]
    rfl
  isplitl [H10]; · unfold owns; iexact H10
  isplitl [HD]; · iexact HD
  iexact HO

end Cert.Proof.Flash

end
end
-- ==== Proof.BodyC.lean ====
module

public import proofs.«01_k».proof.Proof.Held

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 2000000 in
/-- A step of kind `C` in the middle of the grid's row of steps. -/
theorem runC (c : Dev nD) (i : grid0.Coords) (M4 : Memref sig .tc .vmem S2x512x256 .bf16) (h4 : M4.IsWhole) (M5 : Memref sig .tc .vmem S2x1024x256 .bf16) (h5 : M5.IsWhole)
    (M6 : Memref sig .tc .vmem S2x1024x128 .bf16) (h6 : M6.IsWhole) (M7 : Memref sig .tc .vmem S512x256 .f32) (h7 : M7.IsWhole)
    (M8 : Memref sig .tc .vmem S2x1x512 .f32) (h8 : M8.IsWhole) (M9 : Memref sig .tc .vmem S2x1x512 .f32) (h9 : M9.IsWhole)
    (M10 : Memref sig .tc .hbm S8x8192x256 .f32) (h10 : M10.IsWhole) (M11 : Memref sig .tc .vmem S2x1024x256 .f32) (h11 : M11.IsWhole) (M12 : Memref sig .tc .vmem S2x1024x128 .f32) (h12 : M12.IsWhole) (M13 : Memref sig .tc .vmem S2x8192x256 .f32) (h13 : M13.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (qi : Fin 16) (hoff : k0_off4 w1 = offq qi) (x : Ins F) (s : St F)
    (hchk : k0_chk1 w1 w3) (c1 : ¬ first i) (c2 : ¬ k0_cond2 w1 w3 = 1#1) (c3 : ¬ k0_cond3 w1 w3 = 1#1) (c4 : k0_cond4 w1 w3 = 1#1) (c5 : ¬ k0_cond5 i = 1#1)
    (Q : PUnit → sProp 𝕄) :
    iprop(tbl c t0 t1 ∗ insHeld c M4 M5 M6 M7 M8 M9 x ∗ stHeld c M13 M11 M12 s
      ∗ (iprop(tbl c t0 t1 ∗ insHeld c M4 M5 M6 M7 M8 M9 x ∗ stHeld c M13 M11 M12 (stepC qi x s)) -∗ Q ⟨⟩))
    ⊢ wp frame (wpE (defs₀ (F := F)) Variants.none c none) Set.univ
        (cc0_flash_bwd i T0 (Memref.isWhole_whole _) T1 (Memref.isWhole_whole _) M4 h4 M5 h5 M6 h6 M7 h7 M8 h8 M9 h9
          M10 h10 M11 h11 M12 h12 M13 h13 cc0_scratch1) Q := by
  obtain ⟨q, k, v, g, lse, dl⟩ := x
  obtain ⟨dq, dk, dv⟩ := s
  unfold insHeld stHeld
  unfold owns
  iintro ⟨⟨Ht0, Ht1⟩, ⟨⟨%f4, %e4, H4⟩, ⟨%f5, %e5, H5⟩, ⟨%f6, %e6, H6⟩, ⟨%f7, %e7, H7⟩, ⟨%f8, %e8, H8⟩, ⟨%f9, %e9, H9⟩⟩, ⟨⟨%f13, %e13, H13⟩, ⟨%f11, %e11, H11⟩, ⟨%f12, %e12, H12⟩⟩, Hk⟩
  dsimp only at e4 e5 e6 e7 e8 e9 e11 e12 e13
  subst e4 e5 e6 e7 e8 e9 e11 e12 e13
  rw [cc0_flash_bwd_eq_skeleton]
  unfold cc0_flash_bwd_skel
  rw [k0_part6_eq_skeleton, k0_part5_eq_skeleton]
  unfold k0_part6_skel smemLoad smemLoadElt k0_part5_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S2x512x256) ![0, 0, 0] ![2, 512, 256] inb_S2x512x256_S2x512x256_0_0_0).toLoadRect f4 = M4.view.read (Elt F) f4 := View.readAt_full _ _ _
  have E5 : View.readAt (Elt F) M5.view (Rect.unit (s := S2x1024x256) ![0, 0, 0] ![2, 1024, 256] inb_S2x1024x256_S2x1024x256_0_0_0).toLoadRect f5 = M5.view.read (Elt F) f5 := View.readAt_full _ _ _
  have E6 : View.readAt (Elt F) M6.view (Rect.unit (s := S2x1024x128) ![0, 0, 0] ![2, 1024, 128] inb_S2x1024x128_S2x1024x128_0_0_0).toLoadRect f6 = M6.view.read (Elt F) f6 := View.readAt_full _ _ _
  have E8 : View.readAt (Elt F) M8.view (Rect.unit (s := S2x1x512) ![0, 0, 0] ![2, 1, 512] inb_S2x1x512_S2x1x512_0_0_0).toLoadRect f8 = M8.view.read (Elt F) f8 := View.readAt_full _ _ _
  have E9 : View.readAt (Elt F) M9.view (Rect.unit (s := S2x1x512) ![0, 0, 0] ![2, 1, 512] inb_S2x1x512_S2x1x512_0_0_0).toLoadRect f9 = M9.view.read (Elt F) f9 := View.readAt_full _ _ _
  have E11 : View.readAt (Elt F) M11.view (Rect.unit (s := S2x1024x256) ![0, 0, 0] ![2, 1024, 256] inb_S2x1024x256_S2x1024x256_0_0_0).toLoadRect f11 = M11.view.read (Elt F) f11 := View.readAt_full _ _ _
  have E12 : View.readAt (Elt F) M12.view (Rect.unit (s := S2x1024x128) ![0, 0, 0] ![2, 1024, 128] inb_S2x1024x128_S2x1024x128_0_0_0).toLoadRect f12 = M12.view.read (Elt F) f12 := View.readAt_full _ _ _
  have E13 : View.readAt (Elt F) M13.view (Rect.unit (s := S2x8192x256) (k0_off4 w1) ![2, 512, 256] (k0_off4_inb w1 w3 hchk c4)).toLoadRect f13 = rows (M13.view.read (Elt F) f13) qi := View.readAt_unit _ _ _ hoff _
  sl_step
  iapply Hk
  isplitl [Ht0 Ht1]
  · isplitl [Ht0]; · iexact Ht0
    iexact Ht1
  isplitl [H4 H5 H6 H7 H8 H9]
  · isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists f8; isplitr; · ipureintro; rfl
                    iexact H8
    iexists f9; isplitr; · ipureintro; rfl
    iexact H9
  isplitl [H13]
  · iexists _; isplitr; swap; · iexact H13
    ipureintro
    rw [View.read_writes_cons_put _ _ _ _ _ hoff]
    unfold runC.sl.v93
    simp only [E4, E5, E6, E8, E9, E13]
    rfl
  isplitl [H11]
  · iexists _; isplitr; swap; · iexact H11
    ipureintro
    refine (View.read_writes_full _ _ _ _ _).trans ?_
    simp only [E4, E5, E6, E8, E9, E11]
    rfl
  iexists _; isplitr; swap; · iexact H12
  ipureintro
  refine (View.read_writes_full _ _ _ _ _).trans ?_
  simp only [E4, E5, E6, E8, E9, E12]
  rfl

end Cert.Proof.Flash

end
end
-- ==== Proof.Point.lean ====
/-
  One step of the gradient kernel, whichever its kind.
-/
module

public import proofs.«01_k».proof.Proof.Tables
public import proofs.«01_k».proof.Proof.BodyA
public import proofs.«01_k».proof.Proof.BodyA0
public import proofs.«01_k».proof.Proof.BodyB
public import proofs.«01_k».proof.Proof.BodyBL
public import proofs.«01_k».proof.Proof.BodyC

@[expose] public section

noncomputable section

namespace Cert.Proof.Flash

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- What step `s` of a row leaves. -/
def stepK (s : Fin 72) (x : Ins F) (S : St F) : St F :=
  if s = 0 then stepA (lit0 s) (qiAt s) x k0_pay29
  else if kindA s then stepA (lit0 s) (qiAt s) x S.dq
  else if kindB s then stepB (lit0 s) (qiAt s) x S
  else stepC (qiAt s) x S

/-- What the array of query gradients holds after the step at `i`. -/
def out0 (i : grid0.Coords) (X : Vec F S8x8192x256 .f32) (S : Vec F S2x8192x256 .f32) : Vec F S8x8192x256 .f32 :=
  if stepOf i = 71 then copied i X S else X

/-- The tables' contents, one by one. -/
abbrev tab0 : (T0).view.ty.Contents (Elt F) := fun i => lit0 (S72.rowMajor i)
abbrev tab1 : (T1).view.ty.Contents (Elt F) := fun i => lit1 (S72.rowMajor i)

theorem not71A : ¬ kindA 71 := by decide
theorem B71 : kindB 71 := by decide
theorem not71C : ¬ kindC 71 := by decide
theorem A0 : kindA 0 := by decide

theorem kindB_of (s : Fin 72) (h : kindA s) : ¬ kindB s := by unfold kindA at h; unfold kindB; omega
theorem kindC_of (s : Fin 72) (h : kindA s) : ¬ kindC s := by unfold kindA at h; unfold kindC; omega
theorem kindC_of' (s : Fin 72) (h : kindB s) : ¬ kindC s := by unfold kindB at h; unfold kindC; omega
theorem kindA_of' (s : Fin 72) (h : kindB s) : ¬ kindA s := fun h' => kindB_of s h' h

theorem point (c : Dev nD) (i : grid0.Coords) (M4 : Memref sig .tc .vmem S2x512x256 .bf16) (h4 : M4.IsWhole) (M5 : Memref sig .tc .vmem S2x1024x256 .bf16) (h5 : M5.IsWhole)
    (M6 : Memref sig .tc .vmem S2x1024x128 .bf16) (h6 : M6.IsWhole) (M7 : Memref sig .tc .vmem S512x256 .f32) (h7 : M7.IsWhole)
    (M8 : Memref sig .tc .vmem S2x1x512 .f32) (h8 : M8.IsWhole) (M9 : Memref sig .tc .vmem S2x1x512 .f32) (h9 : M9.IsWhole)
    (M10 : Memref sig .tc .hbm S8x8192x256 .f32) (h10 : M10.IsWhole) (M11 : Memref sig .tc .vmem S2x1024x256 .f32) (h11 : M11.IsWhole) (M12 : Memref sig .tc .vmem S2x1024x128 .f32) (h12 : M12.IsWhole) (M13 : Memref sig .tc .vmem S2x8192x256 .f32) (h13 : M13.IsWhole)
    (x : Ins F) (s s' : St F) (X : Vec F S8x8192x256 .f32) (W : Waits sig Unit)
    (hdq : stepOf i ≠ 0 → s'.dq = s.dq) (hkv : ¬ kindA (stepOf i) → s'.dk = s.dk ∧ s'.dv = s.dv)
    (Q : PUnit → sProp 𝕄) :
    iprop(tbl c tab0 tab1 ∗ insHeld c M4 M5 M6 M7 M8 M9 x ∗ stHeld c M13 M11 M12 s' ∗ owns (c : Thread nD τ) M10 fullShare X
      ∗ semVal ((c : Thread nD τ), (SemLoc.dma 16 : SemLoc sig)) 0 ∗ owes (c : Thread nD τ) 0 W
      ∗ (iprop(tbl c tab0 tab1 ∗ insHeld c M4 M5 M6 M7 M8 M9 x ∗ stHeld c M13 M11 M12 (stepK (stepOf i) x s)
          ∗ owns (c : Thread nD τ) M10 fullShare (out0 i X (stepK (stepOf i) x s).dq)
          ∗ semVal ((c : Thread nD τ), (SemLoc.dma 16 : SemLoc sig)) 0 ∗ ∃ W, owes (c : Thread nD τ) 0 W) -∗ Q ⟨⟩))
    ⊢ wp frame (wpE (defs₀ (F := F)) Variants.none c none) Set.univ
        (cc0_flash_bwd i T0 (Memref.isWhole_whole _) T1 (Memref.isWhole_whole _) M4 h4 M5 h5 M6 h6 M7 h7 M8 h8 M9 h9
          M10 h10 M11 h11 M12 h12 M13 h13 cc0_scratch1) Q := by
  have hs : ¬ kindA (stepOf i) → s' = s := fun hA => by
    have h0 : stepOf i ≠ 0 := fun h => hA (h ▸ A0)
    obtain ⟨a, b, d⟩ := s
    obtain ⟨a', b', d'⟩ := s'
    have e1 := hdq h0
    obtain ⟨e2, e3⟩ := hkv hA
    dsimp only at e1 e2 e3
    rw [e1, e2, e3]
  by_cases h71 : stepOf i = 71
  · have hA : ¬ kindA (stepOf i) := h71 ▸ not71A
    have hB : kindB (stepOf i) := h71 ▸ B71
    have hC : ¬ kindC (stepOf i) := h71 ▸ not71C
    have h0 : stepOf i ≠ 0 := h71 ▸ (by decide)
    have e : stepK (stepOf i) x s = stepB (lit0 (stepOf i)) (qiAt (stepOf i)) x s := by
      unfold stepK
      rw [if_neg h0, if_neg hA, if_pos hB]
    have eo : ∀ S, out0 i X S = copied i X S := fun S => by unfold out0; rw [if_pos h71]
    rw [hs hA, e, eo]
    exact runBL c i M4 h4 M5 h5 M6 h6 M7 h7 M8 h8 M9 h9 M10 h10 M11 h11 M12 h12 M13 h13 _ _ _ _ (word0 i) (word1 i) _ (off3_eq _) x s X W
      (chk _) (fun h => h0 ((first_iff i).1 h)) (fun h => hA ((condA _).1 h)) ((condB _).2 hB) (fun h => hC ((condC _).1 h)) ((last_iff i).2 h71) Q
  have h5' : ¬ k0_cond5 i = 1#1 := fun h => h71 ((last_iff i).1 h)
  have eo : ∀ S, out0 i X S = X := fun S => by unfold out0; rw [if_neg h71]
  rw [eo]
  by_cases hA : kindA (stepOf i)
  · have hB := kindB_of _ hA
    have hC := kindC_of _ hA
    by_cases h0 : stepOf i = 0
    · have e : stepK (stepOf i) x s = stepA (lit0 (stepOf i)) (qiAt (stepOf i)) x k0_pay29 := by
        unfold stepK
        rw [if_pos h0]
      rw [e]
      iintro ⟨Ht, Hi, Hs, H10, HD, HO, Hk⟩
      iapply (runA0 c i M4 h4 M5 h5 M6 h6 M7 h7 M8 h8 M9 h9 M10 h10 M11 h11 M12 h12 M13 h13 _ _ _ _ (word0 i) (word1 i) _ (off2_eq _) x s'
        (chk _) ((first_iff i).2 h0) ((condA _).2 hA) (fun h => hB ((condB _).1 h)) (fun h => hC ((condC _).1 h)) h5' Q)
      isplitl [Ht]; · iexact Ht
      isplitl [Hi]; · iexact Hi
      isplitl [Hs]; · iexact Hs
      iintro ⟨Ht, Hi, Hs⟩
      iapply Hk
      isplitl [Ht]; · iexact Ht
      isplitl [Hi]; · iexact Hi
      isplitl [Hs]; · iexact Hs
      isplitl [H10]; · iexact H10
      isplitl [HD]; · iexact HD
      iexists W; iexact HO
    · have e : stepK (stepOf i) x s = stepA (lit0 (stepOf i)) (qiAt (stepOf i)) x s'.dq := by
        unfold stepK
        rw [if_neg h0, if_pos hA, hdq h0]
      rw [e]
      iintro ⟨Ht, Hi, Hs, H10, HD, HO, Hk⟩
      iapply (runA c i M4 h4 M5 h5 M6 h6 M7 h7 M8 h8 M9 h9 M10 h10 M11 h11 M12 h12 M13 h13 _ _ _ _ (word0 i) (word1 i) _ (off2_eq _) x s'
        (chk _) (fun h => h0 ((first_iff i).1 h)) ((condA _).2 hA) (fun h => hB ((condB _).1 h)) (fun h => hC ((condC _).1 h)) h5' Q)
      isplitl [Ht]; · iexact Ht
      isplitl [Hi]; · iexact Hi
      isplitl [Hs]; · iexact Hs
      iintro ⟨Ht, Hi, Hs⟩
      iapply Hk
      isplitl [Ht]; · iexact Ht
      isplitl [Hi]; · iexact Hi
      isplitl [Hs]; · iexact Hs
      isplitl [H10]; · iexact H10
      isplitl [HD]; · iexact HD
      iexists W; iexact HO
  have h0 : stepOf i ≠ 0 := fun h => hA (h ▸ A0)
  rw [hs hA]
  by_cases hB : kindB (stepOf i)
  · have hC := kindC_of' _ hB
    have e : stepK (stepOf i) x s = stepB (lit0 (stepOf i)) (qiAt (stepOf i)) x s := by
      unfold stepK
      rw [if_neg h0, if_neg hA, if_pos hB]
    rw [e]
    iintro ⟨Ht, Hi, Hs, H10, HD, HO, Hk⟩
    iapply (runB c i M4 h4 M5 h5 M6 h6 M7 h7 M8 h8 M9 h9 M10 h10 M11 h11 M12 h12 M13 h13 _ _ _ _ (word0 i) (word1 i) _ (off3_eq _) x s
      (chk _) (fun h => h0 ((first_iff i).1 h)) (fun h => hA ((condA _).1 h)) ((condB _).2 hB) (fun h => hC ((condC _).1 h)) h5' Q)
    isplitl [Ht]; · iexact Ht
    isplitl [Hi]; · iexact Hi
    isplitl [Hs]; · iexact Hs
    iintro ⟨Ht, Hi, Hs⟩
    iapply Hk
    isplitl [Ht]; · iexact Ht
    isplitl [Hi]; · iexact Hi
    isplitl [Hs]; · iexact Hs
    isplitl [H10]; · iexact H10
    isplitl [HD]; · iexact HD
    iexists W; iexact HO
  · have hC := ((kinds _).resolve_left hA).resolve_left hB
    have e : stepK (stepOf i) x s = stepC (qiAt (stepOf i)) x s := by
      unfold stepK
      rw [if_neg h0, if_neg hA, if_neg hB]
    rw [e]
    iintro ⟨Ht, Hi, Hs, H10, HD, HO, Hk⟩
    iapply (runC c i M4 h4 M5 h5 M6 h6 M7 h7 M8 h8 M9 h9 M10 h10 M11 h11 M12 h12 M13 h13 _ _ _ _ (word0 i) (word1 i) _ (off4_eq _) x s
      (chk _) (fun h => h0 ((first_iff i).1 h)) (fun h => hA ((condA _).1 h)) (fun h => hB ((condB _).1 h)) ((condC _).2 hC) h5' Q)
    isplitl [Ht]; · iexact Ht
    isplitl [Hi]; · iexact Hi
    isplitl [Hs]; · iexact Hs
    iintro ⟨Ht, Hi, Hs⟩
    iapply Hk
    isplitl [Ht]; · iexact Ht
    isplitl [Hi]; · iexact Hi
    isplitl [Hs]; · iexact Hs
    isplitl [H10]; · iexact H10
    isplitl [HD]; · iexact HD
    iexists W; iexact HO

end Cert.Proof.Flash

end
end
-- ==== Proof.Data.lean ====
/-
  What the gradient kernel's arrays, staging buffers and scratch hold from point to point of its grid.
-/
module

public import proofs.«01_k».proof.Proof.Point
public import proofs.«01_k».proof.Proof.Gen.KernelIdeal.Launch
public import Idealize.ShloMosaic.Lib.Pipeline.Regions
public import Idealize.ShloMosaic.Lib.Pipeline.RegionArraysT

@[expose] public section

noncomputable section

namespace Cert.Proof.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The buffers when the kernel starts: seven stretches of host operations -/

def W0 (c : Dev nD) : Valuation τ sig (Elt F) := fun b => (s₀ m ρ).mem ((c : Dev nD), b)
def W1 (c : Dev nD) : Valuation τ sig (Elt F) := StableHlo.after hostOps0 (W0 m ρ c)
def W2 (c : Dev nD) : Valuation τ sig (Elt F) := StableHlo.after hostOps0_1 (W1 m ρ c)
def W3 (c : Dev nD) : Valuation τ sig (Elt F) := StableHlo.after hostOps0_2 (W2 m ρ c)
def W4 (c : Dev nD) : Valuation τ sig (Elt F) := StableHlo.after hostOps0_3 (W3 m ρ c)
def W5 (c : Dev nD) : Valuation τ sig (Elt F) := StableHlo.after hostOps0_4 (W4 m ρ c)
def W6 (c : Dev nD) : Valuation τ sig (Elt F) := StableHlo.after hostOps0_5 (W5 m ρ c)
def W7 (c : Dev nD) : Valuation τ sig (Elt F) := StableHlo.after hostOps0_6 (W6 m ρ c)

abbrev V (c : Dev nD) (b : Ref sig .tc) : Buf (Elt F) ((c : Thread nD τ).loc b) := W7 m ρ c b

/-- An input's block at a point. -/
abbrev stg (c : Dev nD) (w : Fin 8) (t : Fin (cfgA (F := F)).N) : (((cfgA (F := F)).win w).xblock ((cfgA (F := F)).grid.coords t)).Idx → Elt F ((cfgA (F := F)).win w).elt :=
  (((cfgA (F := F)).win w).blk t).view.read (Elt F) (V m ρ c (Pipeline.arrRef spec0 w))

/-- The six blocks of a point. -/
def insAt (c : Dev nD) (t : Fin (cfgA (F := F)).N) : Ins F :=
  ⟨stg m ρ c 0 t, stg m ρ c 1 t, stg m ρ c 2 t, stg m ρ c 3 t, stg m ρ c 4 t, stg m ρ c 5 t⟩

/-- The step of its row that a point is. -/
abbrev stepN (t : Fin (cfgA (F := F)).N) : Fin 72 := stepOf (grid0.coords t)

/-- The accumulators after `n` points. -/
def stAt (c : Dev nD) : ℕ → St F
  | 0 => ⟨k0_pay29, fun _ => FloatOps.ofBits .f32 0#32, fun _ => FloatOps.ofBits .f32 0#32⟩
  | n + 1 => if h : n < (cfgA (F := F)).N then stepK (stepN ⟨n, h⟩) (insAt m ρ c ⟨n, h⟩) (stAt c n) else stAt c n

/-- The array of query gradients after `n` points. -/
def hAt (c : Dev nD) : ℕ → Vec F S8x8192x256 .f32
  | 0 => V m ρ c main_v39_0
  | n + 1 => if h : n < (cfgA (F := F)).N then out0 (grid0.coords ⟨n, h⟩) (hAt c n) (stAt m ρ c (n + 1)).dq else hAt c n

theorem stAt_succ (c : Dev nD) (t : Fin (cfgA (F := F)).N) :
    stAt m ρ c (t.val + 1) = stepK (stepN t) (insAt m ρ c t) (stAt m ρ c t.val) := by
  rw [stAt, dif_pos t.isLt]

theorem hAt_succ (c : Dev nD) (t : Fin (cfgA (F := F)).N) :
    hAt m ρ c (t.val + 1) = out0 (grid0.coords t) (hAt m ρ c t.val) (stAt m ρ c (t.val + 1)).dq := by
  rw [hAt, dif_pos t.isLt]

/-- What holds between points: the scratch array at the accumulated query gradients (anything at first), the array of
    query gradients at what has been copied, the semaphore at zero, the tables. -/
def Φn (c : Dev nD) (n : ℕ) : sProp 𝕄 :=
  iprop((∃ S, ⌜n ≠ 0 → S = (stAt m ρ c n).dq⌝ ∗ owns (c : Thread nD τ) (Memref.whole cc0_scratch0) fullShare S)
    ∗ owns (c : Thread nD τ) (Memref.whole main_v39_0) fullShare (hAt m ρ c n)
    ∗ semVal ((c : Thread nD τ), (SemLoc.dma 16 : SemLoc sig)) 0
    ∗ tbl c tab0 tab1)

def dats (_ : Fin 1) (c : Dev nD) : Dat τ (Elt F) Unit ℕ (UU nD τ) ℕ (cfgA (F := F)) c where
  A w := V m ρ c (Pipeline.arrRef spec0 w)
  after w t := match w with
    | ⟨0, _⟩ => stg m ρ c 0 t | ⟨1, _⟩ => stg m ρ c 1 t | ⟨2, _⟩ => stg m ρ c 2 t
    | ⟨3, _⟩ => stg m ρ c 3 t | ⟨4, _⟩ => stg m ρ c 4 t | ⟨5, _⟩ => stg m ρ c 5 t
    | ⟨6, _⟩ => (stAt m ρ c (t.val + 1)).dk
    | ⟨7, _⟩ => (stAt m ρ c (t.val + 1)).dv
    | ⟨n + 8, h⟩ => absurd h (Nat.not_lt.2 (Nat.le_add_left _ _))
  Φ t := Φn m ρ c t.val
  q _ := fullShare
  owed _ := 0

theorem Φ_eq (c : Dev nD) (t : Fin ((cfgA (F := F)).N + 1)) : (dats m ρ 0 c).Φ t = Φn m ρ c t.val := by
  dsimp only [dats]

theorem owed_eq (c : Dev nD) (t : Fin ((cfgA (F := F)).N + 1)) : (dats m ρ 0 c).owed t = 0 := by
  dsimp only [dats]

theorem A_eq (c : Dev nD) (w : Fin 8) : (dats m ρ 0 c).A w = V m ρ c (Pipeline.arrRef spec0 w) := by
  dsimp only [dats]

theorem before0 (c : Dev nD) (t : Fin (cfgA (F := F)).N) (d) : (dats m ρ 0 c).before (0 : Fin 8) t d = (insAt m ρ c t).q :=
  (Dat.before_in_eq_fetched (dats m ρ 0 c) (0 : Fin 8) rfl (fun i => idle_false 0 i) (fun _ _ _ => rfl) (fun _ => rfl) t d).trans rfl
theorem before1 (c : Dev nD) (t : Fin (cfgA (F := F)).N) (d) : (dats m ρ 0 c).before (1 : Fin 8) t d = (insAt m ρ c t).k :=
  (Dat.before_in_eq_fetched (dats m ρ 0 c) (1 : Fin 8) rfl (fun i => idle_false 1 i) (fun _ _ _ => rfl) (fun _ => rfl) t d).trans rfl
theorem before2 (c : Dev nD) (t : Fin (cfgA (F := F)).N) (d) : (dats m ρ 0 c).before (2 : Fin 8) t d = (insAt m ρ c t).v :=
  (Dat.before_in_eq_fetched (dats m ρ 0 c) (2 : Fin 8) rfl (fun i => idle_false 2 i) (fun _ _ _ => rfl) (fun _ => rfl) t d).trans rfl
theorem before3 (c : Dev nD) (t : Fin (cfgA (F := F)).N) (d) : (dats m ρ 0 c).before (3 : Fin 8) t d = (insAt m ρ c t).g :=
  (Dat.before_in_eq_fetched (dats m ρ 0 c) (3 : Fin 8) rfl (fun i => idle_false 3 i) (fun _ _ _ => rfl) (fun _ => rfl) t d).trans rfl
theorem before4 (c : Dev nD) (t : Fin (cfgA (F := F)).N) (d) : (dats m ρ 0 c).before (4 : Fin 8) t d = (insAt m ρ c t).lse :=
  (Dat.before_in_eq_fetched (dats m ρ 0 c) (4 : Fin 8) rfl (fun i => idle_false 4 i) (fun _ _ _ => rfl) (fun _ => rfl) t d).trans rfl
theorem before5 (c : Dev nD) (t : Fin (cfgA (F := F)).N) (d) : (dats m ρ 0 c).before (5 : Fin 8) t d = (insAt m ρ c t).dl :=
  (Dat.before_in_eq_fetched (dats m ρ 0 c) (5 : Fin 8) rfl (fun i => idle_false 5 i) (fun _ _ _ => rfl) (fun _ => rfl) t d).trans rfl

/-! ## The schedule of the two written arrays -/

theorem coord0 (t : Fin grid0.N) : (grid0.coords t 0).val = t.val / 72 := by
  have h : t.val < 288 := N_0 ▸ t.isLt
  show t.val / 72 % 4 = t.val / 72
  omega
theorem coord1 (t : Fin grid0.N) : (stepOf (grid0.coords t)).val = t.val % 72 := by
  show t.val / 1 % 72 = _
  rw [Nat.div_one]

/-- Where a step is not the first of its key block, the step before it is in the same block. -/
theorem kj_prev : ∀ s : Fin 72, ¬ kindA s → s.val ≠ 0 ∧ kjAt s = kjAt ⟨s.val - 1, by omega⟩ := by decide

theorem noflush (c : Dev nD) (t : Fin (cfgA (F := F)).N) (hA : ¬ kindA (stepN t)) (w : Fin 8) (hw : w = 6 ∨ w = 7) :
    ∃ ht : t.val ≠ 0, ((cfgA (F := F)).win w).flush ⟨t.val - 1, Nat.lt_of_le_of_lt (Nat.sub_le _ _) t.isLt⟩ = false := by
  obtain ⟨h0, hk⟩ := kj_prev _ hA
  have h1 : (stepN t).val = t.val % 72 := coord1 t
  have ht : t.val ≠ 0 := by omega
  refine ⟨ht, ?_⟩
  have hN : t.val < 288 := N_0 ▸ t.isLt
  set t' : Fin grid0.N := ⟨t.val - 1, Nat.lt_of_le_of_lt (Nat.sub_le _ _) t.isLt⟩ with ht'
  have e0 : (grid0.coords t 0).val = (grid0.coords t' 0).val := by
    rw [coord0, coord0, ht']
    show t.val / 72 = (t.val - 1) / 72
    omega
  have e1 : stepOf (grid0.coords t') = ⟨(stepN t).val - 1, by omega⟩ := Fin.ext (by
    rw [coord1, ht']
    show (t.val - 1) % 72 = (stepN t).val - 1
    omega)
  have e : (![(grid0.coords t 0).val, (kjAt (stepOf (grid0.coords t))).val, 0] : Fin 3 → ℕ) = ![(grid0.coords t' 0).val, (kjAt (stepOf (grid0.coords t'))).val, 0] := by
    rw [e0, e1, ← hk]
  have fin : ∀ ix : grid0.Coords → Fin 3 → ℕ, (∀ i, ix i = ![(i 0).val, (kjAt (stepOf i)).val, 0]) → Window.flushOf grid0 true ix t' = false := by
    intro ix hix
    unfold Window.flushOf
    rw [Bool.true_and, Bool.or_eq_false_iff]
    have hv : t'.val + 1 = t.val := by rw [ht']; show t.val - 1 + 1 = _; omega
    constructor
    · rw [hv, N_0]; exact decide_eq_false (by omega)
    · refine decide_eq_false ?_
      rintro ⟨h, hne⟩
      apply hne
      have ht2 : (⟨t'.val + 1, h⟩ : Fin grid0.N) = t := Fin.ext hv
      rw [hix, hix, ht2]
      exact e
  rcases hw with rfl | rfl
  · exact fin _ fun i => tf7 i
  · exact fin _ fun i => tf8 i

theorem before6 (c : Dev nD) (t : Fin (cfgA (F := F)).N) (hA : ¬ kindA (stepN t)) (d) : (dats m ρ 0 c).before (6 : Fin 8) t d = (stAt m ρ c t.val).dk := by
  obtain ⟨ht, hf⟩ := noflush (F := F) c t hA 6 (.inl rfl)
  rw [Dat.before_out_kept (dats m ρ 0 c) (6 : Fin 8) rfl t ht hf (fun i => idle_false 6 i) (fun _ _ => rfl) d]
  dsimp only [dats]
  rw [Nat.sub_add_cancel (Nat.one_le_iff_ne_zero.2 ht)]
theorem before7 (c : Dev nD) (t : Fin (cfgA (F := F)).N) (hA : ¬ kindA (stepN t)) (d) : (dats m ρ 0 c).before (7 : Fin 8) t d = (stAt m ρ c t.val).dv := by
  obtain ⟨ht, hf⟩ := noflush (F := F) c t hA 7 (.inr rfl)
  rw [Dat.before_out_kept (dats m ρ 0 c) (7 : Fin 8) rfl t ht hf (fun i => idle_false 7 i) (fun _ _ => rfl) d]
  dsimp only [dats]
  rw [Nat.sub_add_cancel (Nat.one_le_iff_ne_zero.2 ht)]

/-! ## The body at a point -/

/-- The body of the kernel at a point, with the point's staging buffers. -/
abbrev bodyAt (t : Fin (cfgA (F := F)).N) := cc0_flash_bwd (F := F) (grid0.coords t) (Memref.whole main_c) (Memref.isWhole_whole _) (Memref.whole main_c_0) (Memref.isWhole_whole _)
  (spec0_0.stage ((cfgA (F := F)).slots t 0)) (hstage0_0 (((cfgA (F := F)).slots t 0).cast nbuf0_0)) (spec0_1.stage ((cfgA (F := F)).slots t 1)) (hstage0_1 (((cfgA (F := F)).slots t 1).cast nbuf0_1))
  (spec0_2.stage ((cfgA (F := F)).slots t 2)) (hstage0_2 (((cfgA (F := F)).slots t 2).cast nbuf0_2)) (spec0_3.stage ((cfgA (F := F)).slots t 3)) (hstage0_3 (((cfgA (F := F)).slots t 3).cast nbuf0_3))
  (spec0_4.stage ((cfgA (F := F)).slots t 4)) (hstage0_4 (((cfgA (F := F)).slots t 4).cast nbuf0_4)) (spec0_5.stage ((cfgA (F := F)).slots t 5)) (hstage0_5 (((cfgA (F := F)).slots t 5).cast nbuf0_5))
  (Memref.whole main_v39_0) (Memref.isWhole_whole _) (spec0_6.stage ((cfgA (F := F)).slots t 6)) (hstage0_6 (((cfgA (F := F)).slots t 6).cast nbuf0_6))
  (spec0_7.stage ((cfgA (F := F)).slots t 7)) (hstage0_7 (((cfgA (F := F)).slots t 7).cast nbuf0_7)) (Memref.whole cc0_scratch0) (Memref.isWhole_whole _) cc0_scratch1

theorem leaves_eq (c : Dev nD) (w : Fin 8) (t : Fin (cfgA (F := F)).N) : ((dats m ρ 0 c).leavesExact w t : sProp 𝕄)
    = owns (c : Thread nD τ) (((cfgA (F := F)).win w).stage ((cfgA (F := F)).slots t w)) fullShare ((dats m ρ 0 c).after w t) := by
  unfold Dat.leavesExact
  rw [idle_false]

theorem leaves0 (c : Dev nD) (t : Fin (cfgA (F := F)).N) :
    owns (c : Thread nD τ) (spec0_0.stage ((cfgA (F := F)).slots t 0)) fullShare (insAt m ρ c t).q ⊢ ((dats m ρ 0 c).leavesExact (0 : Fin 8) t : sProp 𝕄) := by
  rw [leaves_eq]
  dsimp only [dats]
  exact .rfl
theorem leaves1 (c : Dev nD) (t : Fin (cfgA (F := F)).N) :
    owns (c : Thread nD τ) (spec0_1.stage ((cfgA (F := F)).slots t 1)) fullShare (insAt m ρ c t).k ⊢ ((dats m ρ 0 c).leavesExact (1 : Fin 8) t : sProp 𝕄) := by
  rw [leaves_eq]
  dsimp only [dats]
  exact .rfl
theorem leaves2 (c : Dev nD) (t : Fin (cfgA (F := F)).N) :
    owns (c : Thread nD τ) (spec0_2.stage ((cfgA (F := F)).slots t 2)) fullShare (insAt m ρ c t).v ⊢ ((dats m ρ 0 c).leavesExact (2 : Fin 8) t : sProp 𝕄) := by
  rw [leaves_eq]
  dsimp only [dats]
  exact .rfl
theorem leaves3 (c : Dev nD) (t : Fin (cfgA (F := F)).N) :
    owns (c : Thread nD τ) (spec0_3.stage ((cfgA (F := F)).slots t 3)) fullShare (insAt m ρ c t).g ⊢ ((dats m ρ 0 c).leavesExact (3 : Fin 8) t : sProp 𝕄) := by
  rw [leaves_eq]
  dsimp only [dats]
  exact .rfl
theorem leaves4 (c : Dev nD) (t : Fin (cfgA (F := F)).N) :
    owns (c : Thread nD τ) (spec0_4.stage ((cfgA (F := F)).slots t 4)) fullShare (insAt m ρ c t).lse ⊢ ((dats m ρ 0 c).leavesExact (4 : Fin 8) t : sProp 𝕄) := by
  rw [leaves_eq]
  dsimp only [dats]
  exact .rfl
theorem leaves5 (c : Dev nD) (t : Fin (cfgA (F := F)).N) :
    owns (c : Thread nD τ) (spec0_5.stage ((cfgA (F := F)).slots t 5)) fullShare (insAt m ρ c t).dl ⊢ ((dats m ρ 0 c).leavesExact (5 : Fin 8) t : sProp 𝕄) := by
  rw [leaves_eq]
  dsimp only [dats]
  exact .rfl
theorem leaves6 (c : Dev nD) (t : Fin (cfgA (F := F)).N) :
    owns (c : Thread nD τ) (spec0_6.stage ((cfgA (F := F)).slots t 6)) fullShare (stAt m ρ c (t.val + 1)).dk ⊢ ((dats m ρ 0 c).leavesExact (6 : Fin 8) t : sProp 𝕄) := by
  rw [leaves_eq]
  dsimp only [dats]
  exact .rfl
theorem leaves7 (c : Dev nD) (t : Fin (cfgA (F := F)).N) :
    owns (c : Thread nD τ) (spec0_7.stage ((cfgA (F := F)).slots t 7)) fullShare (stAt m ρ c (t.val + 1)).dv ⊢ ((dats m ρ 0 c).leavesExact (7 : Fin 8) t : sProp 𝕄) := by
  rw [leaves_eq]
  dsimp only [dats]
  exact .rfl

theorem body_obligation (c : Dev nD) : BodyObligation (dats m ρ 0 c) (defs₀ (F := F)) Variants.none () Set.univ := fun t => by
  change _ ⊢ wp frame (wpE defs₀ Variants.none c none) Set.univ (bodyAt t) fun _ =>
    iprop((dats m ρ 0 c).Φ t.succ ∗ (dats m ρ 0 c).owesAt () t.succ ∗ bigSep Finset.univ fun w : Fin 8 => (dats m ρ 0 c).leavesExact w t)
  rw [bigSep_W0, bigSep_W0]
  rw [Φ_eq, Φ_eq, Fin.val_succ, Fin.val_castSucc]
  unfold Φn Dat.owesAt Pipeline.owesWithin
  rw [owed_eq, owed_eq]
  iintro ⟨⟨⟨%S, %hS, HS⟩, HX, HD, HT⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have h6 := before6 m ρ c t
  have h7 := before7 m ρ c t
  rw [before0, before1, before2, before3, before4, before5]
  iapply (point c (grid0.coords t) _ _ _ _ _ _ _ _ _ _ _ _ _ _ _ _ _ _ _ _ (insAt m ρ c t) (stAt m ρ c t.val)
    ⟨S, (dats m ρ 0 c).before 6 t d6, (dats m ρ 0 c).before 7 t d7⟩ (hAt m ρ c t.val) W
    (fun h0 => hS fun h => h0 (Fin.ext (by rw [coord1, h]; rfl))) (fun hA => ⟨h6 hA d6, h7 hA d7⟩))
  isplitl [HT]; · iexact HT
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS H6 H7]
  · isplitl [HS]; · iexact HS
    isplitl [H6]; · iexact H6
    iexact H7
  isplitl [HX]; · iexact HX
  isplitl [HD]; · iexact HD
  isplitl [HO]; · iexact HO
  rw [← stAt_succ, ← hAt_succ]
  iintro ⟨HT, ⟨H0, H1, H2, H3, H4, H5⟩, ⟨HS, H6, H7⟩, HX, HD, ⟨%W', HO⟩⟩
  isplitl [HS HX HD HT]
  · isplitl [HS]
    · iexists _; isplitr; swap; (· iexact HS); ipureintro; exact fun _ => rfl
    isplitl [HX]; · iexact HX
    isplitl [HD]; · iexact HD
    iexact HT
  isplitl [HO]
  · iexists W'; isplitr; · ipureintro; exact fun _ _ => Or.inl trivial
    iexact HO
  isplitl [H0]
  · iapply (leaves0 m ρ c t); iexact H0
  isplitl [H1]
  · iapply (leaves1 m ρ c t); iexact H1
  isplitl [H2]
  · iapply (leaves2 m ρ c t); iexact H2
  isplitl [H3]
  · iapply (leaves3 m ρ c t); iexact H3
  isplitl [H4]
  · iapply (leaves4 m ρ c t); iexact H4
  isplitl [H5]
  · iapply (leaves5 m ρ c t); iexact H5
  isplitl [H6]
  · iapply (leaves6 m ρ c t); iexact H6
  iapply (leaves7 m ρ c t); iexact H7

end Cert.Proof.Flash

end
end
-- ==== Proof.Host.lean ====
/-
  The host's operations before the gradient kernel: what they write, and what they leave alone.
-/
module

public import proofs.«01_k».proof.Proof.Data

@[expose] public section

noncomputable section

namespace Cert.Proof.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (ℓ : Loc nD τ sig) → Buf (Elt F) ℓ) (ρ : Dev nD → PrngReg)

omit [FloatOps F] [Named F] in
theorem wsub {op : HloOp τ sig (Elt F)} {y : Ref sig .tc} {W : List (Ref sig .tc)} (h : op.writes = {Proc.devRef .tc y}) (hy : y ∈ W) :
    op.writes ⊆ (W.map (Proc.devRef (τ := τ) .tc)).toFinset := by
  rw [h]
  exact Finset.singleton_subset_iff.2 (List.mem_toFinset.2 (List.mem_map_of_mem hy))

abbrev hostOps0_w : List (Ref sig .tc) := [main_c, main_c_0, main_v0, main_cst, main_v1, main_v2, main_v3, main_v4, main_v5, main_v6, main_v7, main_v8, main_v9, main_cst_1]
theorem hostOps0_wsub : (hostOps0 : List (HloOp τ sig (Elt F))).Forall fun op => op.writes ⊆ ((hostOps0_w).map (Proc.devRef (τ := τ) .tc)).toFinset :=
  ⟨wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide)⟩
theorem hostOps0_fresh : ∀ op ∈ (hostOps0 : List (HloOp τ sig (Elt F))), op.fresh = ∅ := by
  intro _ h
  (repeat (cases h with | head => rfl | tail _ h => ?_))
  exact nomatch h
abbrev hostOps0_1_w : List (Ref sig .tc) := [main_call0_v0, main_call0_v1, main_call0_v2, main_v10]
theorem hostOps0_1_wsub : (hostOps0_1 : List (HloOp τ sig (Elt F))).Forall fun op => op.writes ⊆ ((hostOps0_1_w).map (Proc.devRef (τ := τ) .tc)).toFinset :=
  ⟨wsub rfl (by decide), wsub rfl (by decide), wsub rfl (by decide), wsub rfl (by decide)⟩
theorem hostOps0_1_fresh : ∀ op ∈ (hostOps0_1 : List (HloOp τ sig (Elt F))), op.fresh = ∅ := by
  intro _ h
  (repeat (cases h with | head => rfl | tail _ h => ?_))
  exact nomatch h
abbrev hostOps0_2_w : List (Ref sig .tc) := [main_cst_2, main_v11, main_v12, main_v13, main_v14, main_v15, main_cst_3, main_v16, main_v17, main_v18, main_v19, main_cst_4, main_v20, main_v21, main_v22, main_v23, main_v24, main_v25, main_v26, main_v27, main_v28, main_v29, main_cst_5, main_v30, main_v31, main_c_6]
theorem hostOps0_2_wsub : (hostOps0_2 : List (HloOp τ sig (Elt F))).Forall fun op => op.writes ⊆ ((hostOps0_2_w).map (Proc.devRef (τ := τ) .tc)).toFinset :=
  ⟨wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide)⟩
theorem hostOps0_2_fresh : ∀ op ∈ (hostOps0_2 : List (HloOp τ sig (Elt F))), op.fresh = ∅ := by
  intro _ h
  (repeat (cases h with | head => rfl | tail _ h => ?_))
  exact nomatch h
abbrev hostOps0_3_w : List (Ref sig .tc) := [main_call1_v0, main_v32]
theorem hostOps0_3_wsub : (hostOps0_3 : List (HloOp τ sig (Elt F))).Forall fun op => op.writes ⊆ ((hostOps0_3_w).map (Proc.devRef (τ := τ) .tc)).toFinset :=
  ⟨wsub rfl (by decide), wsub rfl (by decide)⟩
theorem hostOps0_3_fresh : ∀ op ∈ (hostOps0_3 : List (HloOp τ sig (Elt F))), op.fresh = ∅ := by
  intro _ h
  (repeat (cases h with | head => rfl | tail _ h => ?_))
  exact nomatch h
abbrev hostOps0_4_w : List (Ref sig .tc) := [main_v33, main_c_7]
theorem hostOps0_4_wsub : (hostOps0_4 : List (HloOp τ sig (Elt F))).Forall fun op => op.writes ⊆ ((hostOps0_4_w).map (Proc.devRef (τ := τ) .tc)).toFinset :=
  ⟨wsub rfl (by decide), wsub rfl (by decide)⟩
theorem hostOps0_4_fresh : ∀ op ∈ (hostOps0_4 : List (HloOp τ sig (Elt F))), op.fresh = ∅ := by
  intro _ h
  (repeat (cases h with | head => rfl | tail _ h => ?_))
  exact nomatch h
abbrev hostOps0_5_w : List (Ref sig .tc) := [main_call2_v0, main_v34]
theorem hostOps0_5_wsub : (hostOps0_5 : List (HloOp τ sig (Elt F))).Forall fun op => op.writes ⊆ ((hostOps0_5_w).map (Proc.devRef (τ := τ) .tc)).toFinset :=
  ⟨wsub rfl (by decide), wsub rfl (by decide)⟩
theorem hostOps0_5_fresh : ∀ op ∈ (hostOps0_5 : List (HloOp τ sig (Elt F))), op.fresh = ∅ := by
  intro _ h
  (repeat (cases h with | head => rfl | tail _ h => ?_))
  exact nomatch h
abbrev hostOps0_6_w : List (Ref sig .tc) := [main_v35, main_v36, main_v37, main_v38]
theorem hostOps0_6_wsub : (hostOps0_6 : List (HloOp τ sig (Elt F))).Forall fun op => op.writes ⊆ ((hostOps0_6_w).map (Proc.devRef (τ := τ) .tc)).toFinset :=
  ⟨wsub rfl (by decide), wsub rfl (by decide), wsub rfl (by decide), wsub rfl (by decide)⟩
theorem hostOps0_6_fresh : ∀ op ∈ (hostOps0_6 : List (HloOp τ sig (Elt F))), op.fresh = ∅ := by
  intro _ h
  (repeat (cases h with | head => rfl | tail _ h => ?_))
  exact nomatch h

/-- What no operation after the first stretch writes is as the first stretch left it. -/
theorem W7_eq (c : Dev nD) (r : Ref sig .tc)
    (h : r ∉ hostOps0_1_w ++ hostOps0_2_w ++ hostOps0_3_w ++ hostOps0_4_w ++ hostOps0_5_w ++ hostOps0_6_w) :
    W7 m ρ c (Proc.devRef .tc r) = W1 m ρ c (Proc.devRef .tc r) := by
  simp only [List.mem_append, not_or] at h
  obtain ⟨⟨⟨⟨⟨h1, h2⟩, h3⟩, h4⟩, h5⟩, h6⟩ := h
  unfold W7 W6 W5 W4 W3 W2
  rw [StableHlo.after_of_writes_sub _ _ hostOps0_6_wsub h6, StableHlo.after_of_writes_sub _ _ hostOps0_5_wsub h5,
    StableHlo.after_of_writes_sub _ _ hostOps0_4_wsub h4, StableHlo.after_of_writes_sub _ _ hostOps0_3_wsub h3,
    StableHlo.after_of_writes_sub _ _ hostOps0_2_wsub h2, StableHlo.after_of_writes_sub _ _ hostOps0_1_wsub h1]

theorem W7_arg (c : Dev nD) (r : Ref sig .tc)
    (h : r ∉ hostOps0_1_w ++ hostOps0_2_w ++ hostOps0_3_w ++ hostOps0_4_w ++ hostOps0_5_w ++ hostOps0_6_w) (h0 : r ∉ hostOps0_w) :
    W7 m ρ c (Proc.devRef .tc r) = m ((c : Thread nD τ).loc r) := by
  rw [W7_eq m ρ c r h]
  unfold W1
  rw [StableHlo.after_of_writes_sub _ _ hostOps0_wsub h0]
  rfl

theorem V_arg0 (c : Dev nD) : V m ρ c main_arg0 = m ((c : Thread nD τ).loc main_arg0) := W7_arg m ρ c _ (by decide) (by decide)
theorem V_arg1 (c : Dev nD) : V m ρ c main_arg1 = m ((c : Thread nD τ).loc main_arg1) := W7_arg m ρ c _ (by decide) (by decide)
theorem V_arg2 (c : Dev nD) : V m ρ c main_arg2 = m ((c : Thread nD τ).loc main_arg2) := W7_arg m ρ c _ (by decide) (by decide)
theorem V_arg3 (c : Dev nD) : V m ρ c main_arg3 = m ((c : Thread nD τ).loc main_arg3) := W7_arg m ρ c _ (by decide) (by decide)

theorem tail1 : ((hostOps0 : List (HloOp τ sig (Elt F))).tail).Forall fun op => op.writes ⊆ ((hostOps0_w.tail).map (Proc.devRef (τ := τ) .tc)).toFinset :=
  ⟨wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide)⟩
theorem tail2 : ((hostOps0 : List (HloOp τ sig (Elt F))).tail.tail).Forall fun op => op.writes ⊆ ((hostOps0_w.tail.tail).map (Proc.devRef (τ := τ) .tc)).toFinset :=
  ⟨wsub rfl (by decide), wsub rfl (by decide), wsub rfl (by decide), wsub rfl (by decide), wsub rfl (by decide), wsub rfl (by decide), wsub rfl (by decide), wsub rfl (by decide), wsub rfl (by decide), wsub rfl (by decide), wsub rfl (by decide), wsub rfl (by decide)⟩

/-- The tables, when the kernel starts. -/
theorem V_c (c : Dev nD) : V m ρ c main_c = tab0 (F := F) := by
  rw [show V m ρ c main_c = _ from W7_eq m ρ c main_c (by decide)]
  unfold W1
  rw [StableHlo.after_cons]
  refine (StableHlo.after_of_writes_sub (r := main_c) (hostOps0 (F := F)).tail _ tail1 (by decide)).trans ?_
  exact StableHlo.nullary_result ..
theorem V_c0 (c : Dev nD) : V m ρ c main_c_0 = tab1 (F := F) := by
  rw [show V m ρ c main_c_0 = _ from W7_eq m ρ c main_c_0 (by decide)]
  unfold W1
  rw [StableHlo.after_cons, StableHlo.after_cons]
  refine (StableHlo.after_of_writes_sub (r := main_c_0) (hostOps0 (F := F)).tail.tail _ tail2 (by decide)).trans ?_
  exact StableHlo.nullary_result ..

theorem V_tabs (c : Dev nD) : ∀ k, (adm (F := F)).1 k = W7 m ρ c (Proc.devRef .tc (pre0.ref k))
  | 0 => (V_c m ρ c).symm
  | 1 => (V_c0 m ρ c).symm
  | ⟨_ + 2, h⟩ => absurd h (Nat.not_lt.2 (Nat.le_add_left _ _))

end Cert.Proof.Flash

end
end
-- ==== Proof.Run.lean ====
/-
  The whole run of the gradient kernel's program: the host's operations, then the kernel over its grid.
-/
module

public import proofs.«01_k».proof.Proof.Host

@[expose] public section

noncomputable section

namespace Cert.Proof.Flash

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## The kernel's own semaphore -/

abbrev osem : Fin 1 → SemLoc sig := fun _ => SemLoc.dma 16

theorem ownSemFacts : Pipeline.OwnSemFacts spec0 osem := by decide

omit [FloatOps F] [Named F] in
theorem ownSems0_eq (c : Dev nD) :
    (Pipeline.ownSems0 (Ix := Unit) (Name := ℕ) (U := UU nD τ) (Lvl := ℕ) (Val := Elt F) (τ := τ) osem c : sProp 𝕄)
      = semVal ((c : Thread nD τ), (SemLoc.dma 16 : SemLoc sig)) 0 :=
  Pipeline.ownSems0_eq_of_list c osem [0] (by decide) (by decide)

/-! ## The unscoped buffers, sorted -/

abbrev ucs : Finset (DevRef τ sig) := Pipeline.ucRefs τ sig

/-- The array of query gradients and the first three arguments, as device buffers. -/
abbrev four : Finset (DevRef τ sig) := ({main_v39_0, main_arg0, main_arg1, main_arg2} : Finset (Ref sig .tc)).map ⟨Proc.devRef (sig := sig) .tc, Proc.devRef_injective _⟩

theorem rest_mem (r : Ref sig .tc) (hr : r.isScoped = false) (ha : ∀ w, Pipeline.arrRef spec0 w ≠ r) (ht : ∀ k, pre0.ref k ≠ r) :
    Proc.devRef .tc r ∈ (ucs \ Pipeline.arrRefs spec0) \ Pipeline.tblRefs pre0 := by
  refine Finset.mem_sdiff.2 ⟨Finset.mem_sdiff.2 ⟨Finset.mem_filter.mpr ⟨StableHlo.devRef_mem_tcRefs _, fun h' => Bool.false_ne_true (hr.symm.trans h')⟩, ?_⟩, ?_⟩
  · intro h
    obtain ⟨r', hr', e⟩ := Finset.mem_map.mp h
    obtain ⟨w, -, rfl⟩ := Finset.mem_image.mp hr'
    exact ha w (Proc.devRef_injective _ e)
  · intro h
    obtain ⟨r', hr', e⟩ := Finset.mem_map.mp h
    obtain ⟨w, -, rfl⟩ := Finset.mem_image.mp hr'
    exact ht w (Proc.devRef_injective _ e)

theorem four_sub : four ⊆ (ucs \ Pipeline.arrRefs spec0) \ Pipeline.tblRefs pre0 := by
  intro b hb
  obtain ⟨r, hr, rfl⟩ := Finset.mem_map.mp hb
  simp only [Finset.mem_insert, Finset.mem_singleton] at hr
  rcases hr with rfl | rfl | rfl | rfl <;> exact rest_mem _ (by decide) (by decide) (by decide)

omit [FloatOps F] [Named F] in
theorem held_four (c : Dev nD) (W : Valuation τ sig (Elt F)) :
    (StableHlo.held (c : Thread nD τ) four W : sProp 𝕄)
      = iprop(((c : Thread nD τ).loc main_v39_0 ↦{fullShare} W (Proc.devRef .tc main_v39_0)) ∗ ((c : Thread nD τ).loc main_arg0 ↦{fullShare} W (Proc.devRef .tc main_arg0))
        ∗ ((c : Thread nD τ).loc main_arg1 ↦{fullShare} W (Proc.devRef .tc main_arg1)) ∗ ((c : Thread nD τ).loc main_arg2 ↦{fullShare} W (Proc.devRef .tc main_arg2))) := by
  unfold StableHlo.held four
  rw [bigSep_map, bigSep_insert (by decide), bigSep_insert (by decide), bigSep_insert (by decide), bigSep_singleton]
  rfl

/-! ## The segments -/

abbrev 𝒱₀ : Variants := Variants.none
abbrev L : GSem nD τ sig → Finset Unit := fun _ => ∅
abbrev lv : GSem nD τ sig → Unit → ℕ := fun _ _ => 0
abbrev adms : (p : Fin 1) → (pcfgs (F := F) p).Adm := fun _ => adm

abbrev R (c : Dev nD) : sProp 𝕄 := iprop(∃ W, owes (c : Thread nD τ) (0 : CellTallies nD τ sig Unit) W)

abbrev Hs := Pipeline.HostSeg (Name := ℕ) (U := UU nD τ) (pcfgs (F := F)) defs₀ 𝒱₀ L lv

abbrev hseg (ops : List (HloOp τ sig (Elt F))) (hs : ops.Forall fun op => op.bufs ⊆ StableHlo.tcRefs τ sig) (hf : ∀ op ∈ ops, op.fresh = ∅)
    (W : Dev nD → Valuation τ sig (Elt F)) : Hs (F := F) :=
  Pipeline.HostSeg.ofOps _ _ _ _ _ ucs ops (fun op h => Pipeline.sub_ucRefs op ((List.forall_iff_forall_mem.mp hs) op h)) hf W R

def seg0 : Hs (F := F) := hseg hostOps0 hostOps0_sub hostOps0_fresh (W0 m ρ)
def seg1 : Hs (F := F) := hseg hostOps0_1 hostOps0_1_sub hostOps0_1_fresh (W1 m ρ)
def seg2 : Hs (F := F) := hseg hostOps0_2 hostOps0_2_sub hostOps0_2_fresh (W2 m ρ)
def seg3 : Hs (F := F) := hseg hostOps0_3 hostOps0_3_sub hostOps0_3_fresh (W3 m ρ)
def seg4 : Hs (F := F) := hseg hostOps0_4 hostOps0_4_sub hostOps0_4_fresh (W4 m ρ)
def seg5 : Hs (F := F) := hseg hostOps0_5 hostOps0_5_sub hostOps0_5_fresh (W5 m ρ)
def seg6 : Hs (F := F) := hseg hostOps0_6 hostOps0_6_sub hostOps0_6_fresh (W6 m ρ)

/-- What the kernel leaves for the end: its windows' arrays at their final contents, the query gradients, the first three
    arguments. -/
abbrev Tₙ (c : Dev nD) : sProp 𝕄 :=
  iprop((dats m ρ 0 c).arrays ((dats m ρ 0 c).arrAt · (cfgA (F := F)).N)
    ∗ ((c : Thread nD τ).loc main_v39_0 ↦{fullShare} hAt m ρ c (cfgA (F := F)).N)
    ∗ ((c : Thread nD τ).loc main_arg0 ↦{fullShare} V m ρ c main_arg0)
    ∗ ((c : Thread nD τ).loc main_arg1 ↦{fullShare} V m ρ c main_arg1)
    ∗ ((c : Thread nD τ).loc main_arg2 ↦{fullShare} V m ρ c main_arg2))

theorem prefs_tbl (c : Dev nD) : (Pipeline.prefHeld pre0 c (fun _ => fullShare) (adm (F := F)).1 : sProp 𝕄) = tbl c tab0 tab1 := by
  unfold Pipeline.prefHeld
  rw [bigSep_univ_eq_bigSepL [(0 : Fin 2), (1 : Fin 2)] (by decide) (by decide)]
  rfl

set_option backward.isDefEq.respectTransparency.types false in
def reg0 : Pipeline.RegionSeg (pcfgs (F := F)) adms (dats m ρ) () defs₀ 𝒱₀ L lv 0 where
  win := winFacts0.to₀
  block_pos := block_pos0
  stage_whole := stage_whole0
  K := Fin 1
  osem := osem
  ho := ownSemFacts
  hbody c := (body_obligation m ρ c).loose
  hwaits := Pipeline.hwaits_of_owed_zero _ _ _ _ L lv 0 fun _ _ => rfl
  pre c := iprop(StableHlo.held (c : Thread nD τ) ucs (W7 m ρ c) ∗ R c)
  post c := iprop(Tₙ m ρ c ∗ R c)
  X c := iprop(((c : Thread nD τ).loc main_v39_0 ↦{fullShare} V m ρ c main_v39_0) ∗ semVal ((c : Thread nD τ), (SemLoc.dma 16 : SemLoc sig)) 0)
  Y c := ((c : Thread nD τ).loc main_v39_0 ↦{fullShare} hAt m ρ c (cfgA (F := F)).N)
  Z c := iprop(((c : Thread nD τ).loc main_arg0 ↦{fullShare} V m ρ c main_arg0)
    ∗ ((c : Thread nD τ).loc main_arg1 ↦{fullShare} V m ρ c main_arg1)
    ∗ ((c : Thread nD τ).loc main_arg2 ↦{fullShare} V m ρ c main_arg2))
  hentry c := by
    rw [ownSems0_eq, StableHlo.held_sub_split (c : Thread nD τ) (Pipeline.arrRefs_sub_ucRefs spec0 winFacts0.arr_unscoped) (W7 m ρ c),
      StableHlo.held_sub_split (c : Thread nD τ) (Pipeline.tblRefs_sub_ucRefs_sdiff spec0 pre0 preFacts0.unscoped preFacts0.disj) (W7 m ρ c),
      StableHlo.held_sub_split (c : Thread nD τ) four_sub (W7 m ρ c), held_four,
      ← Pipeline.prefHeld_held pre0 preFacts0.inj c (adm (F := F)).1 (W7 m ρ c) (V_tabs m ρ c)]
    have ha := Pipeline.arrays_held (pcfgs (F := F)) adms (dats m ρ) 0 launch0 c ((dats m ρ 0 c).share_full fun _ => rfl)
      (dats m ρ 0 c).A (W7 m ρ c) (A_eq m ρ c)
    iintro ⟨⟨⟨Ha, Ht, ⟨Hd, H0, H1, H2⟩, -⟩, HO⟩, Hos, -⟩
    imodintro
    isplitl [Ha]
    · iapply (Entails.of_eq ha.symm); iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hd Hos]
    · isplitl [Hd]; · iexact Hd
      iexact Hos
    isplitl [H0]; · iexact H0
    isplitl [H1]; · iexact H1
    iexact H2
  hin c := by
    rw [Φ_eq, show (((0 : Fin ((cfgA (F := F)).N + 1)).val)) = 0 from rfl]
    unfold Φn
    simp only [owns_whole_eq]
    rw [← prefs_tbl]
    iintro ⟨⟨Hd, Hos⟩, Ht, Hr⟩
    ihave Hr' := (Entails.of_eq (scopedRest0_eq (Val := Elt F) c)) $$ Hr
    icases Hr' with ⟨%f, Hf⟩
    isplitl [Hf]
    · iexists f; isplitr; · ipureintro; exact fun h => absurd rfl h
      iexists f; isplitr; swap; (· iexact Hf); ipureintro; rfl
    isplitl [Hd]
    · iexists _; isplitr; swap; (· iexact Hd); ipureintro; rfl
    isplitl [Hos]; · iexact Hos
    iexact Ht
  hout c := by
    rw [ownSems0_eq, Φ_eq]
    unfold Φn
    simp only [owns_whole_eq]
    iintro ⟨⟨%S, -, %f, -, Hf⟩, ⟨%f0, %e, Hd⟩, Hos, -⟩
    subst e
    isplitl [Hd]; · iexact Hd
    isplitl [Hos]; · iexact Hos
    iapply (Entails.of_eq (scopedRest0_eq (Val := Elt F) c).symm)
    iexists f; iexact Hf
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-! ## The launch -/

abbrev segs : List (Pipeline.Seg (pcfgs (F := F)) adms (dats m ρ) () defs₀ 𝒱₀ L lv) :=
  [.host (seg0 m ρ), .host (seg1 m ρ), .host (seg2 m ρ), .host (seg3 m ρ), .host (seg4 m ρ), .host (seg5 m ρ), .host (seg6 m ρ), .region (reg0 m ρ)]

set_option backward.isDefEq.respectTransparency.types false in
set_option maxRecDepth 20000 in
theorem main_wp (c : Dev nD) (Q : PUnit → sProp 𝕄) :
    wp frame (wpE (defs (F := F)) 𝒱₀.lift (c.tc : Thread nD τ) none) Set.univ (Pipeline.Seg.run (segs m ρ)) Q
      ⊢ wp frame (wpE (defs (F := F)) 𝒱₀.lift (c.tc : Thread nD τ) none) Set.univ (main (F := F) c) Q := by
  rw [main_chain c, Pipeline.Seg.run_eq_chain]
  simp only [segs, List.map, Pipeline.Seg.prog, seg0, seg1, seg2, seg3, seg4, seg5, seg6, hseg, Pipeline.HostSeg.ofOps]
  exact .rfl

/-- The launch element: the pipeline library's at the staging cells; no counter yet. -/
def u₀ : UU nD τ := (initOf (Pipeline.cells (pcs (F := F)) (cellOf_inj adms)) (Pipeline.launchToks (pcs (F := F)) (cellOf_inj adms)), 1)

/-- A window's array after the run. -/
def finalA (c : Dev nD) (w : Fin 8) : Buf (Elt F) (((cfgA (F := F)).win w).arr.view.loc (c : Thread nD τ)) := (dats m ρ 0 c).arrAt w (cfgA (F := F)).N

/-- The arrays after the run: the windows' at what the library computes, the query gradients at what was copied, the
    arguments as launched. -/
def QC : PUnit × MemSt nD τ sig (Elt F) → Prop := fun r =>
  ∀ c : Dev nD, (∀ w : Fin 8, r.2.mem (((cfgA (F := F)).win w).arr.view.loc (c : Thread nD τ)) = finalA m ρ c w)
    ∧ r.2.mem ((c : Thread nD τ).loc main_v39_0) = hAt m ρ c (cfgA (F := F)).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
set_option maxRecDepth 20000 in
theorem run_main : θ_run defs (onTc (τ := τ) (main (F := F))) (s₀ m ρ) (fun r => QC m ρ r ∧ r.2.sem = fun _ => 0) :=
  Pipeline.θ_run_regions_kit_sems (pcfgs (F := F)) adms (dats m ρ) () (cellOf_inj adms) EP defs₀ 𝒱₀ L lv m ρ main (segs m ρ)
    (main_wp m ρ)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucs (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucs (W0 m ρ c) from Pipeline.unscopedBufs_held c (W0 m ρ c)]
      iintro ⟨⟨Hh, -, HO, -, -, -⟩, -⟩
      imodintro
      isplitl [Hh]; · iexact Hh
      iexists ∅; iexact HO)
    (QY := fun c s => (∀ w : Fin 8, s.mem (((cfgA (F := F)).win w).arr.view.loc (c : Thread nD τ)) = finalA m ρ c w)
      ∧ s.mem ((c : Thread nD τ).loc main_v39_0) = hAt m ρ c (cfgA (F := F)).N
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Tₙ]; rw [V_arg0, V_arg1, V_arg2]
      iintro ⟨⟨Ha, Hd, H0, H1, H2⟩, HSI⟩
      icombine HSI Hd gives %hd
      icombine HSI H0 gives %h0
      icombine HSI H1 gives %h1
      icombine HSI H2 gives %h2
      ihave Hr := (Pipeline.arrays_read (pcfgs (F := F)) adms (dats m ρ) (launch0 (F := F)).arr_whole c ((dats m ρ 0 c).share_full fun _ => rfl) _ s') $$ [Ha HSI]
      · isplitl [Ha] <;> iassumption
      icases Hr with ⟨%ha, HSI⟩
      imodintro
      isplitr; · ipureintro; exact ⟨ha, Buf.eq_of_forall_mem_univ hd, Buf.eq_of_forall_mem_univ h0, Buf.eq_of_forall_mem_univ h1, Buf.eq_of_forall_mem_univ h2⟩
      iexact HSI)
    (hQ := fun _ h hz => ⟨h, funext fun g => hz g (.inr (by revert g; decide))⟩)

/-- The window of the output gradients is an input: its array, the fourth argument, ends as launched. -/
theorem finalA_arg3 (c : Dev nD) : finalA m ρ c 3 = m ((c : Thread nD τ).loc main_arg3) :=
  ((dats (F := F) m ρ 0 c).arrAt_in (3 : Fin 8) rfl _).trans (V_arg3 m ρ c)

/-- Every argument ends as launched, and every semaphore at zero. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ ∀ ℓ, r.2.sem ℓ = 0) :=
  (θ_run defs _ _).mono (fun r h => ⟨fun c => ⟨(h.1 c).2.2.1, (h.1 c).2.2.2.1, (h.1 c).2.2.2.2, ((h.1 c).1 3).trans (finalA_arg3 m ρ c)⟩,
    fun ℓ => by rw [h.2]⟩) (run_main m ρ)

end Cert.Proof.Flash

end
end
-- ==== Proof.Math.lean ====
/-
  The attention's gradients over the real numbers: what the reference computes and what one tile of the kernel adds.
-/
module

public import Idealize.ShloMosaic.PureOps.Ideal

@[expose] public section

noncomputable section

namespace Cert.Proof.Flash

/-- The four arguments as real numbers: queries, keys, values, the gradient of the output. -/
structure Args where
  q : Fin 8 → Fin 8192 → Fin 192 → ℝ
  k : Fin 8 → Fin 8192 → Fin 192 → ℝ
  v : Fin 8 → Fin 8192 → Fin 128 → ℝ
  g : Fin 8192 → Fin 1024 → ℝ

namespace Args

variable (a : Args)

/-- Queries and keys with their lanes padded by zeros. -/
def Q (h : Fin 8) (r : Fin 8192) (d : Fin 256) : ℝ := if hd : d.val < 192 then a.q h r ⟨d.val, hd⟩ else 0
def K (h : Fin 8) (r : Fin 8192) (d : Fin 256) : ℝ := if hd : d.val < 192 then a.k h r ⟨d.val, hd⟩ else 0

/-- A head's columns of the output's gradient. -/
def col (h : Fin 8) (d : Fin 128) : Fin 1024 := ⟨128 * h.val + d.val, by omega⟩
def G (h : Fin 8) (r : Fin 8192) (d : Fin 128) : ℝ := a.g r (col h d)

/-- The score of a key for a query. -/
def sc (h : Fin 8) (r j : Fin 8192) : ℝ := (∑ d, a.q h r d * a.k h j d) / √192
/-- The greatest score of a row's keys. -/
def mx (h : Fin 8) (r : Fin 8192) : ℝ := (Finset.univ.filter fun j : Fin 8192 => j ≤ r).sup' ⟨r, by simp⟩ (a.sc h r)
def ex (h : Fin 8) (r j : Fin 8192) : ℝ := if j ≤ r then Real.exp (a.sc h r j - a.mx h r) else 0
def sm (h : Fin 8) (r : Fin 8192) : ℝ := ∑ j, a.ex h r j
/-- The weights. -/
def p (h : Fin 8) (r j : Fin 8192) : ℝ := a.ex h r j / a.sm h r
/-- The weights' gradients, their row sums, and the scores' gradients. -/
def dp (h : Fin 8) (r j : Fin 8192) : ℝ := ∑ d, a.G h r d * a.v h j d
def de (h : Fin 8) (r : Fin 8192) : ℝ := ∑ j, a.p h r j * a.dp h r j
def ds (h : Fin 8) (r j : Fin 8192) : ℝ := a.p h r j * (a.dp h r j - a.de h r) / √192

/-- The three results. -/
def dq (h : Fin 8) (r : Fin 8192) (d : Fin 256) : ℝ := ∑ j, a.ds h r j * a.K h j d
def dk (h : Fin 8) (j : Fin 8192) (d : Fin 256) : ℝ := ∑ r, a.ds h r j * a.Q h r d
def dv (h : Fin 8) (j : Fin 8192) (d : Fin 128) : ℝ := ∑ r, a.p h r j * a.G h r d

theorem ex_nonneg (h : Fin 8) (r j : Fin 8192) : 0 ≤ a.ex h r j := by
  unfold ex; split_ifs
  · exact (Real.exp_pos _).le
  · exact le_rfl

theorem sm_pos (h : Fin 8) (r : Fin 8192) : 0 < a.sm h r := by
  refine Finset.sum_pos' (fun j _ => a.ex_nonneg h r j) ⟨r, Finset.mem_univ _, ?_⟩
  unfold ex; rw [if_pos le_rfl]; exact Real.exp_pos _

theorem p_zero (h : Fin 8) (r j : Fin 8192) (hj : ¬ j ≤ r) : a.p h r j = 0 := by
  unfold p ex; rw [if_neg hj, zero_div]
theorem ds_zero (h : Fin 8) (r j : Fin 8192) (hj : ¬ j ≤ r) : a.ds h r j = 0 := by
  unfold ds; rw [a.p_zero h r j hj, zero_mul, zero_div]

/-- A padded product's lanes beyond the first 192 add nothing. -/
theorem sum_QK (h : Fin 8) (r j : Fin 8192) : ∑ d, a.K h j d * a.Q h r d = ∑ d, a.q h r d * a.k h j d := by
  rw [Fin.sum_univ_add (a := 192) (b := 64)]
  rw [show (∑ i : Fin 64, a.K h j (Fin.natAdd 192 i) * a.Q h r (Fin.natAdd 192 i)) = 0 from Finset.sum_eq_zero fun d _ => by
    unfold Q; rw [dif_neg (by simp), mul_zero], add_zero]
  refine Finset.sum_congr rfl fun d _ => ?_
  unfold Q K
  rw [dif_pos (by simp), dif_pos (by simp), mul_comm]
  rfl

/-- The row's sum of logarithms, base two. -/
def lse (h : Fin 8) (r : Fin 8192) : ℝ := (a.mx h r + Real.log (a.sm h r)) / Real.log 2

/-- What the kernel raises two to is the weight. -/
theorem tile_p (h : Fin 8) (r j : Fin 8192) (hj : j ≤ r) :
    Real.exp (Real.log 2 * ((∑ d, a.K h j d * a.Q h r d) * ((√192)⁻¹ * (Real.log 2)⁻¹) - a.lse h r)) = a.p h r j := by
  have h2 : Real.log 2 ≠ 0 := (Real.log_pos one_lt_two).ne'
  rw [sum_QK]
  unfold lse p ex
  rw [if_pos hj]
  rw [show Real.log 2 * ((∑ d, a.q h r d * a.k h j d) * ((√192)⁻¹ * (Real.log 2)⁻¹) - (a.mx h r + Real.log (a.sm h r)) / Real.log 2)
      = (a.sc h r j - a.mx h r) - Real.log (a.sm h r) from by
    unfold sc; field_simp; ring]
  rw [Real.exp_sub _ (Real.log _), Real.exp_log (a.sm_pos h r)]

/-- The rows' sums of weights times their gradients are those of the output times its gradient. -/
theorem de_eq (h : Fin 8) (r : Fin 8192) : a.de h r = ∑ d, (∑ j, a.v h j d * a.p h r j) * a.G h r d := by
  unfold de dp
  simp_rw [Finset.mul_sum, Finset.sum_mul]
  rw [Finset.sum_comm]
  exact Finset.sum_congr rfl fun d _ => Finset.sum_congr rfl fun j _ => by ring

end Args

/-! ## The blocks' places -/

/-- The head, the row and the key that a tile's places are. -/
def hd (g : Fin 4) (h : Fin 2) : Fin 8 := ⟨2 * g.val + h.val, by omega⟩
def rw' (qi : Fin 16) (r : Fin 512) : Fin 8192 := ⟨512 * qi.val + r.val, by omega⟩
def ky (kj : Fin 8) (j : Fin 1024) : Fin 8192 := ⟨1024 * kj.val + j.val, by omega⟩

theorem sum_rows (f : Fin 8192 → ℝ) : ∑ r, f r = ∑ qi : Fin 16, ∑ r : Fin 512, f (rw' qi r) := by
  rw [← Fintype.sum_prod_type']
  refine (Fintype.sum_equiv (finProdFinEquiv (m := 16) (n := 512)) _ _ fun x => ?_).symm
  exact congrArg f (Fin.ext (by simp [rw', finProdFinEquiv]; ring))

theorem sum_keys (f : Fin 8192 → ℝ) : ∑ r, f r = ∑ kj : Fin 8, ∑ j : Fin 1024, f (ky kj j) := by
  rw [← Fintype.sum_prod_type']
  refine (Fintype.sum_equiv (finProdFinEquiv (m := 8) (n := 1024)) _ _ fun x => ?_).symm
  exact congrArg f (Fin.ext (by simp [ky, finProdFinEquiv]; ring))

namespace Args
variable (a : Args)

/-- What the tile of rows `qi` and keys `kj` adds to the three results. -/
def tQ (g : Fin 4) (qi : Fin 16) (kj : Fin 8) (h : Fin 2) (r : Fin 512) (d : Fin 256) : ℝ :=
  ∑ j, a.ds (hd g h) (rw' qi r) (ky kj j) * a.K (hd g h) (ky kj j) d
def tK (g : Fin 4) (qi : Fin 16) (kj : Fin 8) (h : Fin 2) (j : Fin 1024) (d : Fin 256) : ℝ :=
  ∑ r, a.ds (hd g h) (rw' qi r) (ky kj j) * a.Q (hd g h) (rw' qi r) d
def tV (g : Fin 4) (qi : Fin 16) (kj : Fin 8) (h : Fin 2) (j : Fin 1024) (d : Fin 128) : ℝ :=
  ∑ r, a.p (hd g h) (rw' qi r) (ky kj j) * a.G (hd g h) (rw' qi r) d

theorem above (qi : Fin 16) (kj : Fin 8) (hlt : qi.val < 2 * kj.val) (r : Fin 512) (j : Fin 1024) : ¬ ky kj j ≤ rw' qi r := by
  simp only [ky, rw', Fin.mk_le_mk, not_le]; omega

theorem tQ_zero (g : Fin 4) (qi : Fin 16) (kj : Fin 8) (hlt : qi.val < 2 * kj.val) (h : Fin 2) (r : Fin 512) (d : Fin 256) : a.tQ g qi kj h r d = 0 :=
  Finset.sum_eq_zero fun j _ => by rw [a.ds_zero _ _ _ (above qi kj hlt r j), zero_mul]
theorem tK_zero (g : Fin 4) (qi : Fin 16) (kj : Fin 8) (hlt : qi.val < 2 * kj.val) (h : Fin 2) (j : Fin 1024) (d : Fin 256) : a.tK g qi kj h j d = 0 :=
  Finset.sum_eq_zero fun r _ => by rw [a.ds_zero _ _ _ (above qi kj hlt r j), zero_mul]
theorem tV_zero (g : Fin 4) (qi : Fin 16) (kj : Fin 8) (hlt : qi.val < 2 * kj.val) (h : Fin 2) (j : Fin 1024) (d : Fin 128) : a.tV g qi kj h j d = 0 :=
  Finset.sum_eq_zero fun r _ => by rw [a.p_zero _ _ _ (above qi kj hlt r j), zero_mul]

theorem dq_tiles (g : Fin 4) (qi : Fin 16) (h : Fin 2) (r : Fin 512) (d : Fin 256) :
    a.dq (hd g h) (rw' qi r) d = ∑ kj, a.tQ g qi kj h r d := sum_keys _
theorem dk_tiles (g : Fin 4) (kj : Fin 8) (h : Fin 2) (j : Fin 1024) (d : Fin 256) :
    a.dk (hd g h) (ky kj j) d = ∑ qi, a.tK g qi kj h j d := sum_rows _
theorem dv_tiles (g : Fin 4) (kj : Fin 8) (h : Fin 2) (j : Fin 1024) (d : Fin 128) :
    a.dv (hd g h) (ky kj j) d = ∑ qi, a.tV g qi kj h j d := sum_rows _

end Args

end Cert.Proof.Flash

end
-- ==== Proof.Pays.lean ====
/-
  The kernel's values over the extended reals, read at an index.
-/
module

public import proofs.«01_k».proof.Proof.State
public import proofs.«01_k».proof.Proof.Math
public import Idealize.ShloMosaic.Lib.Pointwise
public import Idealize.ShloMosaic.PureOps.IdealRules

@[expose] public section

noncomputable section

namespace Cert.Proof.Flash

open Cert.KernelIdeal Cert.KernelIdeal.Gen
open Idealize.ShloMosaic Idealize.ShloMosaic.VecWindow

/-! ## The named constants -/

theorem named_c2 : (Named.named κ "c2" 1037384597#32 : Ideal .f32) = (((√192)⁻¹ * (Real.log 2)⁻¹ : ℝ) : EReal) :=
  IdealRules.named_const.ideal_named_scalar _ _ _ _ rfl
theorem named_scale : (Named.named κ "scale" 1033096506#32 : Ideal .f32) = (((√192)⁻¹ : ℝ) : EReal) :=
  IdealRules.named_const.ideal_named_scalar _ _ _ _ rfl

/-- The value two is raised to, at a key and a row. -/
def wt {n : ℕ} (q : Vec Ideal S2x512x256 .bf16) (k : (⟨3, ![2, n, 256]⟩ : Shape).Idx → EReal) (l : Vec Ideal S2x1x512 .f32) (h : Fin 2) (j : Fin n) (r : Fin 512) : EReal :=
  Ideal.exp2 ((∑ x : Fin 256, k (ix3 h j x) * q (ix3 h r x)) * (((√192)⁻¹ * (Real.log 2)⁻¹ : ℝ) : EReal) - l (ix3 h 0 r))

theorem pay25_at (q : Vec Ideal S2x512x256 .bf16) (k : Vec Ideal S2x1024x256 .bf16) (l : Vec Ideal S2x1x512 .f32) (h : Fin 2) (j : Fin 1024) (r : Fin 512) :
    k0_pay25 (F := Ideal) q k l (ix3 h j r) = wt q k l h j r := by
  pointwise [k0_pay25, k0_pay22, k0_pay23]
  rw [named_c2]; rfl

/-- How far a query block's first row lies in its block of keys, as the kernel computes it. -/
def offw (w : BitVec 32) : BitVec 32 :=
  Scalar.muli
            (Scalar.select
              (Scalar.andi
                (Scalar.xori
                  (Scalar.cmpi CmpIPredicate.slt
                    (Scalar.remsi w (Scalar.select (Scalar.cmpi CmpIPredicate.eq 2#32 0#32) 1#32 2#32)) 0#32)
                  (Scalar.cmpi CmpIPredicate.slt (Scalar.select (Scalar.cmpi CmpIPredicate.eq 2#32 0#32) 1#32 2#32)
                    0#32))
                (Scalar.cmpi CmpIPredicate.ne
                  (Scalar.remsi w (Scalar.select (Scalar.cmpi CmpIPredicate.eq 2#32 0#32) 1#32 2#32)) 0#32))
              (Scalar.addi (Scalar.remsi w (Scalar.select (Scalar.cmpi CmpIPredicate.eq 2#32 0#32) 1#32 2#32))
                (Scalar.select (Scalar.cmpi CmpIPredicate.eq 2#32 0#32) 1#32 2#32))
              (Scalar.remsi w (Scalar.select (Scalar.cmpi CmpIPredicate.eq 2#32 0#32) 1#32 2#32)))
            512#32

theorem mask (j r : ℕ) (hj : j < 1024) (hr : r < 512) (n : ℕ) (hn : n ≤ 512) (A B : EReal) :
    Scalar.select (IntOp.cmpi CmpIPredicate.sle (BitVec.ofNat 32 j) (IntOp.addi (BitVec.ofNat 32 r) (BitVec.ofNat 32 n))) A B = if j ≤ r + n then A else B := by
  have e : (BitVec.ofNat 32 j).sle (BitVec.ofNat 32 r + BitVec.ofNat 32 n) = decide (j ≤ r + n) := by
    rw [← BitVec.ofNat_add, BitVec.sle_eq_decide, BitVec.toInt_eq_toNat_of_lt, BitVec.toInt_eq_toNat_of_lt, BitVec.toNat_ofNat, BitVec.toNat_ofNat]
    · rw [Nat.mod_eq_of_lt (by omega), Nat.mod_eq_of_lt (by omega)]; congr 1; apply propext; norm_cast
    all_goals rw [BitVec.toNat_ofNat, Nat.mod_eq_of_lt (by omega)]; omega
  unfold IntOp.cmpi IntOp.addi
  simp only [e]
  by_cases h : j ≤ r + n <;> simp [h, Scalar.select]

theorem pay7_at (w : BitVec 32) (n : ℕ) (hw : offw w = BitVec.ofNat 32 n) (hn : n ≤ 512) (q : Vec Ideal S2x512x256 .bf16) (k : Vec Ideal S2x512x256 .bf16) (l : Vec Ideal S2x1x512 .f32) (h : Fin 2) (j : Fin 512) (r : Fin 512) :
    k0_pay7 (F := Ideal) w q k l (ix3 h j r) = if j.val ≤ r.val + n then wt q k l h j r else 0 := by
  pointwise [k0_pay7, k0_pay4, k0_pay5]
  rw [named_c2]
  refine Eq.trans ?_ (mask j r (by omega) r.isLt n hn _ _)
  rw [← hw]; rfl

theorem pay16_at (w : BitVec 32) (n : ℕ) (hw : offw w = BitVec.ofNat 32 n) (hn : n ≤ 512) (q : Vec Ideal S2x512x256 .bf16) (k : Vec Ideal S2x1024x256 .bf16) (l : Vec Ideal S2x1x512 .f32) (h : Fin 2) (j : Fin 1024) (r : Fin 512) :
    k0_pay16 (F := Ideal) w q k l (ix3 h j r) = if j.val ≤ r.val + n then wt q k l h j r else 0 := by
  pointwise [k0_pay16, k0_pay13, k0_pay14]
  rw [named_c2]
  refine Eq.trans ?_ (mask j r (by omega) r.isLt n hn _ _)
  rw [← hw]; rfl

/-- The two heads' output gradients, one above the other. -/
def gpair (a b : Vec Ideal S512x128 .f32) (h : Fin 2) (r : Fin 512) (d : Fin 128) : EReal := if h.val < 1 then a (ix2 r d) else b (ix2 r d)

theorem pay6_at (a b : Vec Ideal S512x128 .f32) (h : Fin 2) (r : Fin 512) (d : Fin 128) : k0_pay6 (F := Ideal) a b (ix3 h r d) = gpair a b h r d := by
  pointwise [k0_pay6]; rfl
theorem pay15_at (a b : Vec Ideal S512x128 .f32) (h : Fin 2) (r : Fin 512) (d : Fin 128) : k0_pay15 (F := Ideal) a b (ix3 h r d) = gpair a b h r d := by
  pointwise [k0_pay15]; rfl
theorem pay24_at (a b : Vec Ideal S512x128 .f32) (h : Fin 2) (r : Fin 512) (d : Fin 128) : k0_pay24 (F := Ideal) a b (ix3 h r d) = gpair a b h r d := by
  pointwise [k0_pay24]; rfl

theorem pay9_at (g : Vec Ideal S2x512x128 .f32) (p : Vec Ideal S2x512x512 .f32) (v : Vec Ideal S2x512x128 .bf16) (dl : Vec Ideal S2x1x512 .f32) (h : Fin 2) (j r : Fin 512) :
    k0_pay9 (F := Ideal) g p v dl (ix3 h j r) = p (ix3 h j r) * (∑ x : Fin 128, v (ix3 h j x) * g (ix3 h r x) - dl (ix3 h 0 r)) * (((√192)⁻¹ : ℝ) : EReal) := by
  pointwise [k0_pay9]
  rw [named_scale]
theorem pay18_at (g : Vec Ideal S2x512x128 .f32) (p : Vec Ideal S2x1024x512 .f32) (v : Vec Ideal S2x1024x128 .bf16) (dl : Vec Ideal S2x1x512 .f32) (h : Fin 2) (j : Fin 1024) (r : Fin 512) :
    k0_pay18 (F := Ideal) g p v dl (ix3 h j r) = p (ix3 h j r) * (∑ x : Fin 128, v (ix3 h j x) * g (ix3 h r x) - dl (ix3 h 0 r)) * (((√192)⁻¹ : ℝ) : EReal) := by
  pointwise [k0_pay18]
  rw [named_scale]
theorem pay27_at (q : Vec Ideal S2x512x256 .bf16) (k : Vec Ideal S2x1024x256 .bf16) (a b : Vec Ideal S512x128 .f32) (l : Vec Ideal S2x1x512 .f32) (v : Vec Ideal S2x1024x128 .bf16) (dl : Vec Ideal S2x1x512 .f32) (h : Fin 2) (j : Fin 1024) (r : Fin 512) :
    k0_pay27 (F := Ideal) q k a b l v dl (ix3 h j r) = wt q k l h j r * (∑ x : Fin 128, v (ix3 h j x) * gpair a b h r x - dl (ix3 h 0 r)) * (((√192)⁻¹ : ℝ) : EReal) := by
  pointwise [k0_pay27]
  simp only [named_scale, pay25_at, pay24_at]

theorem pay8_at (g : Vec Ideal S2x512x128 .f32) (p : Vec Ideal S2x512x512 .f32) (h : Fin 2) (j : Fin 512) (d : Fin 128) :
    k0_pay8 (F := Ideal) g p (ix3 h j d) = ∑ r : Fin 512, p (ix3 h j r) * g (ix3 h r d) := by
  pointwise [k0_pay8]
theorem pay17_at (g : Vec Ideal S2x512x128 .f32) (p : Vec Ideal S2x1024x512 .f32) (h : Fin 2) (j : Fin 1024) (d : Fin 128) :
    k0_pay17 (F := Ideal) g p (ix3 h j d) = ∑ r : Fin 512, p (ix3 h j r) * g (ix3 h r d) := by
  pointwise [k0_pay17]
theorem pay26_at (q : Vec Ideal S2x512x256 .bf16) (k : Vec Ideal S2x1024x256 .bf16) (a b : Vec Ideal S512x128 .f32) (l : Vec Ideal S2x1x512 .f32) (h : Fin 2) (j : Fin 1024) (d : Fin 128) :
    k0_pay26 (F := Ideal) q k a b l (ix3 h j d) = ∑ r : Fin 512, wt q k l h j r * gpair a b h r d := by
  pointwise [k0_pay26]
  simp only [pay25_at, pay24_at]

theorem pay10_at (q : Vec Ideal S2x512x256 .bf16) (g : Vec Ideal S2x512x128 .f32) (p : Vec Ideal S2x512x512 .f32) (v : Vec Ideal S2x512x128 .bf16) (dl : Vec Ideal S2x1x512 .f32) (h : Fin 2) (j : Fin 512) (d : Fin 256) :
    k0_pay10 (F := Ideal) (k0_pay4 q) g p v dl (ix3 h j d) = ∑ r : Fin 512, k0_pay9 g p v dl (ix3 h j r) * q (ix3 h r d) := by
  pointwise [k0_pay10, k0_pay4]
theorem pay20_at (q : Vec Ideal S2x512x256 .bf16) (g : Vec Ideal S2x512x128 .f32) (p : Vec Ideal S2x1024x512 .f32) (v : Vec Ideal S2x1024x128 .bf16) (dl : Vec Ideal S2x1x512 .f32) (s : Vec Ideal S2x1024x256 .f32) (h : Fin 2) (j : Fin 1024) (d : Fin 256) :
    k0_pay20 (F := Ideal) (k0_pay13 q) g p v dl s (ix3 h j d) = s (ix3 h j d) + ∑ r : Fin 512, k0_pay18 g p v dl (ix3 h j r) * q (ix3 h r d) := by
  pointwise [k0_pay20, k0_pay13]
theorem pay2_at (q : Vec Ideal S2x512x256 .bf16) (k : Vec Ideal S2x1024x256 .bf16) (a b : Vec Ideal S512x128 .f32) (l : Vec Ideal S2x1x512 .f32) (v : Vec Ideal S2x1024x128 .bf16) (dl : Vec Ideal S2x1x512 .f32) (s : Vec Ideal S2x1024x256 .f32) (h : Fin 2) (j : Fin 1024) (d : Fin 256) :
    k0_pay2 (F := Ideal) (k0_pay28 q k a b l v dl) s (ix3 h j d) = s (ix3 h j d) + ∑ r : Fin 512, k0_pay27 q k a b l v dl (ix3 h j r) * q (ix3 h r d) := by
  pointwise [k0_pay2, k0_pay28, k0_pay22]

theorem pay11_at (k : Vec Ideal S2x512x256 .bf16) (g : Vec Ideal S2x512x128 .f32) (p : Vec Ideal S2x512x512 .f32) (v : Vec Ideal S2x512x128 .bf16) (dl : Vec Ideal S2x1x512 .f32) (s : Vec Ideal S2x512x256 .f32) (h : Fin 2) (r : Fin 512) (d : Fin 256) :
    k0_pay11 (F := Ideal) (k0_pay5 k) g p v dl s (ix3 h r d) = s (ix3 h r d) + ∑ j : Fin 512, k0_pay9 g p v dl (ix3 h j r) * k (ix3 h j d) := by
  pointwise [k0_pay11, k0_pay5]
theorem pay19_at (k : Vec Ideal S2x1024x256 .bf16) (g : Vec Ideal S2x512x128 .f32) (p : Vec Ideal S2x1024x512 .f32) (v : Vec Ideal S2x1024x128 .bf16) (dl : Vec Ideal S2x1x512 .f32) (s : Vec Ideal S2x512x256 .f32) (h : Fin 2) (r : Fin 512) (d : Fin 256) :
    k0_pay19 (F := Ideal) (k0_pay14 k) g p v dl s (ix3 h r d) = s (ix3 h r d) + ∑ j : Fin 1024, k0_pay18 g p v dl (ix3 h j r) * k (ix3 h j d) := by
  pointwise [k0_pay19, k0_pay14]
theorem pay1_at (k : Vec Ideal S2x1024x256 .bf16) (p : Vec Ideal S2x1024x512 .f32) (s : Vec Ideal S2x512x256 .f32) (h : Fin 2) (r : Fin 512) (d : Fin 256) :
    k0_pay1 (F := Ideal) (k0_pay23 k) p s (ix3 h r d) = s (ix3 h r d) + ∑ j : Fin 1024, p (ix3 h j r) * k (ix3 h j d) := by
  pointwise [k0_pay1, k0_pay23]

theorem pay31_at (b s : Vec Ideal S2x1024x128 .f32) (h : Fin 2) (j : Fin 1024) (d : Fin 128) :
    k0_pay31 (F := Ideal) b (k0_pay21 s) (ix3 h j d) = s (ix3 h j d) + b (ix3 h j d) := by
  pointwise [k0_pay31, k0_pay21]
theorem pay3_at (b s : Vec Ideal S2x1024x128 .f32) (h : Fin 2) (j : Fin 1024) (d : Fin 128) :
    k0_pay3 (F := Ideal) b s (ix3 h j d) = s (ix3 h j d) + b (ix3 h j d) := by
  pointwise [k0_pay3]
theorem pay12_at (h : Fin 2) (j : Fin 512) (d : Fin 256) : k0_pay12 (F := Ideal) (ix3 h j d) = (0 : EReal) := by
  pointwise [k0_pay12]
theorem pay30_at (h : Fin 2) (j : Fin 512) (d : Fin 128) : k0_pay30 (F := Ideal) (ix3 h j d) = (0 : EReal) := by
  pointwise [k0_pay30]
theorem pay29_at (h : Fin 2) (r : Fin 8192) (d : Fin 256) : k0_pay29 (F := Ideal) (ix3 h r d) = (0 : EReal) := by
  pointwise [k0_pay29]

end Cert.Proof.Flash

end
-- ==== Proof.Tile.lean ====
/-
  What a step of the kernel adds, over the extended reals, when its blocks hold the real arrays' tiles.
-/
module

public import proofs.«01_k».proof.Proof.Pays
public import proofs.«01_k».proof.Proof.Point

@[expose] public section

noncomputable section

namespace Cert.Proof.Flash

open Cert.KernelIdeal Cert.KernelIdeal.Gen
open Idealize.ShloMosaic Idealize.ShloMosaic.VecWindow

/-! ## Real values among the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp2_real (r : ℝ) : Ideal.exp2 (r : EReal) = ((Real.exp (Real.log 2 * r) : ℝ) : EReal) := by
  rw [Ideal.exp2_coe, ← Real.rpow_def_of_pos two_pos]; rfl

/-- The blocks of a step hold the tiles of the real arrays at heads `g`, rows `qi` and keys `kj`. -/
structure Loaded (a : Args) (g : Fin 4) (qi : Fin 16) (kj : Fin 8) (x : Ins Ideal) : Prop where
  q : ∀ h r d, x.q (ix3 h r d) = ((a.Q (hd g h) (rw' qi r) d : ℝ) : EReal)
  k : ∀ h j d, x.k (ix3 h j d) = ((a.K (hd g h) (ky kj j) d : ℝ) : EReal)
  v : ∀ h j d, x.v (ix3 h j d) = ((a.v (hd g h) (ky kj j) d : ℝ) : EReal)
  g0 : ∀ r d, head0 x.g (ix2 r d) = ((a.G (hd g 0) (rw' qi r) d : ℝ) : EReal)
  g1 : ∀ r d, head1 x.g (ix2 r d) = ((a.G (hd g 1) (rw' qi r) d : ℝ) : EReal)
  lse : ∀ h r, x.lse (ix3 h 0 r) = ((a.lse (hd g h) (rw' qi r) : ℝ) : EReal)
  dl : ∀ h r, x.dl (ix3 h 0 r) = ((a.de (hd g h) (rw' qi r) : ℝ) : EReal)

variable {a : Args} {g : Fin 4} {qi : Fin 16} {kj : Fin 8} {x : Ins Ideal}

theorem Loaded.gp (H : Loaded a g qi kj x) (h : Fin 2) (r : Fin 512) (d : Fin 128) :
    gpair (head0 x.g) (head1 x.g) h r d = ((a.G (hd g h) (rw' qi r) d : ℝ) : EReal) := by
  unfold Flash.gpair
  fin_cases h
  · rw [if_pos (by simp)]; exact H.g0 r d
  · rw [if_neg (by simp)]; exact H.g1 r d

theorem wt_real {n : ℕ} (H : Loaded a g qi kj x) (k : (⟨3, ![2, n, 256]⟩ : Shape).Idx → EReal) (h : Fin 2) (j : Fin n) (J : Fin 8192)
    (hk : ∀ d, k (ix3 h j d) = ((a.K (hd g h) J d : ℝ) : EReal)) (r : Fin 512) (hJ : J ≤ rw' qi r) :
    wt x.q k x.lse h j r = ((a.p (hd g h) (rw' qi r) J : ℝ) : EReal) := by
  unfold wt
  simp only [hk, H.q, H.lse, ← EReal.coe_mul, coe_sum, ← EReal.coe_sub]
  rw [exp2_real, a.tile_p _ _ _ hJ]

theorem ds_real (H : Loaded a g qi kj x) (h : Fin 2) (r : Fin 512) (J : Fin 8192) (P : EReal) (hP : P = ((a.p (hd g h) (rw' qi r) J : ℝ) : EReal))
    (v u : Fin 128 → EReal) (hv : ∀ d, v d = ((a.v (hd g h) J d : ℝ) : EReal)) (hu : ∀ d, u d = ((a.G (hd g h) (rw' qi r) d : ℝ) : EReal)) :
    P * (∑ d, v d * u d - x.dl (ix3 h 0 r)) * (((√192)⁻¹ : ℝ) : EReal) = ((a.ds (hd g h) (rw' qi r) J : ℝ) : EReal) := by
  simp only [hP, hv, hu, H.dl, ← EReal.coe_mul, coe_sum, ← EReal.coe_sub]
  refine congrArg _ ?_
  unfold Args.ds Args.dp
  simp only [mul_comm, div_eq_mul_inv]

/-! ## The blocks' halves and the rows of the scratch array -/

/-- A key of the upper half, as a key of the block. -/
def up (j : Fin 512) : Fin 1024 := ⟨j.val, by omega⟩

theorem rows_at (S : Vec Ideal S2x8192x256 .f32) (qi : Fin 16) (h : Fin 2) (r : Fin 512) (d : Fin 256) :
    rows S qi (ix3 h r d) = S (ix3 h (rw' qi r) d) := by
  unfold rows VecWindow.window
  refine congrArg S ?_
  funext i
  refine Fin.ext ?_
  fin_cases i
  · show 0 + 1 * h.val = h.val; omega
  · show qi.val * 512 + 1 * r.val = 512 * qi.val + r.val; omega
  · show 0 + 1 * d.val = d.val; omega

theorem setRows_in (S : Vec Ideal S2x8192x256 .f32) (qi : Fin 16) (w : Vec Ideal S2x512x256 .f32) (h : Fin 2) (r : Fin 512) (d : Fin 256) :
    setRows S qi w (ix3 h (rw' qi r) d) = w (ix3 h r d) := by
  unfold setRows VecWindow.put
  rw [dif_pos]
  · refine congrArg w ?_
    funext i
    refine Fin.ext ?_
    fin_cases i
    · show h.val - 0 = h.val; omega
    · show 512 * qi.val + r.val - qi.val * 512 = r.val; omega
    · show d.val - 0 = d.val; omega
  · intro i
    fin_cases i
    · show 0 ≤ h.val ∧ h.val < 0 + 2; omega
    · show qi.val * 512 ≤ 512 * qi.val + r.val ∧ 512 * qi.val + r.val < qi.val * 512 + 512; omega
    · show 0 ≤ d.val ∧ d.val < 0 + 256; omega

theorem setRows_out (S : Vec Ideal S2x8192x256 .f32) (qi qi' : Fin 16) (hne : qi' ≠ qi) (w : Vec Ideal S2x512x256 .f32) (h : Fin 2) (r : Fin 512) (d : Fin 256) :
    setRows S qi w (ix3 h (rw' qi' r) d) = S (ix3 h (rw' qi' r) d) := by
  unfold setRows VecWindow.put
  rw [dif_neg]
  intro hall
  have h1 : qi.val * 512 ≤ 512 * qi'.val + r.val ∧ 512 * qi'.val + r.val < qi.val * 512 + 512 := hall 1
  exact hne (Fin.ext (by omega))

theorem upK_at (k : Vec Ideal S2x1024x256 .bf16) (h : Fin 2) (j : Fin 512) (d : Fin 256) : upK k (ix3 h j d) = k (ix3 h (up j) d) := by
  unfold upK VecWindow.window
  refine congrArg k ?_
  funext i
  refine Fin.ext ?_
  fin_cases i
  · show 0 + 1 * h.val = h.val; omega
  · show 0 + 1 * j.val = j.val; omega
  · show 0 + 1 * d.val = d.val; omega
theorem upV_at (k : Vec Ideal S2x1024x128 .bf16) (h : Fin 2) (j : Fin 512) (d : Fin 128) : upV k (ix3 h j d) = k (ix3 h (up j) d) := by
  unfold upV VecWindow.window
  refine congrArg k ?_
  funext i
  refine Fin.ext ?_
  fin_cases i
  · show 0 + 1 * h.val = h.val; omega
  · show 0 + 1 * j.val = j.val; omega
  · show 0 + 1 * d.val = d.val; omega

theorem halvesK_at (A B : Vec Ideal S2x512x256 .f32) (h : Fin 2) (j : Fin 1024) (d : Fin 256) :
    halvesK A B (ix3 h j d) = if hj : j.val < 512 then A (ix3 h ⟨j.val, hj⟩ d) else B (ix3 h ⟨j.val - 512, by omega⟩ d) := by
  unfold halvesK VecWindow.put
  by_cases hj : j.val < 512
  · rw [dif_pos hj, dif_neg, dif_pos]
    · refine congrArg A ?_
      funext i
      refine Fin.ext ?_
      fin_cases i
      · show h.val - 0 = h.val; omega
      · show j.val - 0 = j.val; omega
      · show d.val - 0 = d.val; omega
    · intro i
      fin_cases i
      · show 0 ≤ h.val ∧ h.val < 0 + 2; omega
      · show 0 ≤ j.val ∧ j.val < 0 + 512; omega
      · show 0 ≤ d.val ∧ d.val < 0 + 256; omega
    · intro hall
      have h1 : 512 ≤ j.val ∧ j.val < 512 + 512 := hall 1
      omega
  · rw [dif_neg hj, dif_pos]
    · refine congrArg B ?_
      funext i
      refine Fin.ext ?_
      fin_cases i
      · show h.val - 0 = h.val; omega
      · show j.val - 512 = j.val - 512; rfl
      · show d.val - 0 = d.val; omega
    · intro i
      fin_cases i
      · show 0 ≤ h.val ∧ h.val < 0 + 2; omega
      · show 512 ≤ j.val ∧ j.val < 512 + 512; omega
      · show 0 ≤ d.val ∧ d.val < 0 + 256; omega

theorem halvesV_at (A B : Vec Ideal S2x512x128 .f32) (h : Fin 2) (j : Fin 1024) (d : Fin 128) :
    halvesV A B (ix3 h j d) = if hj : j.val < 512 then A (ix3 h ⟨j.val, hj⟩ d) else B (ix3 h ⟨j.val - 512, by omega⟩ d) := by
  unfold halvesV VecWindow.put
  by_cases hj : j.val < 512
  · rw [dif_pos hj, dif_neg, dif_pos]
    · refine congrArg A ?_
      funext i
      refine Fin.ext ?_
      fin_cases i
      · show h.val - 0 = h.val; omega
      · show j.val - 0 = j.val; omega
      · show d.val - 0 = d.val; omega
    · intro i
      fin_cases i
      · show 0 ≤ h.val ∧ h.val < 0 + 2; omega
      · show 0 ≤ j.val ∧ j.val < 0 + 512; omega
      · show 0 ≤ d.val ∧ d.val < 0 + 128; omega
    · intro hall
      have h1 : 512 ≤ j.val ∧ j.val < 512 + 512 := hall 1
      omega
  · rw [dif_neg hj, dif_pos]
    · refine congrArg B ?_
      funext i
      refine Fin.ext ?_
      fin_cases i
      · show h.val - 0 = h.val; omega
      · show j.val - 512 = j.val - 512; rfl
      · show d.val - 0 = d.val; omega
    · intro i
      fin_cases i
      · show 0 ≤ h.val ∧ h.val < 0 + 2; omega
      · show 512 ≤ j.val ∧ j.val < 512 + 512; omega
      · show 0 ≤ d.val ∧ d.val < 0 + 128; omega

/-! ## The three kinds of step -/

/-- The state `s'` is `s` with a tile added to its rows and its blocks; `s` gives where the sums begin. -/
structure Adds (a : Args) (g : Fin 4) (qi : Fin 16) (kj : Fin 8) (dq : Vec Ideal S2x8192x256 .f32) (dk : Fin 2 → Fin 1024 → Fin 256 → EReal)
    (dv : Fin 2 → Fin 1024 → Fin 128 → EReal) (s' : St Ideal) : Prop where
  dq_in : ∀ h r d, s'.dq (ix3 h (rw' qi r) d) = dq (ix3 h (rw' qi r) d) + ((a.tQ g qi kj h r d : ℝ) : EReal)
  dq_out : ∀ qi', qi' ≠ qi → ∀ h r d, s'.dq (ix3 h (rw' qi' r) d) = dq (ix3 h (rw' qi' r) d)
  dk : ∀ h j d, s'.dk (ix3 h j d) = dk h j d + ((a.tK g qi kj h j d : ℝ) : EReal)
  dv : ∀ h j d, s'.dv (ix3 h j d) = dv h j d + ((a.tV g qi kj h j d : ℝ) : EReal)

theorem sumK (f u : Fin 512 → EReal) (F U : Fin 512 → ℝ) (hf : ∀ r, f r = F r) (hu : ∀ r, u r = U r) : ∑ r, f r * u r = ((∑ r, F r * U r : ℝ) : EReal) := by
  simp only [hf, hu, ← EReal.coe_mul, coe_sum]
theorem sumQ (f u : Fin 1024 → EReal) (F U : Fin 1024 → ℝ) (hf : ∀ r, f r = F r) (hu : ∀ r, u r = U r) : ∑ r, f r * u r = ((∑ r, F r * U r : ℝ) : EReal) := by
  simp only [hf, hu, ← EReal.coe_mul, coe_sum]

theorem stepC_adds (H : Loaded a g qi kj x) (hC : 2 * kj.val + 1 < qi.val) (s : St Ideal) :
    Adds a g qi kj s.dq (fun h j d => s.dk (ix3 h j d)) (fun h j d => s.dv (ix3 h j d)) (stepC qi x s) := by
  have hP : ∀ h j r, wt x.q x.k x.lse h j r = ((a.p (hd g h) (rw' qi r) (ky kj j) : ℝ) : EReal) := fun h j r =>
    wt_real H x.k h j (ky kj j) (fun d => H.k h j d) r (by simp only [ky, rw', Fin.mk_le_mk]; omega)
  have hD : ∀ h j r, k0_pay27 x.q x.k (head0 x.g) (head1 x.g) x.lse x.v x.dl (ix3 h j r) = ((a.ds (hd g h) (rw' qi r) (ky kj j) : ℝ) : EReal) := fun h j r => by
    rw [pay27_at]
    exact ds_real H h r (ky kj j) _ (hP h j r) _ _ (fun d => H.v h j d) (fun d => H.gp h r d)
  refine ⟨fun h r d => ?_, fun qi' hne h r d => setRows_out _ _ _ hne _ _ _ _, fun h j d => ?_, fun h j d => ?_⟩
  · simp only [stepC]
    rw [setRows_in, pay1_at, rows_at]
    exact congrArg _ (sumQ _ _ _ _ (fun j => hD h j r) fun j => H.k h j d)
  · simp only [stepC]
    rw [pay2_at]
    exact congrArg _ (sumK _ _ _ _ (fun r => hD h j r) fun r => H.q h r d)
  · simp only [stepC]
    rw [pay3_at, pay26_at]
    exact congrArg _ (sumK _ _ _ _ (fun r => hP h j r) fun r => H.gp h r d)

theorem stepB_adds (H : Loaded a g qi kj x) (hB : qi.val = 2 * kj.val + 1) (w : BitVec 32) (hw : offw w = BitVec.ofNat 32 512) (s : St Ideal) :
    Adds a g qi kj s.dq (fun h j d => s.dk (ix3 h j d)) (fun h j d => s.dv (ix3 h j d)) (stepB w qi x s) := by
  have hP : ∀ h j r, k0_pay16 w x.q x.k x.lse (ix3 h j r) = ((a.p (hd g h) (rw' qi r) (ky kj j) : ℝ) : EReal) := fun h j r => by
    rw [pay16_at w 512 hw le_rfl]
    by_cases hj : j.val ≤ r.val + 512
    · rw [if_pos hj]
      exact wt_real H x.k h j (ky kj j) (fun d => H.k h j d) r (by simp only [ky, rw', Fin.mk_le_mk]; omega)
    · rw [if_neg hj, a.p_zero _ _ _ (by simp only [ky, rw', Fin.mk_le_mk]; omega)]; rfl
  have hD : ∀ h j r, k0_pay18 (k0_pay15 (head0 x.g) (head1 x.g)) (k0_pay16 w x.q x.k x.lse) x.v x.dl (ix3 h j r) = ((a.ds (hd g h) (rw' qi r) (ky kj j) : ℝ) : EReal) := fun h j r => by
    rw [pay18_at]
    exact ds_real H h r (ky kj j) _ (hP h j r) _ _ (fun d => H.v h j d) (fun d => (pay15_at _ _ _ _ _).trans (H.gp h r d))
  refine ⟨fun h r d => ?_, fun qi' hne h r d => setRows_out _ _ _ hne _ _ _ _, fun h j d => ?_, fun h j d => ?_⟩
  · simp only [stepB]
    rw [setRows_in, pay19_at, rows_at]
    exact congrArg _ (sumQ _ _ _ _ (fun j => hD h j r) fun j => H.k h j d)
  · simp only [stepB]
    rw [pay20_at]
    exact congrArg _ (sumK _ _ _ _ (fun r => hD h j r) fun r => H.q h r d)
  · simp only [stepB]
    rw [pay31_at, pay17_at]
    exact congrArg _ (sumK _ _ _ _ (fun r => hP h j r) fun r => (pay15_at _ _ _ _ _).trans (H.gp h r d))

theorem sum_up (f : Fin 1024 → ℝ) (hf : ∀ j : Fin 1024, 512 ≤ j.val → f j = 0) : ∑ j, f j = ∑ j : Fin 512, f (up j) := by
  rw [Fin.sum_univ_add (a := 512) (b := 512)]
  rw [show (∑ i : Fin 512, f (Fin.natAdd 512 i)) = 0 from Finset.sum_eq_zero fun j _ => hf _ (by simp), add_zero]
  rfl

theorem stepA_adds (H : Loaded a g qi kj x) (hA : qi.val = 2 * kj.val) (w : BitVec 32) (hw : offw w = BitVec.ofNat 32 0) (S : Vec Ideal S2x8192x256 .f32) :
    Adds a g qi kj S (fun _ _ _ => 0) (fun _ _ _ => 0) (stepA w qi x S) := by
  have hP : ∀ h j r, k0_pay7 w x.q (upK x.k) x.lse (ix3 h j r) = ((a.p (hd g h) (rw' qi r) (ky kj (up j)) : ℝ) : EReal) := fun h j r => by
    rw [pay7_at w 0 hw (by omega)]
    by_cases hj : j.val ≤ r.val + 0
    · rw [if_pos hj]
      exact wt_real H (upK x.k) h j (ky kj (up j)) (fun d => (upK_at _ _ _ _).trans (H.k h (up j) d)) r (by simp only [ky, rw', up, Fin.mk_le_mk]; omega)
    · rw [if_neg hj, a.p_zero _ _ _ (by simp only [ky, rw', up, Fin.mk_le_mk]; omega)]; rfl
  have hD : ∀ h j r, k0_pay9 (k0_pay6 (head0 x.g) (head1 x.g)) (k0_pay7 w x.q (upK x.k) x.lse) (upV x.v) x.dl (ix3 h j r) = ((a.ds (hd g h) (rw' qi r) (ky kj (up j)) : ℝ) : EReal) := fun h j r => by
    rw [pay9_at]
    exact ds_real H h r (ky kj (up j)) _ (hP h j r) _ _ (fun d => (upV_at _ _ _ _).trans (H.v h (up j) d)) (fun d => (pay6_at _ _ _ _ _).trans (H.gp h r d))
  have low : ∀ (j : Fin 1024) (r : Fin 512), 512 ≤ j.val → ¬ ky kj j ≤ rw' qi r := fun j r hj => by
    simp only [ky, rw', Fin.mk_le_mk]; omega
  refine ⟨fun h r d => ?_, fun qi' hne h r d => setRows_out _ _ _ hne _ _ _ _, fun h j d => ?_, fun h j d => ?_⟩
  · simp only [stepA]
    rw [setRows_in, pay11_at, rows_at]
    unfold Args.tQ
    rw [sum_up _ fun j hj => by rw [a.ds_zero _ _ _ (low j r hj), zero_mul]]
    exact congrArg _ (sumK _ _ _ _ (fun j => hD h j r) fun j => (upK_at _ _ _ _).trans (H.k h (up j) d))
  · simp only [stepA]
    rw [halvesK_at, zero_add]
    by_cases hj : j.val < 512
    · rw [dif_pos hj, pay10_at]
      exact sumK _ _ _ _ (fun r => hD h ⟨j.val, hj⟩ r) fun r => H.q h r d
    · rw [dif_neg hj, pay12_at]
      unfold Args.tK
      rw [Finset.sum_eq_zero fun r _ => by rw [a.ds_zero _ _ _ (low j r (by omega)), zero_mul]]; rfl
  · simp only [stepA]
    rw [halvesV_at, zero_add]
    by_cases hj : j.val < 512
    · rw [dif_pos hj, pay8_at]
      exact sumK _ _ _ _ (fun r => hP h ⟨j.val, hj⟩ r) fun r => (pay6_at _ _ _ _ _).trans (H.gp h r d)
    · rw [dif_neg hj, pay30_at]
      unfold Args.tV
      rw [Finset.sum_eq_zero fun r _ => by rw [a.p_zero _ _ _ (low j r (by omega)), zero_mul]]; rfl

/-! ## Any step -/

theorem offw_A : ∀ s : Fin 72, kindA s → offw (lit0 s) = BitVec.ofNat 32 0 := by decide
theorem offw_B : ∀ s : Fin 72, kindB s → offw (lit0 s) = BitVec.ofNat 32 512 := by decide

theorem stepK_adds (s : Fin 72) (H : Loaded a g (qiAt s) (kjAt s) x) (S : St Ideal) :
    Adds a g (qiAt s) (kjAt s) (if s = 0 then fun _ => (0 : EReal) else S.dq) (fun h j d => if kindA s then 0 else S.dk (ix3 h j d))
      (fun h j d => if kindA s then 0 else S.dv (ix3 h j d)) (stepK s x S) := by
  unfold stepK
  by_cases h0 : s = 0
  · subst h0
    have hA : kindA 0 := by decide
    simp only [if_pos, if_pos hA]
    have := stepA_adds H hA (lit0 0) (offw_A 0 hA) (k0_pay29 (F := Ideal))
    rw [show (k0_pay29 (F := Ideal) : Vec Ideal S2x8192x256 .f32) = fun _ => (0 : EReal) from funext fun i => by rw [eq_ix3 i]; exact pay29_at _ _ _] at this ⊢
    exact this
  simp only [if_neg h0]
  by_cases hA : kindA s
  · simp only [if_pos hA]
    exact stepA_adds H hA _ (offw_A s hA) S.dq
  simp only [if_neg hA]
  by_cases hB : kindB s
  · simp only [if_pos hB]
    exact stepB_adds H hB _ (offw_B s hB) S
  simp only [if_neg hB]
  refine stepC_adds H ?_ S
  have := (by decide : ∀ s : Fin 72, kindA s ∨ kindB s ∨ kindC s) s
  exact (this.resolve_left hA).resolve_left hB

end Cert.Proof.Flash

end
-- ==== Proof.Fold.lean ====
/-
  What the 72 steps of one pair of heads add up to.
-/
module

public import proofs.«01_k».proof.Proof.Tile

@[expose] public section

noncomputable section

namespace Cert.Proof.Flash

open Cert.KernelIdeal Cert.KernelIdeal.Gen
open Idealize.ShloMosaic Idealize.ShloMosaic.VecWindow

/-- The sum of what the steps before `n` with a property add. -/
def upto (n : ℕ) (P : Fin 72 → Prop) [DecidablePred P] (f : Fin 72 → ℝ) : ℝ := ∑ s : Fin 72, if s.val < n ∧ P s then f s else 0

theorem upto_zero (P : Fin 72 → Prop) [DecidablePred P] (f : Fin 72 → ℝ) : upto 0 P f = 0 :=
  Finset.sum_eq_zero fun s _ => if_neg fun h => absurd h.1 (Nat.not_lt_zero _)

theorem upto_none (n : ℕ) (P : Fin 72 → Prop) [DecidablePred P] (f : Fin 72 → ℝ) (h : ∀ s : Fin 72, s.val < n → ¬ P s) : upto n P f = 0 :=
  Finset.sum_eq_zero fun s _ => if_neg fun h' => h s h'.1 h'.2

theorem upto_succ (s : Fin 72) (P : Fin 72 → Prop) [DecidablePred P] (f : Fin 72 → ℝ) :
    upto (s.val + 1) P f = upto s.val P f + if P s then f s else 0 := by
  have : ∀ s' : Fin 72, (if s'.val < s.val + 1 ∧ P s' then f s' else 0) = (if s'.val < s.val ∧ P s' then f s' else 0) + if s' = s then (if P s then f s else 0) else 0 := fun s' => by
    by_cases hs : s' = s
    · subst hs
      rw [if_pos rfl, if_neg (fun h : s'.val < s'.val ∧ P s' => absurd h.1 (lt_irrefl _)), zero_add]
      by_cases hP : P s'
      · rw [if_pos ⟨Nat.lt_succ_self _, hP⟩, if_pos hP]
      · rw [if_neg (fun h => hP h.2), if_neg hP]
    · have hv : s'.val ≠ s.val := fun h => hs (Fin.ext h)
      rw [if_neg hs, add_zero]
      by_cases hP : s'.val < s.val ∧ P s'
      · rw [if_pos hP, if_pos ⟨by omega, hP.2⟩]
      · rw [if_neg hP, if_neg fun h => hP ⟨by omega, h.2⟩]
  unfold upto
  rw [Finset.sum_congr rfl fun s' _ => this s', Finset.sum_add_distrib, Finset.sum_ite_eq' Finset.univ s, if_pos (Finset.mem_univ _)]

/-! ## Where the steps lie -/

theorem newBlock : ∀ s : Fin 72, kindA s → ∀ s' : Fin 72, s'.val < s.val → kjAt s' ≠ kjAt s := by decide +kernel
theorem kjPrev : ∀ s : Fin 72, ¬ kindA s → s.val ≠ 0 ∧ kjAt ⟨s.val - 1, by omega⟩ = kjAt s := by decide +kernel
theorem pairs : ∀ (qi : Fin 16) (kj : Fin 8), (Finset.univ.filter fun s : Fin 72 => qiAt s = qi ∧ kjAt s = kj).card = if 2 * kj.val ≤ qi.val then 1 else 0 := by decide +kernel
theorem lastBlock : ∀ s : Fin 72, (∀ h : s.val + 1 < 72, kjAt ⟨s.val + 1, h⟩ ≠ kjAt s) → ∀ s' : Fin 72, kjAt s' = kjAt s → s'.val < s.val + 1 := by decide +kernel
theorem kjHit : ∀ kj : Fin 8, ∃ s : Fin 72, kjAt s = kj ∧ ∀ h : s.val + 1 < 72, kjAt ⟨s.val + 1, h⟩ ≠ kjAt s := by decide +kernel

theorem sum_pairs (F : Fin 16 → Fin 8 → ℝ) (qi : Fin 16) (kj : Fin 8) (hF : qi.val < 2 * kj.val → F qi kj = 0) :
    (∑ s : Fin 72, if qiAt s = qi ∧ kjAt s = kj then F qi kj else 0) = F qi kj := by
  rw [← Finset.sum_filter, Finset.sum_const, pairs]
  by_cases h : 2 * kj.val ≤ qi.val
  · rw [if_pos h, one_smul]
  · rw [if_neg h, zero_smul, hF (by omega)]

theorem sum_qi (F : Fin 16 → Fin 8 → ℝ) (hF : ∀ qi kj, qi.val < 2 * kj.val → F qi kj = 0) (qi : Fin 16) :
    (upto 72 (fun s => qiAt s = qi) fun s => F qi (kjAt s)) = ∑ kj, F qi kj := by
  rw [← Finset.sum_congr rfl fun kj _ => sum_pairs F qi kj (hF qi kj), Finset.sum_comm]
  refine Finset.sum_congr rfl fun s _ => ?_
  by_cases h : qiAt s = qi
  · rw [if_pos ⟨s.isLt, h⟩]
    simp only [h, true_and]
    rw [Finset.sum_ite_eq Finset.univ (kjAt s), if_pos (Finset.mem_univ _)]
  · rw [if_neg fun h' => h h'.2]
    exact (Finset.sum_eq_zero fun kj _ => if_neg fun h' => h h'.1).symm

theorem sum_kj (F : Fin 16 → Fin 8 → ℝ) (hF : ∀ qi kj, qi.val < 2 * kj.val → F qi kj = 0) (n : ℕ) (kj : Fin 8) (hn : ∀ s : Fin 72, kjAt s = kj → s.val < n) :
    (upto n (fun s => kjAt s = kj) fun s => F (qiAt s) kj) = ∑ qi, F qi kj := by
  rw [← Finset.sum_congr rfl fun qi _ => sum_pairs F qi kj (hF qi kj), Finset.sum_comm]
  refine Finset.sum_congr rfl fun s _ => ?_
  by_cases h : kjAt s = kj
  · rw [if_pos ⟨hn s h, h⟩]
    simp only [h, and_true]
    rw [Finset.sum_ite_eq Finset.univ (qiAt s), if_pos (Finset.mem_univ _)]
  · rw [if_neg fun h' => h h'.2]
    exact (Finset.sum_eq_zero fun qi _ => if_neg fun h' => h h'.2).symm

/-! ## The steps of one pair of heads, in order -/

section
variable {a : Args} {g : Fin 4} {S : ℕ → St Ideal} {X : Fin 72 → Ins Ideal}

theorem fold_dq (hS : ∀ s : Fin 72, S (s.val + 1) = stepK s (X s) (S s.val)) (hX : ∀ s, Loaded a g (qiAt s) (kjAt s) (X s)) (n : ℕ) (hn : n < 72)
    (qi : Fin 16) (h : Fin 2) (r : Fin 512) (d : Fin 256) :
    (S (n + 1)).dq (ix3 h (rw' qi r) d) = ((upto (n + 1) (fun s => qiAt s = qi) fun s => a.tQ g qi (kjAt s) h r d : ℝ) : EReal) := by
  have base : ∀ s : Fin 72, s.val = n → (if s = 0 then fun _ => (0 : EReal) else (S n).dq) (ix3 h (rw' qi r) d) = ((upto n (fun s => qiAt s = qi) fun s => a.tQ g qi (kjAt s) h r d : ℝ) : EReal) →
      (S (n + 1)).dq (ix3 h (rw' qi r) d) = ((upto (n + 1) (fun s => qiAt s = qi) fun s => a.tQ g qi (kjAt s) h r d : ℝ) : EReal) := by
    rintro s rfl hb
    rw [hS s, upto_succ]
    have A := stepK_adds s (hX s) (S s.val)
    by_cases hq : qiAt s = qi
    · have := A.dq_in h r d
      rw [hq] at this
      rw [this, hb, if_pos hq, EReal.coe_add]
    · rw [A.dq_out qi (Ne.symm hq), hb, if_neg hq, add_zero]
  induction n with
  | zero => exact base 0 rfl (by rw [if_pos rfl, upto_zero]; rfl)
  | succ n ih =>
    have h0 : (⟨n + 1, hn⟩ : Fin 72) ≠ 0 := fun h => by simpa using congrArg Fin.val h
    refine base ⟨n + 1, hn⟩ rfl ?_
    rw [if_neg h0]
    refine ih (by omega) fun s hs hb => ?_
    have h1 := hb
    clear hb base ih
    subst hs
    rw [hS s, upto_succ]
    have A := stepK_adds s (hX s) (S s.val)
    by_cases hq : qiAt s = qi
    · have := A.dq_in h r d
      rw [hq] at this
      rw [this, h1, if_pos hq, EReal.coe_add]
    · rw [A.dq_out qi (Ne.symm hq), h1, if_neg hq, add_zero]

theorem fold_dk (hS : ∀ s : Fin 72, S (s.val + 1) = stepK s (X s) (S s.val)) (hX : ∀ s, Loaded a g (qiAt s) (kjAt s) (X s)) (n : ℕ) :
    ∀ hn : n < 72, ∀ (h : Fin 2) (j : Fin 1024) (d : Fin 256),
    (S (n + 1)).dk (ix3 h j d) = ((upto (n + 1) (fun s => kjAt s = kjAt ⟨n, hn⟩) fun s => a.tK g (qiAt s) (kjAt ⟨n, hn⟩) h j d : ℝ) : EReal) := by
  induction n with
  | zero =>
    intro hn h j d
    have A := (stepK_adds 0 (hX 0) (S 0)).dk h j d
    rw [if_pos (by decide), zero_add] at A
    refine (congrArg (fun s : St Ideal => s.dk (ix3 h j d)) (hS 0)).trans (A.trans ?_)
    refine congrArg _ ?_
    refine Eq.symm ((upto_succ (0 : Fin 72) _ _).trans ?_)
    rw [show ((0 : Fin 72)).val = 0 from rfl, upto_zero, zero_add]; exact if_pos rfl
  | succ n ih =>
    intro hn h j d
    have A := (stepK_adds ⟨n + 1, hn⟩ (hX ⟨n + 1, hn⟩) (S (n + 1))).dk h j d
    refine (congrArg (fun s : St Ideal => s.dk (ix3 h j d)) (hS ⟨n + 1, hn⟩)).trans (A.trans ?_)
    rw [upto_succ ⟨n + 1, hn⟩, if_pos rfl, EReal.coe_add]
    refine congrArg (· + _) ?_
    by_cases hA : kindA ⟨n + 1, hn⟩
    · rw [if_pos hA, upto_none _ _ _ fun s hs => newBlock _ hA s hs]; rfl
    · have hk : kjAt ⟨n, by omega⟩ = kjAt ⟨n + 1, hn⟩ := (kjPrev _ hA).2
      rw [if_neg hA, ih (by omega) h j d, hk]

theorem fold_dv (hS : ∀ s : Fin 72, S (s.val + 1) = stepK s (X s) (S s.val)) (hX : ∀ s, Loaded a g (qiAt s) (kjAt s) (X s)) (n : ℕ) :
    ∀ hn : n < 72, ∀ (h : Fin 2) (j : Fin 1024) (d : Fin 128),
    (S (n + 1)).dv (ix3 h j d) = ((upto (n + 1) (fun s => kjAt s = kjAt ⟨n, hn⟩) fun s => a.tV g (qiAt s) (kjAt ⟨n, hn⟩) h j d : ℝ) : EReal) := by
  induction n with
  | zero =>
    intro hn h j d
    have A := (stepK_adds 0 (hX 0) (S 0)).dv h j d
    rw [if_pos (by decide), zero_add] at A
    refine (congrArg (fun s : St Ideal => s.dv (ix3 h j d)) (hS 0)).trans (A.trans ?_)
    refine congrArg _ ?_
    refine Eq.symm ((upto_succ (0 : Fin 72) _ _).trans ?_)
    rw [show ((0 : Fin 72)).val = 0 from rfl, upto_zero, zero_add]; exact if_pos rfl
  | succ n ih =>
    intro hn h j d
    have A := (stepK_adds ⟨n + 1, hn⟩ (hX ⟨n + 1, hn⟩) (S (n + 1))).dv h j d
    refine (congrArg (fun s : St Ideal => s.dv (ix3 h j d)) (hS ⟨n + 1, hn⟩)).trans (A.trans ?_)
    rw [upto_succ ⟨n + 1, hn⟩, if_pos rfl, EReal.coe_add]
    refine congrArg (· + _) ?_
    by_cases hA : kindA ⟨n + 1, hn⟩
    · rw [if_pos hA, upto_none _ _ _ fun s hs => newBlock _ hA s hs]; rfl
    · have hk : kjAt ⟨n, by omega⟩ = kjAt ⟨n + 1, hn⟩ := (kjPrev _ hA).2
      rw [if_neg hA, ih (by omega) h j d, hk]

/-- All steps done, the scratch array holds the query gradients of its heads. -/
theorem all_dq (hS : ∀ s : Fin 72, S (s.val + 1) = stepK s (X s) (S s.val)) (hX : ∀ s, Loaded a g (qiAt s) (kjAt s) (X s))
    (qi : Fin 16) (h : Fin 2) (r : Fin 512) (d : Fin 256) : (S 72).dq (ix3 h (rw' qi r) d) = ((a.dq (hd g h) (rw' qi r) d : ℝ) : EReal) := by
  rw [fold_dq hS hX 71 (by omega), a.dq_tiles]
  exact congrArg _ (sum_qi (fun qi kj => a.tQ g qi kj h r d) (fun qi kj hlt => a.tQ_zero g qi kj hlt h r d) qi)

/-- The last step of a key block leaves the block's gradients. -/
theorem all_dk (hS : ∀ s : Fin 72, S (s.val + 1) = stepK s (X s) (S s.val)) (hX : ∀ s, Loaded a g (qiAt s) (kjAt s) (X s))
    (s : Fin 72) (hs : ∀ h : s.val + 1 < 72, kjAt ⟨s.val + 1, h⟩ ≠ kjAt s) (h : Fin 2) (j : Fin 1024) (d : Fin 256) :
    (S (s.val + 1)).dk (ix3 h j d) = ((a.dk (hd g h) (ky (kjAt s) j) d : ℝ) : EReal) := by
  rw [fold_dk hS hX s.val s.isLt, a.dk_tiles]
  exact congrArg _ (sum_kj (fun qi kj => a.tK g qi kj h j d) (fun qi kj hlt => a.tK_zero g qi kj hlt h j d) (s.val + 1) (kjAt s) (lastBlock s hs))
theorem all_dv (hS : ∀ s : Fin 72, S (s.val + 1) = stepK s (X s) (S s.val)) (hX : ∀ s, Loaded a g (qiAt s) (kjAt s) (X s))
    (s : Fin 72) (hs : ∀ h : s.val + 1 < 72, kjAt ⟨s.val + 1, h⟩ ≠ kjAt s) (h : Fin 2) (j : Fin 1024) (d : Fin 128) :
    (S (s.val + 1)).dv (ix3 h j d) = ((a.dv (hd g h) (ky (kjAt s) j) d : ℝ) : EReal) := by
  rw [fold_dv hS hX s.val s.isLt, a.dv_tiles]
  exact congrArg _ (sum_kj (fun qi kj => a.tV g qi kj h j d) (fun qi kj hlt => a.tV_zero g qi kj hlt h j d) (s.val + 1) (kjAt s) (lastBlock s hs))

end

end Cert.Proof.Flash

end
-- ==== Proof.Arrays.lean ====
/-
  The three arrays after the run, over the extended reals, when every step's blocks hold the real arrays' tiles.
-/
module

public import proofs.«01_k».proof.Proof.Fold
public import proofs.«01_k».proof.Proof.Run
public import Idealize.ShloMosaic.Lib.Pipeline.ValueKit.Geometry

@[expose] public section

noncomputable section

namespace Cert.Proof.Flash

open Cert.KernelIdeal Cert.KernelIdeal.Gen
open Idealize.ShloMosaic Idealize.ShloMosaic.VecWindow Idealize.ShloMosaic.TcCoe
open Idealize.ShloMosaic.Pipeline (Dat Cfg Window)

variable (m : (ℓ : Loc nD τ sig) → Buf (Elt Ideal) ℓ) (ρ : Dev nD → PrngReg) (c : Dev nD)

/-- The pair of heads of a point, and the point of a pair of heads and a step. -/
def grp (t : Fin (cfgA (F := Ideal)).N) : Fin 4 := ⟨t.val / 72, by have : t.val < 288 := N_0 ▸ t.isLt; omega⟩
def pt (g : Fin 4) (s : Fin 72) : Fin (cfgA (F := Ideal)).N := ⟨72 * g.val + s.val, lt_of_lt_of_eq (by omega : _ < 288) N_0.symm⟩

theorem step_pt (g : Fin 4) (s : Fin 72) : stepN (F := Ideal) (pt g s) = s := Fin.ext (by rw [coord1]; show (72 * g.val + s.val) % 72 = _; omega)
theorem grp_pt (g : Fin 4) (s : Fin 72) : grp (pt g s) = g := Fin.ext (by show (72 * g.val + s.val) / 72 = _; omega)
theorem pt_eta (t : Fin (cfgA (F := Ideal)).N) : pt (grp t) (stepN (F := Ideal) t) = t := Fin.ext (by
  have := coord1 t
  show 72 * (t.val / 72) + (stepOf (grid0.coords t)).val = t.val
  omega)

/-- Every point's blocks hold the tiles of the real arrays. -/
def AllLoaded (a : Args) : Prop := ∀ g s, Loaded a g (qiAt s) (kjAt s) (insAt m ρ c (pt g s))

variable {m ρ c} {a : Args}

theorem stepsOf (g : Fin 4) (s : Fin 72) : stAt m ρ c (72 * g.val + (s.val + 1)) = stepK s (insAt m ρ c (pt g s)) (stAt m ρ c (72 * g.val + s.val)) := by
  have := stAt_succ m ρ c (pt g s)
  rw [step_pt] at this
  exact this

theorem st_dq (H : AllLoaded m ρ c a) (g : Fin 4) (qi : Fin 16) (h : Fin 2) (r : Fin 512) (d : Fin 256) :
    (stAt m ρ c (72 * g.val + 72)).dq (ix3 h (rw' qi r) d) = ((a.dq (hd g h) (rw' qi r) d : ℝ) : EReal) :=
  all_dq (S := fun n => stAt m ρ c (72 * g.val + n)) (X := fun s => insAt m ρ c (pt g s)) (stepsOf g) (H g) qi h r d

theorem row_eta (R : Fin 8192) : rw' ⟨R.val / 512, by omega⟩ ⟨R.val % 512, by omega⟩ = R := Fin.ext (by show 512 * (R.val / 512) + R.val % 512 = _; omega)
theorem key_eta (R : Fin 8192) : ky ⟨R.val / 1024, by omega⟩ ⟨R.val % 1024, by omega⟩ = R := Fin.ext (by show 1024 * (R.val / 1024) + R.val % 1024 = _; omega)
theorem head_eta (h : Fin 8) : hd ⟨h.val / 2, by omega⟩ ⟨h.val % 2, by omega⟩ = h := Fin.ext (by show 2 * (h.val / 2) + h.val % 2 = _; omega)

theorem st_dq' (H : AllLoaded m ρ c a) (g : Fin 4) (h : Fin 2) (R : Fin 8192) (d : Fin 256) :
    (stAt m ρ c (72 * g.val + 72)).dq (ix3 h R d) = ((a.dq (hd g h) R d : ℝ) : EReal) := by
  have := st_dq H g ⟨R.val / 512, by omega⟩ h ⟨R.val % 512, by omega⟩ d
  rwa [row_eta] at this

/-! ## The array of query gradients -/

theorem off5_eq (i : grid0.Coords) : k0_off5 i = ![2 * (i 0).val, 0, 0] := by
  have h : (i 0).val < 4 := g4 i
  funext x
  have e : (BitVec.ofNat 32 (i 0).val * 2#32).toNat = 2 * (i 0).val := by
    rw [BitVec.toNat_mul, BitVec.toNat_ofNat]
    show (i 0).val % 4294967296 * 2 % 4294967296 = _
    omega
  fin_cases x
  · exact e
  · rfl
  · rfl

theorem copied_in (i : grid0.Coords) (X : Vec Ideal S8x8192x256 .f32) (S : Vec Ideal S2x8192x256 .f32) (g : Fin 4) (hg : (i 0).val = g.val) (h : Fin 2) (R : Fin 8192) (d : Fin 256) :
    copied i X S (ix3 (hd g h) R d) = S (ix3 h R d) := by
  unfold copied VecWindow.put
  rw [dif_pos]
  · refine congrArg S ?_
    funext x
    refine Fin.ext ?_
    show ((ix3 (hd g h) R d) x).val - k0_off5 i x = _
    rw [off5_eq, hg]
    fin_cases x
    · show 2 * g.val + h.val - 2 * g.val = h.val; omega
    · show R.val - 0 = R.val; omega
    · show d.val - 0 = d.val; omega
  · rw [off5_eq, hg]
    intro x
    fin_cases x
    · show 2 * g.val ≤ 2 * g.val + h.val ∧ 2 * g.val + h.val < 2 * g.val + 2; omega
    · show 0 ≤ R.val ∧ R.val < 0 + 8192; omega
    · show 0 ≤ d.val ∧ d.val < 0 + 256; omega

theorem copied_out (i : grid0.Coords) (X : Vec Ideal S8x8192x256 .f32) (S : Vec Ideal S2x8192x256 .f32) (g : Fin 4) (hg : (i 0).val ≠ g.val) (h : Fin 2) (R : Fin 8192) (d : Fin 256) :
    copied i X S (ix3 (hd g h) R d) = X (ix3 (hd g h) R d) := by
  unfold copied VecWindow.put
  rw [dif_neg]
  rw [off5_eq]
  intro hall
  have h0 : 2 * (i 0).val ≤ 2 * g.val + h.val ∧ 2 * g.val + h.val < 2 * (i 0).val + 2 := hall 0
  omega

theorem hAt_copied (g : Fin 4) (h : Fin 2) (R : Fin 8192) (d : Fin 256) (n : ℕ) (hn : n < (cfgA (F := Ideal)).N) (hlo : 72 * g.val + 72 ≤ n + 1) :
    hAt m ρ c (n + 1) (ix3 (hd g h) R d) = (stAt m ρ c (72 * g.val + 72)).dq (ix3 h R d) := by
  have hN : ∀ n, n < (cfgA (F := Ideal)).N → n < 288 := fun n h => lt_of_lt_of_eq h N_0
  have step : ∀ t : Fin (cfgA (F := Ideal)).N, 72 * g.val + 72 ≤ t.val + 1 →
      (72 * g.val + 72 ≤ t.val → hAt m ρ c t.val (ix3 (hd g h) R d) = (stAt m ρ c (72 * g.val + 72)).dq (ix3 h R d)) →
      hAt m ρ c (t.val + 1) (ix3 (hd g h) R d) = (stAt m ρ c (72 * g.val + 72)).dq (ix3 h R d) := fun t hlo ih => by
    rw [hAt_succ]
    unfold out0
    have ht := hN t.val t.isLt
    have c0 := coord0 t
    have c1 := coord1 t
    by_cases h71 : stepOf (grid0.coords t) = 71
    · rw [if_pos h71]
      have h71' : t.val % 72 = 71 := by rw [← c1, h71]; rfl
      by_cases hg : t.val / 72 = g.val
      · rw [copied_in _ _ _ g (c0.trans hg), show t.val + 1 = 72 * g.val + 72 by omega]
      · rw [copied_out _ _ _ g (fun h => hg (c0.symm.trans h))]
        exact ih (by omega)
    · rw [if_neg h71]
      have h71' : t.val % 72 ≠ 71 := fun e => h71 (Fin.ext (c1.trans e))
      exact ih (by omega)
  induction n with
  | zero => exact absurd hlo (by omega)
  | succ n ih => exact step ⟨n + 1, hn⟩ hlo fun h => ih (by omega) h

/-- The query gradients, after the run. -/
theorem final_dq (H : AllLoaded m ρ c a) (h : Fin 8) (R : Fin 8192) (d : Fin 256) :
    hAt m ρ c (cfgA (F := Ideal)).N (ix3 h R d) = ((a.dq h R d : ℝ) : EReal) := by
  have hN : (cfgA (F := Ideal)).N = 287 + 1 := N_0
  have := hAt_copied (m := m) (ρ := ρ) (c := c) ⟨h.val / 2, by omega⟩ ⟨h.val % 2, by omega⟩ R d 287 (by rw [hN]; omega) (by show 72 * (h.val / 2) + 72 ≤ 288; omega)
  rw [head_eta] at this
  rw [hN, this, st_dq' H, head_eta]

/-! ## The arrays of key and value gradients -/

theorem last_of_flush (c : Dev nD) (w : Fin 8) (hw : w = 6 ∨ w = 7) (t : Fin (cfgA (F := Ideal)).N) (hf : ((cfgA (F := Ideal)).win w).flush t = true) :
    ∀ h : (stepN (F := Ideal) t).val + 1 < 72, kjAt ⟨(stepN (F := Ideal) t).val + 1, h⟩ ≠ kjAt (stepN (F := Ideal) t) := by
  intro h heq
  have hN : t.val < 288 := lt_of_lt_of_eq t.isLt N_0
  have c1 : (stepN (F := Ideal) t).val = t.val % 72 := coord1 t
  have hlt : t.val + 1 < (cfgA (F := Ideal)).N := lt_of_lt_of_eq (by omega : t.val + 1 < 288) N_0.symm
  have hs : stepN (F := Ideal) ⟨t.val + 1, hlt⟩ = ⟨(stepN (F := Ideal) t).val + 1, h⟩ := Fin.ext (by
    rw [coord1]; show (t.val + 1) % 72 = (stepN (F := Ideal) t).val + 1; omega)
  have hA : ¬ kindA (stepN (F := Ideal) ⟨t.val + 1, hlt⟩) := fun hA => by
    rw [hs] at hA
    exact newBlock _ hA (stepN (F := Ideal) t) (Nat.lt_succ_self _) heq.symm
  obtain ⟨_, hno⟩ := noflush (F := Ideal) c ⟨t.val + 1, hlt⟩ hA w hw
  exact Bool.false_ne_true (hno.symm.trans hf)

theorem flush_of_last (w : Fin 8) (hw : w = 6 ∨ w = 7) (g : Fin 4) (s : Fin 72) (hl : ∀ h : s.val + 1 < 72, kjAt ⟨s.val + 1, h⟩ ≠ kjAt s) :
    ((cfgA (F := Ideal)).win w).flush (pt g s) = true := by
  have fin : ∀ ix : grid0.Coords → Fin 3 → ℕ, (∀ i, ix i = ![(i 0).val, (kjAt (stepOf i)).val, 0]) → Window.flushOf grid0 true ix (pt g s) = true := by
    intro ix hix
    unfold Window.flushOf
    rw [Bool.true_and, Bool.or_eq_true]
    by_cases hN : (pt g s).val + 1 = 288
    · exact .inl (decide_eq_true (hN.trans N_0.symm))
    refine .inr (decide_eq_true ?_)
    have hv : (pt g s).val = 72 * g.val + s.val := rfl
    have hlt : (pt g s).val + 1 < grid0.N := lt_of_lt_of_eq (by omega : (pt g s).val + 1 < 288) N_0.symm
    refine ⟨hlt, fun heq => ?_⟩
    rw [hix, hix] at heq
    have h0 := congrFun heq 0
    have h1 := congrFun heq 1
    have e0 : (grid0.coords (⟨(pt g s).val + 1, hlt⟩ : Fin grid0.N) 0).val = (grid0.coords (pt g s) 0).val := by first | exact h0 | exact h0.symm
    rw [coord0, coord0] at e0
    have e0' : ((pt g s).val + 1) / 72 = (pt g s).val / 72 := e0
    have hs : s.val + 1 < 72 := by omega
    have hst : stepOf (grid0.coords (⟨(pt g s).val + 1, hlt⟩ : Fin grid0.N)) = ⟨s.val + 1, hs⟩ := Fin.ext (by
      rw [coord1]; show ((pt g s).val + 1) % 72 = s.val + 1; omega)
    have e1 : (kjAt (stepOf (grid0.coords (⟨(pt g s).val + 1, hlt⟩ : Fin grid0.N)))).val = (kjAt (stepOf (grid0.coords (pt g s)))).val := by first | exact h1 | exact h1.symm
    rw [hst, show stepOf (grid0.coords (pt g s)) = s from step_pt g s] at e1
    exact hl hs (Fin.ext e1)
  rcases hw with rfl | rfl
  · exact fin _ fun i => tf7 i
  · exact fin _ fun i => tf8 i

theorem emb6 (t : Fin (cfgA (F := Ideal)).N) (y : S2x1024x256.Idx) :
    (((cfgA (F := Ideal)).win 6).blk t).view.emb y = ix3 (hd (grp t) (y 0)) (ky (kjAt (stepN (F := Ideal) t)) (y 1)) (y 2) := by
  have e := tf7 (F := Ideal) (grid0.coords t)
  have c0 := coord0 t
  funext x
  refine Fin.ext ?_
  have : ((((cfgA (F := Ideal)).win 6).blk t).view.emb y x).val
      = cc0_transform_7 k0_off1_inb numel1_S1 (tabs (F := Ideal)) (grid0.coords t) x * S2x1024x256.size x + 1 * (y x).val := rfl
  refine this.trans ?_
  rw [e, c0]
  fin_cases x
  · show t.val / 72 * 2 + 1 * (y 0).val = 2 * (t.val / 72) + (y 0).val; omega
  · show (kjAt (stepOf (grid0.coords t))).val * 1024 + 1 * (y 1).val = 1024 * (kjAt (stepOf (grid0.coords t))).val + (y 1).val; omega
  · show 0 * 256 + 1 * (y 2).val = (y 2).val; omega

theorem emb7 (t : Fin (cfgA (F := Ideal)).N) (y : S2x1024x128.Idx) :
    (((cfgA (F := Ideal)).win 7).blk t).view.emb y = ix3 (hd (grp t) (y 0)) (ky (kjAt (stepN (F := Ideal) t)) (y 1)) (y 2) := by
  have e := tf8 (F := Ideal) (grid0.coords t)
  have c0 := coord0 t
  funext x
  refine Fin.ext ?_
  have : ((((cfgA (F := Ideal)).win 7).blk t).view.emb y x).val
      = cc0_transform_8 k0_off1_inb numel1_S1 (tabs (F := Ideal)) (grid0.coords t) x * S2x1024x128.size x + 1 * (y x).val := rfl
  refine this.trans ?_
  rw [e, c0]
  fin_cases x
  · show t.val / 72 * 2 + 1 * (y 0).val = 2 * (t.val / 72) + (y 0).val; omega
  · show (kjAt (stepOf (grid0.coords t))).val * 1024 + 1 * (y 1).val = 1024 * (kjAt (stepOf (grid0.coords t))).val + (y 1).val; omega
  · show 0 * 128 + 1 * (y 2).val = (y 2).val; omega

/-- The three arrays, over the extended reals. -/
def outQ (a : Args) : Vec Ideal S8x8192x256 .f32 := fun i => ((a.dq (i 0) (i 1) (i 2) : ℝ) : EReal)
def outK (a : Args) : Vec Ideal S8x8192x256 .f32 := fun i => ((a.dk (i 0) (i 1) (i 2) : ℝ) : EReal)
def outV (a : Args) : Vec Ideal S8x8192x128 .f32 := fun i => ((a.dv (i 0) (i 1) (i 2) : ℝ) : EReal)

theorem final0 (H : AllLoaded m ρ c a) : hAt m ρ c (cfgA (F := Ideal)).N = outQ a := by
  funext i
  rw [eq_ix3 i]
  exact final_dq H _ _ _

theorem final6 (H : AllLoaded m ρ c a) : finalA m ρ c 6 = outK a := by
  refine (dats m ρ 0 c).arrAt_eq_of_emb (6 : Fin 8) (outK a) (fun t hf y => ?_) fun i => ?_
  · refine Eq.trans ?_ (congrArg (outK a) (emb6 t y)).symm
    have A := all_dk (S := fun n => stAt m ρ c (72 * (grp t).val + n)) (X := fun s => insAt m ρ c (pt (grp t) s)) (stepsOf _) (H _) (stepN (F := Ideal) t)
      (last_of_flush c 6 (.inl rfl) t hf) (y 0) (y 1) (y 2)
    have e : 72 * (grp t).val + ((stepN (F := Ideal) t).val + 1) = t.val + 1 := congrArg (fun t : Fin (cfgA (F := Ideal)).N => t.val + 1) (pt_eta t)
    beta_reduce at A
    rw [e] at A
    refine Eq.trans ?_ A
    exact congrArg (stAt m ρ c (t.val + 1)).dk (eq_ix3 (n0 := 2) (n1 := 1024) (n2 := 256) y)
  · obtain ⟨s, hk, hl⟩ := kjHit ⟨(i 1).val / 1024, by have : (i 1).val < 8192 := (i 1).isLt; omega⟩
    have h0 : (i 0).val < 8 := (i 0).isLt
    have h1 : (i 1).val < 8192 := (i 1).isLt
    refine ⟨pt ⟨(i 0).val / 2, by omega⟩ s, flush_of_last 6 (.inl rfl) _ s hl, ?_⟩
    refine Finset.mem_map.mpr ⟨ix3 (⟨(i 0).val % 2, by omega⟩ : Fin 2) (⟨(i 1).val % 1024, by omega⟩ : Fin 1024) (i 2), Finset.mem_univ _, ?_⟩
    refine (emb6 _ _).trans ?_
    rw [grp_pt, step_pt, hk]
    refine Eq.trans ?_ (eq_ix3 (n0 := 8) (n1 := 8192) (n2 := 256) i).symm
    exact congrArg₂ (fun a b => ix3 a b (i 2)) (head_eta (i 0)) (key_eta (i 1))

theorem final7 (H : AllLoaded m ρ c a) : finalA m ρ c 7 = outV a := by
  refine (dats m ρ 0 c).arrAt_eq_of_emb (7 : Fin 8) (outV a) (fun t hf y => ?_) fun i => ?_
  · refine Eq.trans ?_ (congrArg (outV a) (emb7 t y)).symm
    have A := all_dv (S := fun n => stAt m ρ c (72 * (grp t).val + n)) (X := fun s => insAt m ρ c (pt (grp t) s)) (stepsOf _) (H _) (stepN (F := Ideal) t)
      (last_of_flush c 7 (.inr rfl) t hf) (y 0) (y 1) (y 2)
    have e : 72 * (grp t).val + ((stepN (F := Ideal) t).val + 1) = t.val + 1 := congrArg (fun t : Fin (cfgA (F := Ideal)).N => t.val + 1) (pt_eta t)
    beta_reduce at A
    rw [e] at A
    refine Eq.trans ?_ A
    exact congrArg (stAt m ρ c (t.val + 1)).dv (eq_ix3 (n0 := 2) (n1 := 1024) (n2 := 128) y)
  · obtain ⟨s, hk, hl⟩ := kjHit ⟨(i 1).val / 1024, by have : (i 1).val < 8192 := (i 1).isLt; omega⟩
    have h0 : (i 0).val < 8 := (i 0).isLt
    have h1 : (i 1).val < 8192 := (i 1).isLt
    refine ⟨pt ⟨(i 0).val / 2, by omega⟩ s, flush_of_last 7 (.inr rfl) _ s hl, ?_⟩
    refine Finset.mem_map.mpr ⟨ix3 (⟨(i 0).val % 2, by omega⟩ : Fin 2) (⟨(i 1).val % 1024, by omega⟩ : Fin 1024) (i 2), Finset.mem_univ _, ?_⟩
    refine (emb7 _ _).trans ?_
    rw [grp_pt, step_pt, hk]
    refine Eq.trans ?_ (eq_ix3 (n0 := 8) (n1 := 8192) (n2 := 128) i).symm
    exact congrArg₂ (fun a b => ix3 a b (i 2)) (head_eta (i 0)) (key_eta (i 1))

end Cert.Proof.Flash

end
-- ==== Proof.Fwd.lean ====
/-
  The forward pass on the host, over the extended reals, when its arrays hold real numbers.
-/
module

public import proofs.«01_k».proof.Proof.Tile
public import Idealize.ShloMosaic.Lib.Pointwise
public import Idealize.ShloMosaic.PureOps.IdealRules

@[expose] public section

noncomputable section

namespace Cert.Proof.Flash

open Cert.KernelIdeal Cert.KernelIdeal.Gen
open Idealize.ShloMosaic

/-- The arrays hold the real arrays. -/
structure Holds (a : Args) (q k : FVec Ideal S8x8192x192 .f32) (v : FVec Ideal S8x8192x128 .f32) (g : FVec Ideal S8192x1024 .f32) : Prop where
  q : ∀ h r d, q (ix3 h r d) = ((a.q h r d : ℝ) : EReal)
  k : ∀ h r d, k (ix3 h r d) = ((a.k h r d : ℝ) : EReal)
  v : ∀ h r d, v (ix3 h r d) = ((a.v h r d : ℝ) : EReal)
  g : ∀ r d, g (ix2 r d) = ((a.g r d : ℝ) : EReal)

/-- Which keys a row sees. -/
def hMask : IVec S8x8192x8192 1 := broadcastInDim S8x8192x8192 ![1, 2] bcast_S8192x8192_S8x8192x8192_1_2
  (cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))
/-- The square root of the lane count, everywhere. -/
def hRoot : FVec Ideal S8x8192x8192 .f32 := broadcastInDim S8x8192x8192 ![] bcast_S_S8x8192x8192 (Host.sqrt (constant (F := Ideal) S_ .f32 0x43400000#32))
/-- The masked scores. -/
def hSc (q k : FVec Ideal S8x8192x192 .f32) : FVec Ideal S8x8192x8192 .f32 :=
  select hMask (Host.divf (Host.dotGeneral dot_S8x8192x192_S8x8192x192_S8x8192x8192_2_2_1_1_0_0 none q k) hRoot)
    (broadcastInDim S8x8192x8192 ![] bcast_S_S8x8192x8192 (id (constant (F := Ideal) S_ .f32 0xFF800000#32)))
/-- Their greatest, row by row. -/
def hMx (s : FVec Ideal S8x8192x8192 .f32) : FVec Ideal S8x8192 .f32 :=
  Host.reduce (FloatOps.maximumf (F := Ideal) (φ := .f32)) s (constant (F := Ideal) S_ .f32 0xFF800000#32) reducesTo_S8x8192x8192_S8x8192_d2 h_S_
/-- The exponentials, their sums and the weights. -/
def hEx (s : FVec Ideal S8x8192x8192 .f32) (M : FVec Ideal S8x8192x1 .f32) : FVec Ideal S8x8192x8192 .f32 :=
  Host.exp (subf s (broadcastInDim S8x8192x8192 ![0, 1, 2] bcast_S8x8192x1_S8x8192x8192_0_1_2 M))
def hSm (e : FVec Ideal S8x8192x8192 .f32) : FVec Ideal S8x8192x1 .f32 :=
  broadcastInDim S8x8192x1 ![0, 1] bcast_S8x8192_S8x8192x1_0_1 (Host.reduceAdd e (constant (F := Ideal) S_ .f32 0x00000000#32) reducesTo_S8x8192x8192_S8x8192_d2 h_S_)
def hP (e : FVec Ideal S8x8192x8192 .f32) (l : FVec Ideal S8x8192x1 .f32) : FVec Ideal S8x8192x8192 .f32 :=
  Host.divf e (broadcastInDim S8x8192x8192 ![0, 1, 2] bcast_S8x8192x1_S8x8192x8192_0_1_2 l)
def hLse (M l : FVec Ideal S8x8192x1 .f32) : FVec Ideal S8x8192x1 .f32 :=
  Host.divf (addf M (Host.log l)) (broadcastInDim S8x8192x1 ![] bcast_S_S8x8192x1 (Host.log (constant (F := Ideal) S_ .f32 0x40000000#32)))
/-- The rows' corrections. -/
def hDe (v : FVec Ideal S8x8192x128 .f32) (g : FVec Ideal S8192x1024 .f32) (p : FVec Ideal S8x8192x8192 .f32) : FVec Ideal S8x8192 .f32 :=
  transpose S8x8192 [1, 0] (Host.reduceAdd (shapeCast S8192x8x128 (mulf (shapeCast S8192x1024 (transpose S8192x8x128 [2, 0, 1]
    (Host.dotGeneral dot_S8x8192x128_S8x8192x8192_S8x128x8192_1_2_2_1_0_0 none v p) transposes_S8x128x8192_S8192x8x128_2_0_1) shapeCasts_S8192x8x128_S8192x1024) g) shapeCasts_S8192x1024_S8192x8x128)
    (constant (F := Ideal) S_ .f32 0x00000000#32) reducesTo_S8192x8x128_S8192x8_d2 h_S_) transposes_S8192x8_S8x8192_1_0
def hPad (q : FVec Ideal S8x8192x192 .f32) : FVec Ideal S8x8192x256 .f32 :=
  pad S8x8192x256 ![0, 0, 0] ![0, 0, 64] ![0, 0, 0] q (sitofp (F := Ideal) .f32 (constantI S_ 32 0#32)) pads_S8x8192x192_S8x8192x256_000_000_0640 h_S_

theorem bits_neg : Ideal.ofBits .f32 4286578688#32 = ⊥ := by simp [Ideal.ofBits, Ideal.ieee]
theorem bits_root : Ideal.ofBits .f32 1128267776#32 = ((192 : ℝ) : EReal) := by simp [Ideal.ofBits, Ideal.ieee, -EReal.coe_mul]; norm_num
theorem bits_two : Ideal.ofBits .f32 1073741824#32 = ((2 : ℝ) : EReal) := by simp [Ideal.ofBits, Ideal.ieee, -EReal.coe_mul]; norm_num

theorem see (j r : ℕ) (hj : j < 8192) (hr : r < 8192) (A B : EReal) :
    Scalar.select (IntOp.cmpi CmpIPredicate.sle (BitVec.ofNat 32 j) (BitVec.ofNat 32 r)) A B = if j ≤ r then A else B := by
  have e : (BitVec.ofNat 32 j).sle (BitVec.ofNat 32 r) = decide (j ≤ r) := by
    rw [BitVec.sle_eq_decide, BitVec.toInt_eq_toNat_of_lt, BitVec.toInt_eq_toNat_of_lt, BitVec.toNat_ofNat, BitVec.toNat_ofNat]
    · rw [Nat.mod_eq_of_lt (by omega), Nat.mod_eq_of_lt (by omega)]; congr 1; apply propext; norm_cast
    all_goals rw [BitVec.toNat_ofNat, Nat.mod_eq_of_lt (by omega)]; omega
  unfold IntOp.cmpi
  simp only [e]
  by_cases h : j ≤ r <;> simp [h, Scalar.select]

theorem hMask_at (h : Fin 8) (r j : Fin 8192) (A B : EReal) : Scalar.select (hMask (ix3 h r j)) A B = if j ≤ r then A else B := by
  pointwise [hMask]
  exact see j.val r.val j.isLt r.isLt A B
theorem hRoot_at (h : Fin 8) (r j : Fin 8192) : hRoot (ix3 h r j) = ((√192 : ℝ) : EReal) := by
  pointwise [hRoot]
  rw [bits_root, Ideal.sqrt_coe, if_neg (by norm_num)]

theorem root_ne : (√192 : ℝ) ≠ 0 := (Real.sqrt_pos.mpr (by norm_num)).ne'
theorem div_real {x y : ℝ} (h : y ≠ 0) : Ideal.div (x : EReal) (y : EReal) = ((x / y : ℝ) : EReal) := by
  rw [Ideal.div_coe h, ← EReal.coe_mul, mul_one_div]

variable {a : Args} {q k : FVec Ideal S8x8192x192 .f32} {v : FVec Ideal S8x8192x128 .f32} {g : FVec Ideal S8192x1024 .f32}

theorem hSc_at (H : Holds a q k v g) (h : Fin 8) (r j : Fin 8192) : hSc q k (ix3 h r j) = if j ≤ r then ((a.sc h r j : ℝ) : EReal) else ⊥ := by
  pointwise [hSc]
  rw [hMask_at, hRoot_at]
  congr 1
  · simp only [H.q, H.k, ← EReal.coe_mul, coe_sum]
    exact div_real root_ne

/-- The greatest of the scores a row sees. -/
theorem sup_mx (a : Args) (h : Fin 8) (r : Fin 8192) :
    Finset.fold max (⊥ : EReal) (fun j : Fin 8192 => if j ≤ r then ((a.sc h r j : ℝ) : EReal) else ⊥) Finset.univ = ((a.mx h r : ℝ) : EReal) := by
  change Finset.univ.sup (fun j : Fin 8192 => if j ≤ r then ((a.sc h r j : ℝ) : EReal) else ⊥) = _
  refine le_antisymm (Finset.sup_le fun j _ => ?_) ?_
  · split_ifs with hj
    · exact EReal.coe_le_coe_iff.mpr (Finset.le_sup' (a.sc h r) (by simpa using hj))
    · exact bot_le
  · obtain ⟨j, hj, e⟩ := Finset.exists_mem_eq_sup' (s := Finset.univ.filter fun j : Fin 8192 => j ≤ r) ⟨r, by simp⟩ (a.sc h r)
    have hj' : j ≤ r := by simpa using hj
    have := Finset.le_sup (f := fun j : Fin 8192 => if j ≤ r then ((a.sc h r j : ℝ) : EReal) else ⊥) (Finset.mem_univ j)
    simp only [if_pos hj'] at this
    unfold Args.mx
    rw [e]
    exact this

theorem hMx_at {s : FVec Ideal S8x8192x8192 .f32} (hs : ∀ h r j, s (ix3 h r j) = if j ≤ r then ((a.sc h r j : ℝ) : EReal) else ⊥) (h : Fin 8) (r : Fin 8192) :
    hMx s (ix2 h r) = ((a.mx h r : ℝ) : EReal) := by
  pointwise [hMx]
  simp only [hs, bits_neg]
  exact sup_mx a h r
theorem hEx_at {s : FVec Ideal S8x8192x8192 .f32} {M : FVec Ideal S8x8192x1 .f32} (hs : ∀ h r j, s (ix3 h r j) = if j ≤ r then ((a.sc h r j : ℝ) : EReal) else ⊥)
    (hM : ∀ h r, M (ix3 h r 0) = ((a.mx h r : ℝ) : EReal)) (h : Fin 8) (r j : Fin 8192) : hEx s M (ix3 h r j) = ((a.ex h r j : ℝ) : EReal) := by
  pointwise [hEx]
  rw [hs, hM]
  unfold Args.ex
  split_ifs
  · rw [← EReal.coe_sub, Ideal.exp_coe]
  · rw [EReal.bot_sub, Ideal.exp_bot, EReal.coe_zero]
theorem hSm_at {e : FVec Ideal S8x8192x8192 .f32} (he : ∀ h r j, e (ix3 h r j) = ((a.ex h r j : ℝ) : EReal)) (h : Fin 8) (r : Fin 8192) : hSm e (ix3 h r 0) = ((a.sm h r : ℝ) : EReal) := by
  pointwise [hSm]
  simp only [he, coe_sum]
  rfl
theorem hP_at {e : FVec Ideal S8x8192x8192 .f32} {l : FVec Ideal S8x8192x1 .f32} (he : ∀ h r j, e (ix3 h r j) = ((a.ex h r j : ℝ) : EReal))
    (hl : ∀ h r, l (ix3 h r 0) = ((a.sm h r : ℝ) : EReal)) (h : Fin 8) (r j : Fin 8192) : hP e l (ix3 h r j) = ((a.p h r j : ℝ) : EReal) := by
  pointwise [hP]
  rw [he, hl, div_real (a.sm_pos h r).ne']
  rfl
theorem hLse_at {M l : FVec Ideal S8x8192x1 .f32} (hM : ∀ h r, M (ix3 h r 0) = ((a.mx h r : ℝ) : EReal))
    (hl : ∀ h r, l (ix3 h r 0) = ((a.sm h r : ℝ) : EReal)) (h : Fin 8) (r : Fin 8192) : hLse M l (ix3 h r 0) = ((a.lse h r : ℝ) : EReal) := by
  pointwise [hLse]
  rw [hM, hl, bits_two, Ideal.log_coe, if_neg (not_le.mpr (a.sm_pos h r)), Ideal.log_coe, if_neg (by norm_num), ← EReal.coe_add,
    div_real (Real.log_pos one_lt_two).ne']
  rfl
theorem hDe_at (H : Holds a q k v g) {p : FVec Ideal S8x8192x8192 .f32} (hp : ∀ h r j, p (ix3 h r j) = ((a.p h r j : ℝ) : EReal)) (h : Fin 8) (r : Fin 8192) :
    hDe v g p (ix2 h r) = ((a.de h r : ℝ) : EReal) := by
  pointwise [hDe]
  simp only [H.v, H.g, hp, ← EReal.coe_mul, coe_sum]
  rw [a.de_eq]
  refine congrArg Real.toEReal (Finset.sum_congr rfl fun d _ => congrArg₂ _ rfl (congrArg _ (Fin.ext ?_)))
  change h.val * 128 + d.val = 128 * h.val + d.val
  omega
theorem hPad_at (x : FVec Ideal S8x8192x192 .f32) (y : Fin 8 → Fin 8192 → Fin 192 → ℝ) (hx : ∀ h r d, x (ix3 h r d) = ((y h r d : ℝ) : EReal)) (h : Fin 8) (r : Fin 8192) (d : Fin 256) :
    hPad x (ix3 h r d) = ((if hd : d.val < 192 then y h r ⟨d.val, hd⟩ else 0 : ℝ) : EReal) := by
  pointwise [hPad]
  split_ifs with hd
  · rw [hx]
  · simp [FloatOps.sitofp]

end Cert.Proof.Flash

end
-- ==== Proof.HostVals.lean ====
/-
  What the host's arrays hold when the gradient kernel starts.
-/
module

public import proofs.«01_k».proof.Proof.Host
public import proofs.«01_k».proof.Proof.Fwd
public import Idealize.ShloMosaic.Lib.StableHlo.Run

@[expose] public section

noncomputable section

namespace Cert.Proof.Flash

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- The four arguments. -/
abbrev aq : FVec Ideal S8x8192x192 .f32 := m ((c : Thread nD τ).loc main_arg0)
abbrev ak : FVec Ideal S8x8192x192 .f32 := m ((c : Thread nD τ).loc main_arg1)
abbrev av : FVec Ideal S8x8192x128 .f32 := m ((c : Thread nD τ).loc main_arg2)
abbrev ag : FVec Ideal S8192x1024 .f32 := m ((c : Thread nD τ).loc main_arg3)

/-- The scores, their row maxima, exponentials, sums and weights. -/
def vSc : FVec Ideal S8x8192x8192 .f32 := hSc (aq m c) (ak m c)
def vMx : FVec Ideal S8x8192x1 .f32 := broadcastInDim S8x8192x1 ![0, 1] bcast_S8x8192_S8x8192x1_0_1 (hMx (vSc m c))
def vEx : FVec Ideal S8x8192x8192 .f32 := hEx (vSc m c) (vMx m c)
def vSm : FVec Ideal S8x8192x1 .f32 := hSm (vEx m c)
def vP : FVec Ideal S8x8192x8192 .f32 := hP (vEx m c) (vSm m c)

set_option maxRecDepth 8192 in
set_option maxHeartbeats 4000000 in
theorem W2_v10 : W2 m ρ c (Proc.devRef .tc main_v10) = vSc m c := by
  unfold W2 W1
  simp only [hostOps0, hostOps0_1, TRef.binary, TRef.nullary, TRef.ternary, TRef.unary, TRef.toBuf, TRef.ofBuf, cast_eq]
  after_results_simp <;> rfl

set_option maxRecDepth 8192 in
set_option maxHeartbeats 4000000 in
theorem W3_v22 : W3 m ρ c (Proc.devRef .tc main_v22) = hLse (vMx m c) (vSm m c) := by
  unfold W3
  simp only [hostOps0_2]
  after_results_simp
  rw [W2_v10]
  rfl
set_option maxRecDepth 8192 in
set_option maxHeartbeats 4000000 in
theorem W3_v31 : W3 m ρ c (Proc.devRef .tc main_v31) = hDe (av m c) (ag m c) (vP m c) := by
  unfold W3
  simp only [hostOps0_2]
  after_results_simp
  rw [W2_v10]
  rfl

set_option maxRecDepth 8192 in
set_option maxHeartbeats 4000000 in
/-- The arrays the kernel reads. -/
theorem V_v33 : V m ρ c main_v33 = truncf .bf16 (hPad (aq m c)) bitsLt_bf16_f32 := by
  change W7 m ρ c (Proc.devRef .tc main_v33) = _
  unfold W7 W6
  rw [after_of_writes_sub _ _ hostOps0_6_wsub (by decide), after_of_writes_sub _ _ hostOps0_5_wsub (by decide)]
  unfold W5 W4 W3
  simp only [hostOps0_2, hostOps0_3, hostOps0_4, TRef.binary, TRef.nullary, TRef.ternary, TRef.unary, TRef.toBuf, TRef.ofBuf, cast_eq]
  after_results_simp <;> rfl
set_option maxRecDepth 8192 in
set_option maxHeartbeats 4000000 in
theorem V_v35 : V m ρ c main_v35 = truncf .bf16 (hPad (ak m c)) bitsLt_bf16_f32 := by
  change W7 m ρ c (Proc.devRef .tc main_v35) = _
  unfold W7 W6 W5
  simp only [hostOps0_4, hostOps0_5, hostOps0_6, TRef.binary, TRef.nullary, TRef.ternary, TRef.unary, TRef.toBuf, TRef.ofBuf, cast_eq]
  after_results_simp <;> rfl
set_option maxRecDepth 8192 in
set_option maxHeartbeats 4000000 in
theorem V_v36 : V m ρ c main_v36 = truncf .bf16 (av m c) bitsLt_bf16_f32 := by
  change W7 m ρ c (Proc.devRef .tc main_v36) = _
  unfold W7
  simp only [hostOps0_6]
  after_results_simp <;> rfl

theorem W6_of (r : Ref sig .tc) (h3 : r ∉ hostOps0_3_w) (h4 : r ∉ hostOps0_4_w) (h5 : r ∉ hostOps0_5_w) :
    W6 m ρ c (Proc.devRef .tc r) = W3 m ρ c (Proc.devRef .tc r) := by
  unfold W6 W5 W4
  rw [after_of_writes_sub _ _ hostOps0_5_wsub h5, after_of_writes_sub _ _ hostOps0_4_wsub h4, after_of_writes_sub _ _ hostOps0_3_wsub h3]

set_option maxRecDepth 8192 in
set_option maxHeartbeats 4000000 in
theorem V_v37 : V m ρ c main_v37 = shapeCast S8x1x8192 (hLse (vMx m c) (vSm m c)) shapeCasts_S8x8192x1_S8x1x8192 := by
  change W7 m ρ c (Proc.devRef .tc main_v37) = _
  unfold W7
  simp only [hostOps0_6]
  after_results_simp
  rw [W6_of m ρ c main_v22 (by decide) (by decide) (by decide), W3_v22]
  rfl
set_option maxRecDepth 8192 in
set_option maxHeartbeats 4000000 in
theorem V_v38 : V m ρ c main_v38 = shapeCast S8x1x8192 (hDe (av m c) (ag m c) (vP m c)) shapeCasts_S8x8192_S8x1x8192 := by
  change W7 m ρ c (Proc.devRef .tc main_v38) = _
  unfold W7
  simp only [hostOps0_6]
  after_results_simp
  rw [W6_of m ρ c main_v31 (by decide) (by decide) (by decide), W3_v31]
  rfl

/-! ## At an index -/

variable {m ρ c} {a : Args}

/-- The arguments' arrays hold the real arrays. -/
abbrev HoldsAt (m : (ℓ : Loc nD τ sig) → Buf (Elt Ideal) ℓ) (c : Dev nD) (a : Args) : Prop := Holds a (aq m c) (ak m c) (av m c) (ag m c)

theorem vSc_at (H : HoldsAt m c a) (h : Fin 8) (r j : Fin 8192) : vSc m c (ix3 h r j) = if j ≤ r then ((a.sc h r j : ℝ) : EReal) else ⊥ := hSc_at H h r j
theorem vMx_at (H : HoldsAt m c a) (h : Fin 8) (r : Fin 8192) : vMx m c (ix3 h r 0) = ((a.mx h r : ℝ) : EReal) := by
  pointwise [vMx]
  exact hMx_at (vSc_at H) h r
theorem vEx_at (H : HoldsAt m c a) (h : Fin 8) (r j : Fin 8192) : vEx m c (ix3 h r j) = ((a.ex h r j : ℝ) : EReal) := hEx_at (vSc_at H) (vMx_at H) h r j
theorem vSm_at (H : HoldsAt m c a) (h : Fin 8) (r : Fin 8192) : vSm m c (ix3 h r 0) = ((a.sm h r : ℝ) : EReal) := hSm_at (vEx_at H) h r
theorem vP_at (H : HoldsAt m c a) (h : Fin 8) (r j : Fin 8192) : vP m c (ix3 h r j) = ((a.p h r j : ℝ) : EReal) := hP_at (vEx_at H) (vSm_at H) h r j

def flatL (x : FVec Ideal S8x8192x1 .f32) : FVec Ideal S8x1x8192 .f32 := shapeCast S8x1x8192 x shapeCasts_S8x8192x1_S8x1x8192
def flatD (x : FVec Ideal S8x8192 .f32) : FVec Ideal S8x1x8192 .f32 := shapeCast S8x1x8192 x shapeCasts_S8x8192_S8x1x8192
theorem flatL_at (x : FVec Ideal S8x8192x1 .f32) (h : Fin 8) (r : Fin 8192) : flatL x (ix3 h 0 r) = x (ix3 h r 0) := by
  pointwise [flatL]
theorem flatD_at (x : FVec Ideal S8x8192 .f32) (h : Fin 8) (r : Fin 8192) : flatD x (ix3 h 0 r) = x (ix2 h r) := by
  pointwise [flatD]

theorem v33_at (H : HoldsAt m c a) (h : Fin 8) (r : Fin 8192) (d : Fin 256) : (V m ρ c main_v33 : FVec Ideal S8x8192x256 .bf16) (ix3 h r d) = ((a.Q h r d : ℝ) : EReal) := by
  rw [V_v33]
  exact hPad_at _ a.q H.q h r d
theorem v35_at (H : HoldsAt m c a) (h : Fin 8) (r : Fin 8192) (d : Fin 256) : (V m ρ c main_v35 : FVec Ideal S8x8192x256 .bf16) (ix3 h r d) = ((a.K h r d : ℝ) : EReal) := by
  rw [V_v35]
  exact hPad_at _ a.k H.k h r d
theorem v36_at (H : HoldsAt m c a) (h : Fin 8) (r : Fin 8192) (d : Fin 128) : (V m ρ c main_v36 : FVec Ideal S8x8192x128 .bf16) (ix3 h r d) = ((a.v h r d : ℝ) : EReal) := by
  rw [V_v36]
  exact H.v h r d
theorem v37_at (H : HoldsAt m c a) (h : Fin 8) (r : Fin 8192) : (V m ρ c main_v37 : FVec Ideal S8x1x8192 .f32) (ix3 h 0 r) = ((a.lse h r : ℝ) : EReal) := by
  rw [V_v37]
  exact (flatL_at _ h r).trans (hLse_at (vMx_at H) (vSm_at H) h r)
theorem v38_at (H : HoldsAt m c a) (h : Fin 8) (r : Fin 8192) : (V m ρ c main_v38 : FVec Ideal S8x1x8192 .f32) (ix3 h 0 r) = ((a.de h r : ℝ) : EReal) := by
  rw [V_v38]
  exact (flatD_at _ h r).trans (hDe_at H (vP_at H) h r)

end Cert.Proof.Flash

end
-- ==== Proof.Loads.lean ====
/-
  The blocks of a grid point, when the arguments hold real arrays.
-/
module

public import proofs.«01_k».proof.Proof.Arrays
public import proofs.«01_k».proof.Proof.HostVals

@[expose] public section

noncomputable section

namespace Cert.Proof.Flash

open Cert.KernelIdeal Cert.KernelIdeal.Gen
open Idealize.ShloMosaic Idealize.ShloMosaic.TcCoe

/-- A pair of heads' columns of the output's gradient. -/
def cols (g : Fin 4) (d : Fin 256) : Fin 1024 := ⟨256 * g.val + d.val, by omega⟩

theorem emb0 (t : Fin (cfgA (F := Ideal)).N) (y : S2x512x256.Idx) :
    (((cfgA (F := Ideal)).win 0).blk t).view.emb y = ix3 (hd (grp t) (y 0)) (rw' (qiAt (stepN (F := Ideal) t)) (y 1)) (y 2) := by
  have e := tf0 (F := Ideal) (grid0.coords t)
  have c0 := coord0 t
  funext x
  refine Fin.ext ?_
  have : ((((cfgA (F := Ideal)).win 0).blk t).view.emb y x).val
      = cc0_transform_0 k0_off1_inb numel1_S1 (tabs (F := Ideal)) (grid0.coords t) x * S2x512x256.size x + 1 * (y x).val := rfl
  refine this.trans ?_
  rw [e, c0]
  fin_cases x
  · show t.val / 72 * 2 + 1 * (y 0).val = 2 * (t.val / 72) + (y 0).val; omega
  · show (qiAt (stepOf (grid0.coords t))).val * 512 + 1 * (y 1).val = 512 * (qiAt (stepOf (grid0.coords t))).val + (y 1).val; omega
  · show 0 * 256 + 1 * (y 2).val = (y 2).val; omega

theorem emb1 (t : Fin (cfgA (F := Ideal)).N) (y : S2x1024x256.Idx) :
    (((cfgA (F := Ideal)).win 1).blk t).view.emb y = ix3 (hd (grp t) (y 0)) (ky (kjAt (stepN (F := Ideal) t)) (y 1)) (y 2) := by
  have e := tf1 (F := Ideal) (grid0.coords t)
  have c0 := coord0 t
  funext x
  refine Fin.ext ?_
  have : ((((cfgA (F := Ideal)).win 1).blk t).view.emb y x).val
      = cc0_transform_1 k0_off1_inb numel1_S1 (tabs (F := Ideal)) (grid0.coords t) x * S2x1024x256.size x + 1 * (y x).val := rfl
  refine this.trans ?_
  rw [e, c0]
  fin_cases x
  · show t.val / 72 * 2 + 1 * (y 0).val = 2 * (t.val / 72) + (y 0).val; omega
  · show (kjAt (stepOf (grid0.coords t))).val * 1024 + 1 * (y 1).val = 1024 * (kjAt (stepOf (grid0.coords t))).val + (y 1).val; omega
  · show 0 * 256 + 1 * (y 2).val = (y 2).val; omega

theorem emb2 (t : Fin (cfgA (F := Ideal)).N) (y : S2x1024x128.Idx) :
    (((cfgA (F := Ideal)).win 2).blk t).view.emb y = ix3 (hd (grp t) (y 0)) (ky (kjAt (stepN (F := Ideal) t)) (y 1)) (y 2) := by
  have e := tf2 (F := Ideal) (grid0.coords t)
  have c0 := coord0 t
  funext x
  refine Fin.ext ?_
  have : ((((cfgA (F := Ideal)).win 2).blk t).view.emb y x).val
      = cc0_transform_2 k0_off1_inb numel1_S1 (tabs (F := Ideal)) (grid0.coords t) x * S2x1024x128.size x + 1 * (y x).val := rfl
  refine this.trans ?_
  rw [e, c0]
  fin_cases x
  · show t.val / 72 * 2 + 1 * (y 0).val = 2 * (t.val / 72) + (y 0).val; omega
  · show (kjAt (stepOf (grid0.coords t))).val * 1024 + 1 * (y 1).val = 1024 * (kjAt (stepOf (grid0.coords t))).val + (y 1).val; omega
  · show 0 * 128 + 1 * (y 2).val = (y 2).val; omega

theorem emb3 (t : Fin (cfgA (F := Ideal)).N) (y : S512x256.Idx) :
    (((cfgA (F := Ideal)).win 3).blk t).view.emb y = ix2 (rw' (qiAt (stepN (F := Ideal) t)) (y 0)) (cols (grp t) (y 1)) := by
  have e := tf3 (F := Ideal) (grid0.coords t)
  have c0 := coord0 t
  funext x
  refine Fin.ext ?_
  have : ((((cfgA (F := Ideal)).win 3).blk t).view.emb y x).val
      = cc0_transform_3 k0_off1_inb numel1_S1 (tabs (F := Ideal)) (grid0.coords t) x * S512x256.size x + 1 * (y x).val := rfl
  refine this.trans ?_
  rw [e, c0]
  fin_cases x
  · show (qiAt (stepOf (grid0.coords t))).val * 512 + 1 * (y 0).val = 512 * (qiAt (stepOf (grid0.coords t))).val + (y 0).val; omega
  · show t.val / 72 * 256 + 1 * (y 1).val = 256 * (t.val / 72) + (y 1).val; omega

theorem emb4 (t : Fin (cfgA (F := Ideal)).N) (y : S2x1x512.Idx) :
    (((cfgA (F := Ideal)).win 4).blk t).view.emb y = ix3 (hd (grp t) (y 0)) (y 1) (rw' (qiAt (stepN (F := Ideal) t)) (y 2)) := by
  have e := tf4 (F := Ideal) (grid0.coords t)
  have c0 := coord0 t
  funext x
  refine Fin.ext ?_
  have : ((((cfgA (F := Ideal)).win 4).blk t).view.emb y x).val
      = cc0_transform_4 k0_off1_inb numel1_S1 (tabs (F := Ideal)) (grid0.coords t) x * S2x1x512.size x + 1 * (y x).val := rfl
  refine this.trans ?_
  rw [e, c0]
  fin_cases x
  · show t.val / 72 * 2 + 1 * (y 0).val = 2 * (t.val / 72) + (y 0).val; omega
  · show 0 * 1 + 1 * (y 1).val = (y 1).val; omega
  · show (qiAt (stepOf (grid0.coords t))).val * 512 + 1 * (y 2).val = 512 * (qiAt (stepOf (grid0.coords t))).val + (y 2).val; omega

theorem emb5 (t : Fin (cfgA (F := Ideal)).N) (y : S2x1x512.Idx) :
    (((cfgA (F := Ideal)).win 5).blk t).view.emb y = ix3 (hd (grp t) (y 0)) (y 1) (rw' (qiAt (stepN (F := Ideal) t)) (y 2)) := by
  have e := tf5 (F := Ideal) (grid0.coords t)
  have c0 := coord0 t
  funext x
  refine Fin.ext ?_
  have : ((((cfgA (F := Ideal)).win 5).blk t).view.emb y x).val
      = cc0_transform_5 k0_off1_inb numel1_S1 (tabs (F := Ideal)) (grid0.coords t) x * S2x1x512.size x + 1 * (y x).val := rfl
  refine this.trans ?_
  rw [e, c0]
  fin_cases x
  · show t.val / 72 * 2 + 1 * (y 0).val = 2 * (t.val / 72) + (y 0).val; omega
  · show 0 * 1 + 1 * (y 1).val = (y 1).val; omega
  · show (qiAt (stepOf (grid0.coords t))).val * 512 + 1 * (y 2).val = 512 * (qiAt (stepOf (grid0.coords t))).val + (y 2).val; omega

theorem head0_at (x : Vec Ideal S512x256 .f32) (r : Fin 512) (d : Fin 128) : head0 (F := Ideal) x (ix2 r d) = x (ix2 r ⟨d.val, by omega⟩) := by
  show x _ = x _
  exact congrArg x (by funext i; fin_cases i <;> exact Fin.ext (by show 0 + 1 * _ = _; simp))
theorem head1_at (x : Vec Ideal S512x256 .f32) (r : Fin 512) (d : Fin 128) : head1 (F := Ideal) x (ix2 r d) = x (ix2 r ⟨128 + d.val, by omega⟩) := by
  show x _ = x _
  exact congrArg x (by funext i; fin_cases i <;> exact Fin.ext (by show _ + 1 * _ = _; simp))

variable {m : (ℓ : Loc nD τ sig) → Buf (Elt Ideal) ℓ} {ρ : Dev nD → PrngReg} {c : Dev nD} {a : Args}

theorem g_at (H : HoldsAt m c a) (t : Fin (cfgA (F := Ideal)).N) (y : S512x256.Idx) :
    (insAt m ρ c t).g y = ((a.g (rw' (qiAt (stepN (F := Ideal) t)) (y 0)) (cols (grp t) (y 1)) : ℝ) : EReal) := by
  have : (insAt m ρ c t).g y = V m ρ c main_arg3 ((((cfgA (F := Ideal)).win 3).blk t).view.emb y) := rfl
  refine this.trans ?_
  refine (congrArg (V m ρ c main_arg3) (emb3 t y)).trans ?_
  rw [V_arg3]
  exact H.g _ _

theorem loaded (H : HoldsAt m c a) : AllLoaded m ρ c a := fun g s => by
  have hs : stepN (F := Ideal) (pt g s) = s := step_pt g s
  have hg := grp_pt g s
  constructor
  · intro h r d
    refine (congrArg (V m ρ c main_v33) (emb0 (pt g s) (ix3 h r d))).trans ?_
    rw [hs, hg]; exact v33_at H _ _ _
  · intro h r d
    refine (congrArg (V m ρ c main_v35) (emb1 (pt g s) (ix3 h r d))).trans ?_
    rw [hs, hg]; exact v35_at H _ _ _
  · intro h r d
    refine (congrArg (V m ρ c main_v36) (emb2 (pt g s) (ix3 h r d))).trans ?_
    rw [hs, hg]; exact v36_at H _ _ _
  · intro r d
    refine (head0_at _ r d).trans ((g_at H _ _).trans ?_)
    rw [hs, hg]
    refine congrArg (fun j => ((a.g (rw' (qiAt s) r) j : ℝ) : EReal)) (Fin.ext ?_)
    show 256 * g.val + d.val = 128 * (2 * g.val + 0) + d.val
    omega
  · intro r d
    refine (head1_at _ r d).trans ((g_at H _ _).trans ?_)
    rw [hs, hg]
    refine congrArg (fun j => ((a.g (rw' (qiAt s) r) j : ℝ) : EReal)) (Fin.ext ?_)
    show 256 * g.val + (128 + d.val) = 128 * (2 * g.val + 1) + d.val
    omega
  · intro h r
    refine (congrArg (V m ρ c main_v37) (emb4 (pt g s) (ix3 h 0 r))).trans ?_
    rw [hs, hg]; exact v37_at H _ _
  · intro h r
    refine (congrArg (V m ρ c main_v38) (emb5 (pt g s) (ix3 h 0 r))).trans ?_
    rw [hs, hg]; exact v38_at H _ _

end Cert.Proof.Flash

end
-- ==== Proof.Ref.lean ====
/-
  What the reference computes from arrays of real numbers.
-/
module

public import proofs.«01_k».proof.Proof.Fwd
public import proofs.«01_k».proof.Proof.Gen.ReferenceIdeal.Run
public import Idealize.ShloMosaic.Lib.Pointwise

@[expose] public section

noncomputable section

namespace Cert.Proof.Flash.Refd

open Cert.ReferenceIdeal Cert.ReferenceIdeal.Gen
open Idealize.ShloMosaic Idealize.ShloMosaic.TcCoe

/-- The rows' greatest scores. -/
def rTop (x : FVec Ideal S8x8192 .f32) : FVec Ideal S8x8192x1 .f32 :=
  broadcastInDim S8x8192x1 ![0, 1] bcast_S8x8192_S8x8192x1_0_1 (maximumf (broadcastInDim S8x8192 ![] bcast_S_S8x8192 (constant (F := Ideal) S_ .f32 0xFF800000#32)) x)
/-- The output's gradient by heads, and the weights' gradients. -/
def rG (g : FVec Ideal S8192x1024 .f32) : FVec Ideal S8x128x8192 .f32 :=
  transpose S8x128x8192 [1, 2, 0] (shapeCast S8192x8x128 g shapeCasts_S8192x1024_S8192x8x128) transposes_S8192x8x128_S8x128x8192_1_2_0
def rDp (G : FVec Ideal S8x128x8192 .f32) (v : FVec Ideal S8x8192x128 .f32) : FVec Ideal S8x8192x8192 .f32 :=
  Host.dotGeneral dot_S8x128x8192_S8x8192x128_S8x8192x8192_1_2_2_1_0_0 none G v
/-- The sums' inverse squares. -/
def rInv (l : FVec Ideal S8x8192x1 .f32) : FVec Ideal S8x8192x1 .f32 :=
  Host.divf (broadcastInDim S8x8192x1 ![] bcast_S_S8x8192x1 (constant (F := Ideal) S_ .f32 0x3F800000#32)) (mulf l l)
/-- What a row's sum passes back. -/
def rN (dp : FVec Ideal S8x8192x8192 .f32) (i : FVec Ideal S8x8192x1 .f32) (e : FVec Ideal S8x8192x8192 .f32) : FVec Ideal S8x8192 .f32 :=
  Host.reduceAdd (Host.negf (shapeCast S8x8192x1 (Host.reduceAdd (mulf (mulf dp (broadcastInDim S8x8192x8192 ![0, 1, 2] bcast_S8x8192x1_S8x8192x8192_0_1_2 i)) e)
    (constant (F := Ideal) S_ .f32 0x00000000#32) reducesTo_S8x8192x8192_S8x8192_d2 h_S_) shapeCasts_S8x8192_S8x8192x1)) (constant (F := Ideal) S_ .f32 0x00000000#32) reducesTo_S8x8192x1_S8x8192_d2 h_S_
/-- The scores' gradients. -/
def rDs (dp : FVec Ideal S8x8192x8192 .f32) (l : FVec Ideal S8x8192x1 .f32) (n : FVec Ideal S8x8192 .f32) (e : FVec Ideal S8x8192x8192 .f32) : FVec Ideal S8x8192x8192 .f32 :=
  Host.divf (select hMask (mulf (addf (Host.divf dp (broadcastInDim S8x8192x8192 ![0, 1, 2] bcast_S8x8192x1_S8x8192x8192_0_1_2 l)) (broadcastInDim S8x8192x8192 ![0, 1] bcast_S8x8192_S8x8192x8192_0_1 n)) e)
    (broadcastInDim S8x8192x8192 ![] bcast_S_S8x8192x8192 (constant (F := Ideal) S_ .f32 0x00000000#32))) hRoot
/-- The three gradients. -/
def rDq (ds : FVec Ideal S8x8192x8192 .f32) (k : FVec Ideal S8x8192x192 .f32) : FVec Ideal S8x8192x192 .f32 :=
  Host.dotGeneral dot_S8x8192x8192_S8x8192x192_S8x8192x192_2_1_1_2_0_0 none ds k
def rDk (ds : FVec Ideal S8x8192x8192 .f32) (q : FVec Ideal S8x8192x192 .f32) : FVec Ideal S8x8192x192 .f32 :=
  Host.dotGeneral dot_S8x8192x8192_S8x8192x192_S8x8192x192_1_1_2_2_0_0 none ds q
def rDv (G : FVec Ideal S8x128x8192 .f32) (p : FVec Ideal S8x8192x8192 .f32) : FVec Ideal S8x8192x128 .f32 :=
  transpose S8x8192x128 [0, 2, 1] (Host.dotGeneral dot_S8x128x8192_S8x8192x8192_S8x128x8192_2_1_1_2_0_0 none G p) transposes_S8x128x8192_S8x8192x128_0_2_1

variable {a : Args} {q k : FVec Ideal S8x8192x192 .f32} {v : FVec Ideal S8x8192x128 .f32} {g : FVec Ideal S8192x1024 .f32}

theorem rTop_at (x : FVec Ideal S8x8192 .f32) (h : Fin 8) (r : Fin 8192) : rTop x (ix3 h r 0) = x (ix2 h r) := by
  pointwise [rTop]
  rw [bits_neg]
  exact max_bot_left _
theorem rG_at (H : Holds a q k v g) (h : Fin 8) (d : Fin 128) (r : Fin 8192) : rG g (ix3 h d r) = ((a.G h r d : ℝ) : EReal) := by
  pointwise [rG]
  rw [H.g]
  refine congrArg (fun j => ((a.g r j : ℝ) : EReal)) (Fin.ext ?_)
  show h.val * 128 + d.val = 128 * h.val + d.val
  omega
theorem rDp_at (H : Holds a q k v g) {G : FVec Ideal S8x128x8192 .f32} (hG : ∀ h d r, G (ix3 h d r) = ((a.G h r d : ℝ) : EReal)) (h : Fin 8) (r j : Fin 8192) :
    rDp G v (ix3 h r j) = ((a.dp h r j : ℝ) : EReal) := by
  pointwise [rDp]
  simp only [hG, H.v, ← EReal.coe_mul, coe_sum]
  rfl
theorem rInv_at {l : FVec Ideal S8x8192x1 .f32} (hl : ∀ h r, l (ix3 h r 0) = ((a.sm h r : ℝ) : EReal)) (h : Fin 8) (r : Fin 8192) :
    rInv l (ix3 h r 0) = ((1 / (a.sm h r * a.sm h r) : ℝ) : EReal) := by
  pointwise [rInv]
  rw [hl, show (1 : EReal) = ((1 : ℝ) : EReal) from EReal.coe_one.symm, ← EReal.coe_mul, div_real (mul_pos (a.sm_pos h r) (a.sm_pos h r)).ne']
theorem rN_at {dp : FVec Ideal S8x8192x8192 .f32} {i : FVec Ideal S8x8192x1 .f32} {e : FVec Ideal S8x8192x8192 .f32}
    (hdp : ∀ h r j, dp (ix3 h r j) = ((a.dp h r j : ℝ) : EReal)) (hi : ∀ h r, i (ix3 h r 0) = ((1 / (a.sm h r * a.sm h r) : ℝ) : EReal))
    (he : ∀ h r j, e (ix3 h r j) = ((a.ex h r j : ℝ) : EReal)) (h : Fin 8) (r : Fin 8192) :
    rN dp i e (ix2 h r) = ((-(∑ j, a.dp h r j * (1 / (a.sm h r * a.sm h r)) * a.ex h r j) : ℝ) : EReal) := by
  pointwise [rN]
  simp only [hdp, hi, he, ← EReal.coe_mul, coe_sum, ← EReal.coe_neg]
  rw [Fin.sum_univ_one]
theorem rDs_at {dp : FVec Ideal S8x8192x8192 .f32} {l : FVec Ideal S8x8192x1 .f32} {n : FVec Ideal S8x8192 .f32} {e : FVec Ideal S8x8192x8192 .f32}
    (hdp : ∀ h r j, dp (ix3 h r j) = ((a.dp h r j : ℝ) : EReal)) (hl : ∀ h r, l (ix3 h r 0) = ((a.sm h r : ℝ) : EReal))
    (hn : ∀ h r, n (ix2 h r) = ((-(∑ j, a.dp h r j * (1 / (a.sm h r * a.sm h r)) * a.ex h r j) : ℝ) : EReal))
    (he : ∀ h r j, e (ix3 h r j) = ((a.ex h r j : ℝ) : EReal)) (h : Fin 8) (r j : Fin 8192) :
    rDs dp l n e (ix3 h r j) = ((a.ds h r j : ℝ) : EReal) := by
  pointwise [rDs]
  rw [hMask_at, hRoot_at, hdp, hl, hn, he, div_real (a.sm_pos h r).ne', ← EReal.coe_add, ← EReal.coe_mul]
  split_ifs with hj
  · rw [div_real root_ne]
    refine congrArg Real.toEReal (congrArg (· / √192) ?_)
    have h0 := (a.sm_pos h r).ne'
    have : a.de h r = (∑ j, a.dp h r j * (1 / (a.sm h r * a.sm h r)) * a.ex h r j) * a.sm h r := by
      unfold Args.de Args.p
      rw [Finset.sum_mul]
      refine Finset.sum_congr rfl fun j _ => ?_
      field_simp
    rw [this]
    unfold Args.p
    field_simp
    ring
  · rw [a.ds_zero h r j hj, ← EReal.coe_zero, div_real root_ne, zero_div]
theorem rDq_at (H : Holds a q k v g) {ds : FVec Ideal S8x8192x8192 .f32} (hds : ∀ h r j, ds (ix3 h r j) = ((a.ds h r j : ℝ) : EReal)) (h : Fin 8) (r : Fin 8192) (d : Fin 192) :
    rDq ds k (ix3 h r d) = ((∑ j, a.ds h r j * a.k h j d : ℝ) : EReal) := by
  pointwise [rDq]
  simp only [hds, H.k, ← EReal.coe_mul, coe_sum]
theorem rDk_at (H : Holds a q k v g) {ds : FVec Ideal S8x8192x8192 .f32} (hds : ∀ h r j, ds (ix3 h r j) = ((a.ds h r j : ℝ) : EReal)) (h : Fin 8) (j : Fin 8192) (d : Fin 192) :
    rDk ds q (ix3 h j d) = ((∑ r, a.ds h r j * a.q h r d : ℝ) : EReal) := by
  pointwise [rDk]
  simp only [hds, H.q, ← EReal.coe_mul, coe_sum]
theorem rDv_at {G : FVec Ideal S8x128x8192 .f32} (hG : ∀ h d r, G (ix3 h d r) = ((a.G h r d : ℝ) : EReal)) {p : FVec Ideal S8x8192x8192 .f32}
    (hp : ∀ h r j, p (ix3 h r j) = ((a.p h r j : ℝ) : EReal)) (h : Fin 8) (j : Fin 8192) (d : Fin 128) :
    rDv G p (ix3 h j d) = ((a.dv h j d : ℝ) : EReal) := by
  pointwise [rDv]
  simp only [hG, hp, ← EReal.coe_mul, coe_sum]
  unfold Args.dv
  exact congrArg Real.toEReal (Finset.sum_congr rfl fun r _ => mul_comm _ _)

/-- Padding the lanes of the two wider gradients gives the padded gradients. -/
theorem pad_dq (a : Args) (h : Fin 8) (r : Fin 8192) (d : Fin 256) : (if hd : d.val < 192 then ∑ j, a.ds h r j * a.k h j ⟨d.val, hd⟩ else 0) = a.dq h r d := by
  unfold Args.dq Args.K
  split_ifs with hd
  · rfl
  · simp
theorem pad_dk (a : Args) (h : Fin 8) (j : Fin 8192) (d : Fin 256) : (if hd : d.val < 192 then ∑ r, a.ds h r j * a.q h r ⟨d.val, hd⟩ else 0) = a.dk h j d := by
  unfold Args.dk Args.Q
  split_ifs with hd
  · rfl
  · simp

/-! ## The three results -/

variable (m : (ℓ : Loc nD τ sig) → Buf (Elt Ideal) ℓ) (c : Dev nD)

abbrev bq : FVec Ideal S8x8192x192 .f32 := m ((c : Thread nD τ).loc main_arg0)
abbrev bk : FVec Ideal S8x8192x192 .f32 := m ((c : Thread nD τ).loc main_arg1)
abbrev bv : FVec Ideal S8x8192x128 .f32 := m ((c : Thread nD τ).loc main_arg2)
abbrev bg : FVec Ideal S8192x1024 .f32 := m ((c : Thread nD τ).loc main_arg3)

def uSc : FVec Ideal S8x8192x8192 .f32 := hSc (bq m c) (bk m c)
def uEx : FVec Ideal S8x8192x8192 .f32 := hEx (uSc m c) (rTop (hMx (uSc m c)))
def uSm : FVec Ideal S8x8192x1 .f32 := hSm (uEx m c)
def uP : FVec Ideal S8x8192x8192 .f32 := hP (uEx m c) (uSm m c)
def uDp : FVec Ideal S8x8192x8192 .f32 := rDp (rG (bg m c)) (bv m c)
def uDs : FVec Ideal S8x8192x8192 .f32 := rDs (uDp m c) (uSm m c) (rN (uDp m c) (rInv (uSm m c)) (uEx m c)) (uEx m c)

end Cert.Proof.Flash.Refd

end
-- ==== Proof.RefOut.lean ====
/-
  The reference's results, when the arguments hold real arrays.
-/
module

public import proofs.«01_k».proof.Proof.Ref
public import proofs.«01_k».proof.Proof.Arrays

@[expose] public section

noncomputable section

namespace Cert.Proof.Flash.Refd

open Cert.ReferenceIdeal Cert.ReferenceIdeal.Gen
open Idealize.ShloMosaic Idealize.ShloMosaic.TcCoe

variable (m : (ℓ : Loc nD τ sig) → Buf (Elt Ideal) ℓ) (c : Dev nD)

set_option maxRecDepth 8192 in
set_option maxHeartbeats 4000000 in
theorem res46 : Cert.ReferenceIdeal.Value.res_main_v46 m c = rDv (rG (bg m c)) (uP m c) := by
  unfold Cert.ReferenceIdeal.Value.res_main_v46; rfl
set_option maxRecDepth 8192 in
set_option maxHeartbeats 4000000 in
theorem res64 : Cert.ReferenceIdeal.Value.res_main_v64 m c = hPad (rDq (uDs m c) (bk m c)) := by
  unfold Cert.ReferenceIdeal.Value.res_main_v64; rfl
set_option maxRecDepth 8192 in
set_option maxHeartbeats 4000000 in
theorem res65 : Cert.ReferenceIdeal.Value.res_main_v65 m c = hPad (rDk (uDs m c) (bq m c)) := by
  unfold Cert.ReferenceIdeal.Value.res_main_v65; rfl

variable {m c} {a : Args}

/-- The reference's arguments hold the real arrays. -/
abbrev HoldsAt (m : (ℓ : Loc nD τ sig) → Buf (Elt Ideal) ℓ) (c : Dev nD) (a : Args) : Prop := Holds a (bq m c) (bk m c) (bv m c) (bg m c)

theorem uSc_at (H : HoldsAt m c a) (h : Fin 8) (r j : Fin 8192) : uSc m c (ix3 h r j) = if j ≤ r then ((a.sc h r j : ℝ) : EReal) else ⊥ := hSc_at H h r j
theorem uMx_at (H : HoldsAt m c a) (h : Fin 8) (r : Fin 8192) : rTop (hMx (uSc m c)) (ix3 h r 0) = ((a.mx h r : ℝ) : EReal) :=
  (rTop_at _ h r).trans (hMx_at (uSc_at H) h r)
theorem uEx_at (H : HoldsAt m c a) (h : Fin 8) (r j : Fin 8192) : uEx m c (ix3 h r j) = ((a.ex h r j : ℝ) : EReal) := hEx_at (uSc_at H) (uMx_at H) h r j
theorem uSm_at (H : HoldsAt m c a) (h : Fin 8) (r : Fin 8192) : uSm m c (ix3 h r 0) = ((a.sm h r : ℝ) : EReal) := hSm_at (uEx_at H) h r
theorem uP_at (H : HoldsAt m c a) (h : Fin 8) (r j : Fin 8192) : uP m c (ix3 h r j) = ((a.p h r j : ℝ) : EReal) := hP_at (uEx_at H) (uSm_at H) h r j
theorem uDp_at (H : HoldsAt m c a) (h : Fin 8) (r j : Fin 8192) : uDp m c (ix3 h r j) = ((a.dp h r j : ℝ) : EReal) := rDp_at H (rG_at H) h r j
theorem uDs_at (H : HoldsAt m c a) (h : Fin 8) (r j : Fin 8192) : uDs m c (ix3 h r j) = ((a.ds h r j : ℝ) : EReal) :=
  rDs_at (uDp_at H) (uSm_at H) (rN_at (uDp_at H) (rInv_at (uSm_at H)) (uEx_at H)) (uEx_at H) h r j

theorem out46 (H : HoldsAt m c a) : Cert.ReferenceIdeal.Value.res_main_v46 m c = outV a := by
  rw [res46]
  funext i
  rw [eq_ix3 (n0 := 8) (n1 := 8192) (n2 := 128) i]
  exact rDv_at (rG_at H) (uP_at H) _ _ _
theorem out64 (H : HoldsAt m c a) : Cert.ReferenceIdeal.Value.res_main_v64 m c = outQ a := by
  rw [res64]
  funext i
  rw [eq_ix3 (n0 := 8) (n1 := 8192) (n2 := 256) i]
  exact (hPad_at _ (fun h r d => ∑ j, a.ds h r j * a.k h j d) (rDq_at H (uDs_at H)) _ _ _).trans (congrArg Real.toEReal (pad_dq a _ _ _))
theorem out65 (H : HoldsAt m c a) : Cert.ReferenceIdeal.Value.res_main_v65 m c = outK a := by
  rw [res65]
  funext i
  rw [eq_ix3 (n0 := 8) (n1 := 8192) (n2 := 256) i]
  exact (hPad_at _ (fun h j d => ∑ r, a.ds h r j * a.q h r d) (rDk_at H (uDs_at H)) _ _ _).trans (congrArg Real.toEReal (pad_dk a _ _ _))

end Cert.Proof.Flash.Refd

end
-- ==== Proof.Finite.lean ====
/-
  What the precondition says: every word of the arguments is a real number.
-/
module

public import proofs.«01_k».proof.Proof.Fwd
public import proofs.«01_k».proof.Pre_finite
public import Idealize.ShloMosaic.Lib.ReduceAll

@[expose] public section

noncomputable section

namespace Cert.Proof.Flash

open Idealize.ShloMosaic Cert.Pre_finite

theorem finite_facts : Cert.Pre_finite.Facts where
  bcast_S_S8x8192x192 := by decide
  reducesTo_S8x8192x192_S_d0_1_2 := by decide
  h_S_ := by decide
  bcast_S_S8x8192x128 := by decide
  reducesTo_S8x8192x128_S_d0_1_2 := by decide
  bcast_S_S8192x1024 := by decide
  reducesTo_S8192x1024_S_d0_1 := by decide

theorem bits_top : Ideal.ofBits .f32 0x7F800000#32 = ⊤ := by simp [Ideal.ofBits, Ideal.ieee]

theorem and_one {a b : BitVec 1} (h : IntOp.andi a b = 1#1) : a = 1#1 ∧ b = 1#1 := by
  revert a b; decide

/-- A number whose absolute value is below infinity is real. -/
theorem real_of_lt (x : EReal) (h : Ideal.cmp .olt (max x (-x)) ⊤ = 1#1) : x = ((x.toReal : ℝ) : EReal) := by
  have hl : max x (-x) < ⊤ := by
    by_contra hn
    simp [Ideal.cmp, hn] at h
  refine (EReal.coe_toReal ?_ ?_).symm
  · rintro rfl; simp at hl
  · rintro rfl; simp at hl

theorem all_real {S : Shape} (x : FVec Ideal S .f32) {axes : List (Fin S.rank)} (hb : S_.BroadcastsInDim S (![] : Fin 0 → Fin S.rank)) (hr : S.ReducesTo axes S_) (hp : 0 < S_.numel) (j : S_.Idx)
    (e : Host.reduce IntOp.andi (cmpf .olt (Host.absf x) (broadcastInDim S ![] hb (constant (F := Ideal) S_ .f32 0x7F800000#32))) (constantI S_ 1 1#1) hr hp j = 1#1) (i : S.Idx) :
    x i = (((x i : EReal).toReal : ℝ) : EReal) := by
  have h := Host.reduce_andi_all _ _ _ _ j e i
  refine real_of_lt (x i) ?_
  rw [← bits_top]
  exact h

/-- The real arrays that four arrays hold. -/
def argsOf (q k : FVec Ideal S8x8192x192 .f32) (v : FVec Ideal S8x8192x128 .f32) (g : FVec Ideal S8192x1024 .f32) : Args where
  q h r d := (q (ix3 h r d) : EReal).toReal
  k h r d := (k (ix3 h r d) : EReal).toReal
  v h r d := (v (ix3 h r d) : EReal).toReal
  g r d := (g (ix2 r d) : EReal).toReal

theorem holds_of_finite (hF : Cert.Pre_finite.Facts) (q k : FVec Ideal S8x8192x192 .f32) (v : FVec Ideal S8x8192x128 .f32) (g : FVec Ideal S8192x1024 .f32)
    (e : Cert.Pre_finite.fn (F := Ideal) q k v g = fun _ => 1#1) : Holds (argsOf q k v g) q k v g := by
  have e0 := congrFun e ix0
  unfold Cert.Pre_finite.fn Cert.Pre_finite.fn_part1 at e0
  obtain ⟨e1, eg⟩ := and_one e0
  obtain ⟨e2, ev⟩ := and_one e1
  obtain ⟨eq, ek⟩ := and_one e2
  exact ⟨fun h r d => all_real q _ _ _ _ eq _, fun h r d => all_real k _ _ _ _ ek _, fun h r d => all_real v _ _ _ _ ev _, fun r d => all_real g _ _ _ _ eg _⟩

end Cert.Proof.Flash

end
-- ==== Proof.Printed.Held.lean ====
/-
  What a step of the gradient kernel holds: the two tables of steps, the staged blocks, the blocks and the
  scratch array that it carries on.
-/
module

public import proofs.«01_k».proof.Proof.Printed.State
public import proofs.«01_k».proof.Proof.Gen.Kernel.Launch
public import Idealize.ShloMosaic.Lib.Tactic
public import Idealize.ShloMosaic.Lib.Pipeline.Kit

@[expose] public section

noncomputable section

namespace Cert.Proof.Printed

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

/-- The one place of a single-element shape. -/
abbrev only : S1.Idx := Shape.Idx.first (s := S1) (numel1_S1.symm ▸ Nat.one_pos)

/-- The word of a table that the step at `i` reads. -/
abbrev wordAt (i : grid0.Coords) (b : Memref sig .tc .smem S72 .i32) (T : b.view.ty.Contents (Elt F)) : BitVec 32 :=
  ((b.access (Rect.unit (s := S72) (k0_off1 i) S1.size (k0_off1_inb i)) : View sig .tc _ _ _).read (Elt F) T) only

abbrev T0 : Memref sig .tc .smem S72 .i32 := Memref.whole main_c
abbrev T1 : Memref sig .tc .smem S72 .i32 := Memref.whole main_c_0

/-- The blocks of a step, held. -/
abbrev insHeld (c : Dev nD) (M4 : Memref sig .tc .vmem S2x512x256 .bf16) (M5 : Memref sig .tc .vmem S2x1024x256 .bf16)
    (M6 : Memref sig .tc .vmem S2x1024x128 .bf16) (M7 : Memref sig .tc .vmem S512x256 .f32) (M8 M9 : Memref sig .tc .vmem S2x1x512 .f32) (x : Ins F) : sProp 𝕄 :=
  iprop(owns (c : Thread nD τ) M4 fullShare x.q ∗ owns (c : Thread nD τ) M5 fullShare x.k ∗ owns (c : Thread nD τ) M6 fullShare x.v
    ∗ owns (c : Thread nD τ) M7 fullShare x.g ∗ owns (c : Thread nD τ) M8 fullShare x.lse ∗ owns (c : Thread nD τ) M9 fullShare x.dl)

abbrev stHeld (c : Dev nD) (M13 : Memref sig .tc .vmem S2x8192x256 .f32) (M11 : Memref sig .tc .vmem S2x1024x256 .f32) (M12 : Memref sig .tc .vmem S2x1024x128 .f32) (s : St F) : sProp 𝕄 :=
  iprop(owns (c : Thread nD τ) M13 fullShare s.dq ∗ owns (c : Thread nD τ) M11 fullShare s.dk ∗ owns (c : Thread nD τ) M12 fullShare s.dv)

/-- The two tables, held whole. -/
abbrev tbl (c : Dev nD) (t0 : (T0).view.ty.Contents (Elt F)) (t1 : (T1).view.ty.Contents (Elt F)) : sProp 𝕄 :=
  iprop(((T0).view.loc (c : Thread nD τ) ↦{fullShare} t0) ∗ ((T1).view.loc (c : Thread nD τ) ↦{fullShare} t1))

/-- The condition under which the step clears the scratch array: its second coordinate is zero. -/
abbrev first (i : grid0.Coords) : Prop := Scalar.cmpi .ne (Scalar.extui (Scalar.cmpi .eq (BitVec.ofNat 32 (i 1).val) 0#32) : BitVec 32) 0#32 = 1#1

end Cert.Proof.Printed

end
end
-- ==== Proof.Forward.State.lean ====
/-
  What one step of the attention's forward kernel leaves in its buffers, as plain functions of the blocks it reads.
  A step takes a block of 512 queries `qi` and a block of 1024 keys `kj` with `kj ≤ qi / 2`, for four heads at once.
  It carries on the largest score of each row so far and the weighted sums of the values so far, whose upper 128 lanes
  hold the sum of the weights. Three kinds of step: `A` (the last of an even block of queries: masked, the upper half of
  the keys only), `B` (the last of an odd block of queries: masked), `C` (all earlier ones: no mask).
-/
module

public import proofs.«01_k».proof.Proof.Gen.Kernel2Ideal.Skeleton
public import Idealize.ShloMosaic.Lib.VecWindow

@[expose] public section

noncomputable section

namespace Cert.Proof.Forward

open Cert.Kernel2Ideal Cert.Kernel2Ideal.Gen
open Idealize.ShloMosaic Idealize.ShloMosaic.VecWindow

variable {F : FTy → Type} [FloatOps F] [Named F]

/-- The blocks one step reads: queries, keys, values. -/
structure Ins (F : FTy → Type) where
  q : Vec F S4x512x256 .bf16
  k : Vec F S4x1024x256 .bf16
  v : Vec F S4x1024x128 .bf16

/-- What a step carries on: the rows' largest scores and the rows' weighted sums. -/
structure St (F : FTy → Type) where
  m : Vec F S4x512x1 .f32
  acc : Vec F S4x512x256 .f32

/-- The upper half of a block of keys, and of values. -/
def upK (k : Vec F S4x1024x256 .bf16) : Vec F S4x512x256 .bf16 := window k ![0, 0, 0] S4x512x256.size inb_S4x1024x256_S4x512x256_0_0_0
def upV (v : Vec F S4x1024x128 .bf16) : Vec F S4x512x128 .bf16 := window v ![0, 0, 0] S4x512x128.size inb_S4x1024x128_S4x512x128_0_0_0

/-- Where a row of steps starts: no score yet, no sum yet. -/
def start : St F := ⟨k0_pay22, k0_pay23⟩

/-- A step of kind `A`. -/
def stepA (w : BitVec 32) (x : Ins F) (s : St F) : St F :=
  { m := k0_pay2 (k0_pay17 w x.q (upK x.k) s.m)
    acc := k0_pay1 s.m (k0_pay17 w x.q (upK x.k) s.m) (k0_pay18 w x.q (upK x.k) s.m) (upV x.v) s.acc }

/-- A step of kind `B`. -/
def stepB (w : BitVec 32) (x : Ins F) (s : St F) : St F :=
  { m := k0_pay4 (k0_pay20 w x.q x.k s.m)
    acc := k0_pay3 s.m (k0_pay20 w x.q x.k s.m) (k0_pay21 w x.q x.k s.m) x.v s.acc }

/-- A step of kind `C`. -/
def stepC (x : Ins F) (s : St F) : St F :=
  { m := k0_pay15 x.q x.k s.m
    acc := k0_pay14 x.q x.k s.m x.v s.acc }

/-- Four heads side by side. -/
def put4 (X : Vec F S512x512 .f32) (a b c d : Vec F S512x128 .f32) : Vec F S512x512 .f32 :=
  put (put (put (put X ![0, 0] S512x128.size a) ![0, 128] S512x128.size b) ![0, 256] S512x128.size c) ![0, 384] S512x128.size d

/-- What a step of kind `A` or `B` puts out: the attention's rows, and the rows' logarithms of sums. -/
def outO (s : St F) : Vec F S512x512 .f32 :=
  put4 (fun _ => Scalar.ofBits .f32 0x00000000#32) (k0_pay7 s.acc) (k0_pay8 s.acc) (k0_pay9 s.acc) (k0_pay10 s.acc)
def outL (s : St F) : Vec F S4x512x1 .f32 := k0_pay11 s.acc s.m

/-- Four heads put over anything are the four heads: they cover the block. -/
theorem put4_any (X Y : Vec F S512x512 .f32) (a b c d : Vec F S512x128 .f32) : put4 X a b c d = put4 Y a b c d := by
  funext y
  unfold put4 put
  by_cases h3 : ∀ i, (![0, 384] : Fin 2 → ℕ) i ≤ (y i).val ∧ (y i).val < (![0, 384] : Fin 2 → ℕ) i + S512x128.size i
  · rw [dif_pos h3, dif_pos h3]
  rw [dif_neg h3, dif_neg h3]
  by_cases h2 : ∀ i, (![0, 256] : Fin 2 → ℕ) i ≤ (y i).val ∧ (y i).val < (![0, 256] : Fin 2 → ℕ) i + S512x128.size i
  · rw [dif_pos h2, dif_pos h2]
  rw [dif_neg h2, dif_neg h2]
  by_cases h1 : ∀ i, (![0, 128] : Fin 2 → ℕ) i ≤ (y i).val ∧ (y i).val < (![0, 128] : Fin 2 → ℕ) i + S512x128.size i
  · rw [dif_pos h1, dif_pos h1]
  rw [dif_neg h1, dif_neg h1]
  have r0 : (y 0).val < 512 := (y 0).isLt
  have r1 : (y 1).val < 512 := (y 1).isLt
  have key : ∀ o : ℕ, (¬ ∀ i, (![0, o] : Fin 2 → ℕ) i ≤ (y i).val ∧ (y i).val < (![0, o] : Fin 2 → ℕ) i + S512x128.size i) → ¬ (o ≤ (y 1).val ∧ (y 1).val < o + 128) := by
    intro o hn h
    refine hn fun i => ?_
    fin_cases i
    · show 0 ≤ (y 0).val ∧ (y 0).val < 0 + 512; omega
    · exact h
  have n3 := key 384 h3
  have n2 := key 256 h2
  have n1 := key 128 h1
  have h0 : ∀ i, (![0, 0] : Fin 2 → ℕ) i ≤ (y i).val ∧ (y i).val < (![0, 0] : Fin 2 → ℕ) i + S512x128.size i := by
    intro i
    fin_cases i
    · show 0 ≤ (y 0).val ∧ (y 0).val < 0 + 512; omega
    · show 0 ≤ (y 1).val ∧ (y 1).val < 0 + 128; omega
  rw [dif_pos h0, dif_pos h0]

end Cert.Proof.Forward

end
end
-- ==== Proof.Forward.Held.lean ====
/-
  What a step of the forward kernel holds: the two tables of steps, the staged blocks, the two arrays it carries on,
  and the blocks it puts out.
-/
module

public import proofs.«01_k».proof.Proof.Forward.State
public import proofs.«01_k».proof.Proof.Gen.Kernel2Ideal.Launch
public import Idealize.ShloMosaic.Lib.Tactic
public import Idealize.ShloMosaic.Lib.Pipeline.Kit

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UU (nD : Nat) (τ : Topo) : Type := UR sig nD τ × Counters

local notation "𝕄" => MT nD τ sig Unit (Elt F) ℕ (UU nD τ) ℕ

/-- The one place of a single-element shape. -/
abbrev only : S1.Idx := Shape.Idx.first (s := S1) (numel1_S1.symm ▸ Nat.one_pos)

/-- The word of a table that the step at `i` reads. -/
abbrev wordAt (i : grid0.Coords) (b : Memref sig .tc .smem S72 .i32) (T : b.view.ty.Contents (Elt F)) : BitVec 32 :=
  ((b.access (Rect.unit (s := S72) (k0_off1 i) S1.size (k0_off1_inb i)) : View sig .tc _ _ _).read (Elt F) T) only

abbrev T0 : Memref sig .tc .smem S72 .i32 := Memref.whole main_c
abbrev T1 : Memref sig .tc .smem S72 .i32 := Memref.whole main_c_0

/-- The blocks of a step, held. -/
abbrev insHeld (c : Dev nD) (M4 : Memref sig .tc .vmem S4x512x256 .bf16) (M5 : Memref sig .tc .vmem S4x1024x256 .bf16)
    (M6 : Memref sig .tc .vmem S4x1024x128 .bf16) (x : Ins F) : sProp 𝕄 :=
  iprop(owns (c : Thread nD τ) M4 fullShare x.q ∗ owns (c : Thread nD τ) M5 fullShare x.k ∗ owns (c : Thread nD τ) M6 fullShare x.v)

abbrev stHeld (c : Dev nD) (M9 : Memref sig .tc .vmem S4x512x1 .f32) (M10 : Memref sig .tc .vmem S4x512x256 .f32) (s : St F) : sProp 𝕄 :=
  iprop(owns (c : Thread nD τ) M9 fullShare s.m ∗ owns (c : Thread nD τ) M10 fullShare s.acc)

abbrev outHeld (c : Dev nD) (M7 : Memref sig .tc .vmem S512x512 .f32) (M8 : Memref sig .tc .vmem S4x512x1 .f32) (o : Vec F S512x512 .f32) (l : Vec F S4x512x1 .f32) : sProp 𝕄 :=
  iprop(owns (c : Thread nD τ) M7 fullShare o ∗ owns (c : Thread nD τ) M8 fullShare l)

/-- The two tables, held whole. -/
abbrev tbl (c : Dev nD) (t0 : (T0).view.ty.Contents (Elt F)) (t1 : (T1).view.ty.Contents (Elt F)) : sProp 𝕄 :=
  iprop(((T0).view.loc (c : Thread nD τ) ↦{fullShare} t0) ∗ ((T1).view.loc (c : Thread nD τ) ↦{fullShare} t1))

/-- Half of a block of queries' number, as the kernel computes it: the block of keys on the diagonal. -/
abbrev half (w : BitVec 32) : BitVec 32 :=
  Scalar.select (Scalar.andi (Scalar.cmpi .ne
      (Scalar.subi (Scalar.extui (Scalar.cmpi .sgt w 0#32) : BitVec 32) (Scalar.extui (Scalar.cmpi .slt w 0#32)))
      (Scalar.subi (Scalar.extui (Scalar.cmpi .sgt 2#32 0#32) : BitVec 32) (Scalar.extui (Scalar.cmpi .slt 2#32 0#32))))
    (Scalar.cmpi .ne (Scalar.remsi w 2#32) 0#32))
    (Scalar.subi (Scalar.divsi w 2#32) 1#32) (Scalar.divsi w 2#32)

/-- Its remainder, as the kernel computes it. -/
abbrev two' : BitVec 32 := Scalar.select (Scalar.cmpi .eq 2#32 0#32) 1#32 2#32
abbrev odd (w : BitVec 32) : BitVec 32 :=
  Scalar.select (Scalar.andi (Scalar.xori (Scalar.cmpi .slt (Scalar.remsi w two') 0#32) (Scalar.cmpi .slt two' 0#32))
    (Scalar.cmpi .ne (Scalar.remsi w two') 0#32)) (Scalar.addi (Scalar.remsi w two') two') (Scalar.remsi w two')

/-- The step's conditions: the first block of keys; a block of keys before the diagonal; on the diagonal with an even
    block of queries; on it with an odd one. -/
abbrev cFirst (w3 : BitVec 32) : Prop := Scalar.cmpi .ne (Scalar.extui (Scalar.cmpi .eq w3 0#32) : BitVec 32) 0#32 = 1#1
abbrev cBefore (w1 w3 : BitVec 32) : Prop := Scalar.cmpi .ne (Scalar.extui (Scalar.cmpi .slt w3 (half w1)) : BitVec 32) 0#32 = 1#1
abbrev cEven (w1 w3 : BitVec 32) : Prop :=
  Scalar.cmpi .ne (Scalar.extui (Scalar.andi (Scalar.cmpi .eq w3 (half w1)) (Scalar.cmpi .eq (odd w1) 0#32)) : BitVec 32) 0#32 = 1#1
abbrev cOdd (w1 w3 : BitVec 32) : Prop :=
  Scalar.cmpi .ne (Scalar.extui (Scalar.andi (Scalar.cmpi .eq w3 (half w1)) (Scalar.cmpi .ne (odd w1) 0#32)) : BitVec 32) 0#32 = 1#1

end Cert.Proof.Forward

end
end
-- ==== Proof.Forward.Tables.lean ====
/-
  The two tables of steps: which block of queries and which block of keys each of the 72 steps of a row works on.
-/
module

public import proofs.«01_k».proof.Proof.Forward.Held
public import proofs.«01_k».proof.Proof.Gen.Kernel2Ideal.Launch

@[expose] public section

noncomputable section

namespace Cert.Proof.Forward

open Cert.Kernel2Ideal Cert.Kernel2Ideal.Gen

open Idealize.ShloMosaic
open Idealize.ShloMosaic.TcCoe

variable {F : FTy → Type} [FloatOps F] [Named F]

/-- The block of queries, and the block of keys, of step `s`. -/
def qiAt (s : Fin 72) : Fin 16 := ⟨(lit0 s).toNat, (by decide : ∀ s : Fin 72, (lit0 s).toNat < 16) s⟩
def kjAt (s : Fin 72) : Fin 8 := ⟨(lit1 s).toNat, (by decide : ∀ s : Fin 72, (lit1 s).toNat < 8) s⟩

/-- The step of a grid point. -/
abbrev stepOf (i : grid0.Coords) : Fin 72 := i 1

set_option backward.proofsInPublic true in
/-- The tables' contents. -/
def tabs : pre0.Contents (Elt F) := fun
  | ⟨0, _⟩ => fun i => lit0 (S72.rowMajor i)
  | ⟨1, _⟩ => fun i => lit1 (S72.rowMajor i)
  | ⟨_ + 2, h⟩ => absurd h (by simp)

theorem rowMajor72 (x : S72.Idx) : (S72.rowMajor x).val = (x 0).val := by
  show (Shape.rowMajorPi _ x).val = _
  rw [Shape.rowMajorPi_succ_val]
  simp [Shape.rowMajorPi, Shape.rankPi]

theorem k0_off1_eq (i : grid0.Coords) : k0_off1 i 0 = (i 1).val := by
  have h : (i 1).val < 72 := (i 1).isLt
  show (BitVec.ofNat 32 (i 1).val).toNat = _
  rw [BitVec.toNat_ofNat, Nat.mod_eq_of_lt (by omega)]

theorem atD0 (i : grid0.Coords) : (tabs (F := F)).atD 0 (k0_off1 i) = lit0 (stepOf i) := by
  unfold Pipeline.Prefetch.Contents.atD
  rw [dif_pos (fun a => by fin_cases a; exact k0_off1_inb i 0)]
  show lit0 _ = _
  congr 1
  apply Fin.ext
  exact (rowMajor72 _).trans (k0_off1_eq i)

theorem atD1 (i : grid0.Coords) : (tabs (F := F)).atD 1 (k0_off1 i) = lit1 (stepOf i) := by
  unfold Pipeline.Prefetch.Contents.atD
  rw [dif_pos (fun a => by fin_cases a; exact k0_off1_inb i 0)]
  show lit1 _ = _
  congr 1
  apply Fin.ext
  exact (rowMajor72 _).trans (k0_off1_eq i)

/-- The words that the step at `i` loads. -/
theorem word0 (i : grid0.Coords) : wordAt (F := F) i T0 (fun i => lit0 (S72.rowMajor i)) = lit0 (stepOf i) := by
  show lit0 _ = _
  congr 1
  apply Fin.ext
  refine (rowMajor72 _).trans ?_
  exact (k0_off1_eq i)

theorem word1 (i : grid0.Coords) : wordAt (F := F) i T1 (fun i => lit1 (S72.rowMajor i)) = lit1 (stepOf i) := by
  show lit1 _ = _
  congr 1
  apply Fin.ext
  refine (rowMajor72 _).trans ?_
  exact (k0_off1_eq i)

/-! ## The kinds of the steps -/

def kindA (s : Fin 72) : Prop := (qiAt s).val = 2 * (kjAt s).val
def kindB (s : Fin 72) : Prop := (qiAt s).val = 2 * (kjAt s).val + 1
def kindC (s : Fin 72) : Prop := 2 * (kjAt s).val + 1 < (qiAt s).val
instance (s : Fin 72) : Decidable (kindA s) := by unfold kindA; infer_instance
instance (s : Fin 72) : Decidable (kindB s) := by unfold kindB; infer_instance
instance (s : Fin 72) : Decidable (kindC s) := by unfold kindC; infer_instance

theorem kinds (s : Fin 72) : kindA s ∨ kindB s ∨ kindC s := by revert s; decide
theorem cond_first : ∀ s : Fin 72, cFirst (lit1 s) ↔ kjAt s = 0 := by decide
theorem cond_before : ∀ s : Fin 72, cBefore (lit0 s) (lit1 s) ↔ kindC s := by decide
theorem cond_even : ∀ s : Fin 72, cEven (lit0 s) (lit1 s) ↔ kindA s := by decide
theorem cond_odd : ∀ s : Fin 72, cOdd (lit0 s) (lit1 s) ↔ kindB s := by decide
theorem cond_last : ∀ s : Fin 72, k0_cond5 (lit0 s) (lit1 s) = 1#1 ↔ ¬ kindC s := by decide

/-! ## The blocks' indices -/

theorem wwQ : ∀ (g : Fin 2) (q : Fin 16), S8x8192x256.WholeWordsAt 2 (fun a => (![g.val, q.val, 0] : Fin 3 → ℕ) a * S4x512x256.size a) S4x512x256.size (fun _ => 1) := by decide
theorem wwK : ∀ (g : Fin 2) (k : Fin 8), S8x8192x256.WholeWordsAt 2 (fun a => (![g.val, k.val, 0] : Fin 3 → ℕ) a * S4x1024x256.size a) S4x1024x256.size (fun _ => 1) := by decide
theorem wwV : ∀ (g : Fin 2) (k : Fin 8), S8x8192x128.WholeWordsAt 2 (fun a => (![g.val, k.val, 0] : Fin 3 → ℕ) a * S4x1024x128.size a) S4x1024x128.size (fun _ => 1) := by decide

theorem grp_eq (i : grid0.Coords) : (BitVec.ofNat 32 (i 0).val).toNat = (i 0).val := by
  have h : (i 0).val < 2 := (i 0).isLt
  rw [BitVec.toNat_ofNat, Nat.mod_eq_of_lt (by omega)]

theorem at0 (i : grid0.Coords) : (tabs (F := F)).at 0 (Rect.unit (s := S72) (k0_off1 i) S1.size (k0_off1_inb i)) numel1_S1 = lit0 (stepOf i) := by
  show lit0 _ = _
  congr 1
  apply Fin.ext
  exact (rowMajor72 _).trans (k0_off1_eq i)

theorem at1 (i : grid0.Coords) : (tabs (F := F)).at 1 (Rect.unit (s := S72) (k0_off1 i) S1.size (k0_off1_inb i)) numel1_S1 = lit1 (stepOf i) := by
  show lit1 _ = _
  congr 1
  apply Fin.ext
  exact (rowMajor72 _).trans (k0_off1_eq i)

theorem at0n (i : grid0.Coords) : ((tabs (F := F)).at 0 (Rect.unit (s := S72) (k0_off1 i) S1.size (k0_off1_inb i)) numel1_S1 : BitVec 32).toNat = (qiAt (stepOf i)).val := by
  have h : (qiAt (stepOf i)).val = (lit0 (stepOf i)).toNat := rfl
  rw [h, at0 i]

theorem at1n (i : grid0.Coords) : ((tabs (F := F)).at 1 (Rect.unit (s := S72) (k0_off1 i) S1.size (k0_off1_inb i)) numel1_S1 : BitVec 32).toNat = (kjAt (stepOf i)).val := by
  have h : (kjAt (stepOf i)).val = (lit1 (stepOf i)).toNat := rfl
  rw [h, at1 i]

section
variable (i : grid0.Coords)

theorem three {a b c a' b' c' : ℕ} (ha : a = a') (hb : b = b') (hc : c = c') : (![a, b, c] : Fin 3 → ℕ) = ![a', b', c'] := by
  rw [ha, hb, hc]
theorem two {a b a' b' : ℕ} (ha : a = a') (hb : b = b') : (![a, b] : Fin 2 → ℕ) = ![a', b'] := by
  rw [ha, hb]

theorem tf0 : cc0_transform_0 k0_off1_inb numel1_S1 (tabs (F := F)) i = ![(i 0).val, (qiAt (stepOf i)).val, 0] :=
  three (grp_eq i) (at0n i) rfl
theorem tf1 : cc0_transform_1 k0_off1_inb numel1_S1 (tabs (F := F)) i = ![(i 0).val, (kjAt (stepOf i)).val, 0] :=
  three (grp_eq i) (at1n i) rfl
theorem tf2 : cc0_transform_2 k0_off1_inb numel1_S1 (tabs (F := F)) i = ![(i 0).val, (kjAt (stepOf i)).val, 0] :=
  three (grp_eq i) (at1n i) rfl
theorem tf3 : cc0_transform_3 k0_off1_inb numel1_S1 (tabs (F := F)) i = ![(qiAt (stepOf i)).val, (i 0).val] :=
  two (at0n i) (grp_eq i)
theorem tf4 : cc0_transform_4 k0_off1_inb numel1_S1 (tabs (F := F)) i = ![(i 0).val, (qiAt (stepOf i)).val, 0] :=
  three (grp_eq i) (at0n i) rfl

end

theorem ib3 {S : Fin 3 → ℕ} {B : Fin 3 → ℕ} {a b c : ℕ} (ha : (a + 1) * B 0 ≤ S 0) (hb : (b + 1) * B 1 ≤ S 1) (hc : (c + 1) * B 2 ≤ S 2) :
    ∀ d, ((![a, b, c] : Fin 3 → ℕ) d + 1) * B d ≤ S d := fun
  | 0 => ha
  | 1 => hb
  | 2 => hc
theorem ib2 {S : Fin 2 → ℕ} {B : Fin 2 → ℕ} {a b : ℕ} (ha : (a + 1) * B 0 ≤ S 0) (hb : (b + 1) * B 1 ≤ S 1) :
    ∀ d, ((![a, b] : Fin 2 → ℕ) d + 1) * B d ≤ S d := fun
  | 0 => ha
  | 1 => hb

theorem g2 (i : grid0.Coords) : (i 0).val < 2 := (i 0).isLt

theorem inb0' (i : grid0.Coords) : ∀ d, ((![(i 0).val, (qiAt (stepOf i)).val, 0] : Fin 3 → ℕ) d + 1) * S4x512x256.size d ≤ S8x8192x256.size d := by
  have h := g2 i
  have h' := (qiAt (stepOf i)).isLt
  exact ib3 (show _ * 4 ≤ 8 by omega) (show _ * 512 ≤ 8192 by omega) (show (0 + 1) * 256 ≤ 256 by omega)
theorem inb1' (i : grid0.Coords) : ∀ d, ((![(i 0).val, (kjAt (stepOf i)).val, 0] : Fin 3 → ℕ) d + 1) * S4x1024x256.size d ≤ S8x8192x256.size d := by
  have h := g2 i
  have h' := (kjAt (stepOf i)).isLt
  exact ib3 (show _ * 4 ≤ 8 by omega) (show _ * 1024 ≤ 8192 by omega) (show (0 + 1) * 256 ≤ 256 by omega)
theorem inb2' (i : grid0.Coords) : ∀ d, ((![(i 0).val, (kjAt (stepOf i)).val, 0] : Fin 3 → ℕ) d + 1) * S4x1024x128.size d ≤ S8x8192x128.size d := by
  have h := g2 i
  have h' := (kjAt (stepOf i)).isLt
  exact ib3 (show _ * 4 ≤ 8 by omega) (show _ * 1024 ≤ 8192 by omega) (show (0 + 1) * 128 ≤ 128 by omega)
theorem inb3' (i : grid0.Coords) : ∀ d, ((![(qiAt (stepOf i)).val, (i 0).val] : Fin 2 → ℕ) d + 1) * S512x512.size d ≤ S8192x1024.size d := by
  have h := g2 i
  have h' := (qiAt (stepOf i)).isLt
  exact ib2 (show _ * 512 ≤ 8192 by omega) (show _ * 512 ≤ 1024 by omega)
theorem inb4' (i : grid0.Coords) : ∀ d, ((![(i 0).val, (qiAt (stepOf i)).val, 0] : Fin 3 → ℕ) d + 1) * S4x512x1.size d ≤ S8x8192x1.size d := by
  have h := g2 i
  have h' := (qiAt (stepOf i)).isLt
  exact ib3 (show _ * 4 ≤ 8 by omega) (show _ * 512 ≤ 8192 by omega) (show (0 + 1) * 1 ≤ 1 by omega)

/-- The tables are admissible. -/
theorem ok_tabs : ok0 (F := F) tabs := by
  unfold ok0
  refine ⟨fun i => ?_, fun i => ?_, fun i => ?_, fun i => ?_, fun i => ?_⟩
  · rw [tf0]
    exact ⟨inb0' i, .inr ((Rect.wholeWords_iff_at _ _).2 (wwQ ⟨_, g2 i⟩ (qiAt (stepOf i))))⟩
  · rw [tf1]
    exact ⟨inb1' i, .inr ((Rect.wholeWords_iff_at _ _).2 (wwK ⟨_, g2 i⟩ (kjAt (stepOf i))))⟩
  · rw [tf2]
    exact ⟨inb2' i, .inr ((Rect.wholeWords_iff_at _ _).2 (wwV ⟨_, g2 i⟩ (kjAt (stepOf i))))⟩
  · rw [tf3]
    exact ⟨inb3' i, .inl rfl⟩
  · rw [tf4]
    exact ⟨inb4' i, .inl rfl⟩

def adm : (pcfg0 (F := F)).Adm := ⟨tabs, ok_tabs⟩
abbrev cfgA : Pipeline.Cfg sig Λ₀ := cfg0 (F := F) adm
abbrev pcs : Fin 1 → Pipeline.Cfg sig Λ₀ := Pipeline.pin (pcfgs (F := F)) fun _ => adm

/-- An input is live at every point; an output where the last block of keys of a block of queries is. -/
theorem idle_in (w : Fin 5) (hw : w.val < 3) (i : grid0.Coords) : (cfgA (F := F)).idle w i = false := by
  fin_cases w <;> first | rfl | exact absurd hw (by decide)

theorem idle_out (w : Fin 5) (hw : w = 3 ∨ w = 4) (i : grid0.Coords) : (cfgA (F := F)).idle w i = decide (kindC (stepOf i)) := by
  have h : ∀ a b : BitVec 32, a = lit0 (stepOf i) → b = lit1 (stepOf i) → (!(k0_cond5 a b == 1#1)) = decide (kindC (stepOf i)) := by
    rintro _ _ rfl rfl
    have h := cond_last (stepOf i)
    by_cases hC : kindC (stepOf i)
    · have : ¬ k0_cond5 (lit0 (stepOf i)) (lit1 (stepOf i)) = 1#1 := fun h' => h.1 h' hC
      rw [decide_eq_true hC, beq_false_of_ne this]
      rfl
    · rw [decide_eq_false hC, h.2 hC]
      rfl
  rcases hw with rfl | rfl <;> exact h _ _ (atD0 i) (atD1 i)

end Cert.Proof.Forward

end
end
-- ==== Proof.Forward.BodyA.lean ====
module

public import proofs.«01_k».proof.Proof.Forward.Held

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 4000000 in
/-- A later step of a row of steps, on the diagonal with an even block of queries. -/
theorem runA (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (x : Ins F) (s : St F) (o : Vec F S512x512 .f32) (l : Vec F S4x512x1 .f32)
    (c1 : ¬ cFirst w3) (c2 : ¬ cBefore w1 w3) (c3 : cEven w1 w3) (c4 : ¬ cOdd w1 w3) (c5 : k0_cond5 w1 w3 = 1#1)
    (Q : PUnit → sProp 𝕄) :
    iprop(tbl c t0 t1 ∗ insHeld c M4 M5 M6 x ∗ stHeld c M9 M10 s ∗ outHeld c M7 M8 o l
      ∗ (iprop(tbl c t0 t1 ∗ insHeld c M4 M5 M6 x ∗ stHeld c M9 M10 (stepA w1 x s) ∗ outHeld c M7 M8 (outO (stepA w1 x s)) (outL (stepA w1 x s))) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  obtain ⟨q, k, v⟩ := x
  obtain ⟨m, acc⟩ := s
  unfold insHeld stHeld outHeld
  unfold owns
  iintro ⟨⟨Ht0, Ht1⟩, ⟨⟨%f4, %e4, H4⟩, ⟨%f5, %e5, H5⟩, ⟨%f6, %e6, H6⟩⟩, ⟨⟨%f9, %e9, H9⟩, ⟨%f10, %e10, H10⟩⟩, ⟨⟨%f7, %e7, H7⟩, ⟨%f8, %e8, H8⟩⟩, Hk⟩
  dsimp only at e4 e5 e6 e9 e10
  subst e4 e5 e6 e9 e10 e7 e8
  rw [cc0_flash_fwd_eq_skeleton]
  unfold cc0_flash_fwd_skel
  rw [k0_part4_eq_skeleton]
  unfold k0_part4_skel smemLoad smemLoadElt
  rw [k0_part2_eq_skeleton]
  unfold k0_part2_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S4x512x256) ![0, 0, 0] ![4, 512, 256] inb_S4x512x256_S4x512x256_0_0_0).toLoadRect f4 = M4.view.read (Elt F) f4 := View.readAt_full _ _ _
  have E5 : View.readAt (Elt F) M5.view (Rect.unit (s := S4x1024x256) ![0, 0, 0] ![4, 512, 256] inb_S4x1024x256_S4x512x256_0_0_0).toLoadRect f5 = upK (M5.view.read (Elt F) f5) := View.readAt_unit _ _ _ rfl _
  have E6 : View.readAt (Elt F) M6.view (Rect.unit (s := S4x1024x128) ![0, 0, 0] ![4, 512, 128] inb_S4x1024x128_S4x512x128_0_0_0).toLoadRect f6 = upV (M6.view.read (Elt F) f6) := View.readAt_unit _ _ _ rfl _
  have E9 : View.readAt (Elt F) M9.view (Rect.unit (s := S4x512x1) ![0, 0, 0] ![4, 512, 1] inb_S4x512x1_S4x512x1_0_0_0).toLoadRect f9 = M9.view.read (Elt F) f9 := View.readAt_full _ _ _
  have E10 : View.readAt (Elt F) M10.view (Rect.unit (s := S4x512x256) ![0, 0, 0] ![4, 512, 256] inb_S4x512x256_S4x512x256_0_0_0).toLoadRect f10 = M10.view.read (Elt F) f10 := View.readAt_full _ _ _
  have P9 : k0_pay2 (k0_pay17 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 512, 256] inb_S4x1024x256_S4x512x256_0_0_0).toLoadRect f5) (View.readAt (Elt F) M9.view (Rect.unit (s := S4x512x1) ![0, 0, 0] ![4, 512, 1] inb_S4x512x1_S4x512x1_0_0_0).toLoadRect f9)) = (stepA w1 ⟨M4.view.read (Elt F) f4, M5.view.read (Elt F) f5, M6.view.read (Elt F) f6⟩ ⟨M9.view.read (Elt F) f9, M10.view.read (Elt F) f10⟩).m := by
    rw [E4, E5, E9]
    rfl
  have P10 : k0_pay1 (View.readAt (Elt F) M9.view (Rect.unit (s := S4x512x1) ![0, 0, 0] ![4, 512, 1] inb_S4x512x1_S4x512x1_0_0_0).toLoadRect f9) (k0_pay17 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 512, 256] inb_S4x1024x256_S4x512x256_0_0_0).toLoadRect f5) (View.readAt (Elt F) M9.view (Rect.unit (s := S4x512x1) ![0, 0, 0] ![4, 512, 1] inb_S4x512x1_S4x512x1_0_0_0).toLoadRect f9)) (k0_pay18 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 512, 256] inb_S4x1024x256_S4x512x256_0_0_0).toLoadRect f5) (View.readAt (Elt F) M9.view (Rect.unit (s := S4x512x1) ![0, 0, 0] ![4, 512, 1] inb_S4x512x1_S4x512x1_0_0_0).toLoadRect f9)) (View.readAt (Elt F) M6.view (Rect.unit (s := S4x1024x128) ![0, 0, 0] ![4, 512, 128] inb_S4x1024x128_S4x512x128_0_0_0).toLoadRect f6) (View.readAt (Elt F) M10.view (Rect.unit (s := S4x512x256) ![0, 0, 0] ![4, 512, 256] inb_S4x512x256_S4x512x256_0_0_0).toLoadRect f10) = (stepA w1 ⟨M4.view.read (Elt F) f4, M5.view.read (Elt F) f5, M6.view.read (Elt F) f6⟩ ⟨M9.view.read (Elt F) f9, M10.view.read (Elt F) f10⟩).acc := by
    rw [E4, E5, E6, E9, E10]
    rfl
  have V60 : runA.sl.v60 c M4 M5 M6 M9 M10 w1 w3 f4 f5 f6 f9 f10 = (stepA w1 ⟨M4.view.read (Elt F) f4, M5.view.read (Elt F) f5, M6.view.read (Elt F) f6⟩ ⟨M9.view.read (Elt F) f9, M10.view.read (Elt F) f10⟩).acc :=
    (View.readAt_full _ _ _).trans ((View.read_writes_full _ _ _ _ _).trans P10)
  have V76 : runA.sl.v76 c M4 M5 M6 M9 w1 w3 f4 f5 f6 f9 = (stepA w1 ⟨M4.view.read (Elt F) f4, M5.view.read (Elt F) f5, M6.view.read (Elt F) f6⟩ ⟨M9.view.read (Elt F) f9, M10.view.read (Elt F) f10⟩).m :=
    (View.readAt_full _ _ _).trans ((View.read_writes_full _ _ _ _ _).trans P9)
  sl_step
  iapply Hk
  isplitl [Ht0 Ht1]
  · isplitl [Ht0]; · iexact Ht0
    iexact Ht1
  isplitl [H4 H5 H6]
  · isplitl [H4]; · iexists f4; isplitr; · ipureintro; rfl
                    iexact H4
    isplitl [H5]; · iexists f5; isplitr; · ipureintro; rfl
                    iexact H5
    iexists f6; isplitr; · ipureintro; rfl
    iexact H6
  isplitl [H9 H10]
  · isplitl [H9]
    · iexists _; isplitr; swap; · iexact H9
      ipureintro
      exact (View.read_writes_full _ _ _ _ _).trans P9
    iexists _; isplitr; swap; · iexact H10
    ipureintro
    exact (View.read_writes_full _ _ _ _ _).trans P10
  isplitl [H7]
  · iexists _; isplitr; swap; · iexact H7
    ipureintro
    rw [View.read_writes_cons_put _ _ _ _ _ rfl, View.read_writes_cons_put _ _ _ _ _ rfl, View.read_writes_cons_put _ _ _ _ _ rfl, View.read_writes_cons_put _ _ _ _ _ rfl, V60]
    exact put4_any _ _ _ _ _ _
  iexists _; isplitr; swap; · iexact H8
  ipureintro
  refine (View.read_writes_full _ _ _ _ _).trans ?_
  rw [V60, V76]
  rfl

end Cert.Proof.Forward

end
end
-- ==== Proof.Forward.BodyA0.lean ====
module

public import proofs.«01_k».proof.Proof.Forward.Held

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 4000000 in
/-- The first step of a row of steps, on the diagonal with an even block of queries. -/
theorem runA0 (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (x : Ins F) (s : St F) (o : Vec F S512x512 .f32) (l : Vec F S4x512x1 .f32)
    (c1 : cFirst w3) (c2 : ¬ cBefore w1 w3) (c3 : cEven w1 w3) (c4 : ¬ cOdd w1 w3) (c5 : k0_cond5 w1 w3 = 1#1)
    (Q : PUnit → sProp 𝕄) :
    iprop(tbl c t0 t1 ∗ insHeld c M4 M5 M6 x ∗ stHeld c M9 M10 s ∗ outHeld c M7 M8 o l
      ∗ (iprop(tbl c t0 t1 ∗ insHeld c M4 M5 M6 x ∗ stHeld c M9 M10 (stepA w1 x start) ∗ outHeld c M7 M8 (outO (stepA w1 x start)) (outL (stepA w1 x start))) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  obtain ⟨q, k, v⟩ := x
  obtain ⟨m, acc⟩ := s
  unfold insHeld stHeld outHeld
  unfold owns
  iintro ⟨⟨Ht0, Ht1⟩, ⟨⟨%f4, %e4, H4⟩, ⟨%f5, %e5, H5⟩, ⟨%f6, %e6, H6⟩⟩, ⟨⟨%f9, %e9, H9⟩, ⟨%f10, %e10, H10⟩⟩, ⟨⟨%f7, %e7, H7⟩, ⟨%f8, %e8, H8⟩⟩, Hk⟩
  dsimp only at e4 e5 e6 e9 e10
  subst e4 e5 e6 e9 e10 e7 e8
  rw [cc0_flash_fwd_eq_skeleton]
  unfold cc0_flash_fwd_skel
  rw [k0_part4_eq_skeleton]
  unfold k0_part4_skel smemLoad smemLoadElt
  rw [k0_part2_eq_skeleton]
  unfold k0_part2_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S4x512x256) ![0, 0, 0] ![4, 512, 256] inb_S4x512x256_S4x512x256_0_0_0).toLoadRect f4 = M4.view.read (Elt F) f4 := View.readAt_full _ _ _
  have E5 : View.readAt (Elt F) M5.view (Rect.unit (s := S4x1024x256) ![0, 0, 0] ![4, 512, 256] inb_S4x1024x256_S4x512x256_0_0_0).toLoadRect f5 = upK (M5.view.read (Elt F) f5) := View.readAt_unit _ _ _ rfl _
  have E6 : View.readAt (Elt F) M6.view (Rect.unit (s := S4x1024x128) ![0, 0, 0] ![4, 512, 128] inb_S4x1024x128_S4x512x128_0_0_0).toLoadRect f6 = upV (M6.view.read (Elt F) f6) := View.readAt_unit _ _ _ rfl _
  have E9 : View.readAt (Elt F) M9.view (Rect.unit (s := S4x512x1) ![0, 0, 0] ![4, 512, 1] inb_S4x512x1_S4x512x1_0_0_0).toLoadRect (M9.view.writes (Elt F) M9.view.junk runA0.sl.H9_1) = k0_pay22 := (View.readAt_full _ _ _).trans (View.read_writes_full _ _ _ _ _)
  have E10 : View.readAt (Elt F) M10.view (Rect.unit (s := S4x512x256) ![0, 0, 0] ![4, 512, 256] inb_S4x512x256_S4x512x256_0_0_0).toLoadRect (M10.view.writes (Elt F) M10.view.junk runA0.sl.H10_1) = k0_pay23 := (View.readAt_full _ _ _).trans (View.read_writes_full _ _ _ _ _)
  have P9 : k0_pay2 (k0_pay17 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 512, 256] inb_S4x1024x256_S4x512x256_0_0_0).toLoadRect f5) (View.readAt (Elt F) M9.view (Rect.unit (s := S4x512x1) ![0, 0, 0] ![4, 512, 1] inb_S4x512x1_S4x512x1_0_0_0).toLoadRect (M9.view.writes (Elt F) M9.view.junk runA0.sl.H9_1))) = (stepA w1 ⟨M4.view.read (Elt F) f4, M5.view.read (Elt F) f5, M6.view.read (Elt F) f6⟩ start).m := by
    rw [E4, E5, E9]
    rfl
  have P10 : k0_pay1 (View.readAt (Elt F) M9.view (Rect.unit (s := S4x512x1) ![0, 0, 0] ![4, 512, 1] inb_S4x512x1_S4x512x1_0_0_0).toLoadRect (M9.view.writes (Elt F) M9.view.junk runA0.sl.H9_1)) (k0_pay17 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 512, 256] inb_S4x1024x256_S4x512x256_0_0_0).toLoadRect f5) (View.readAt (Elt F) M9.view (Rect.unit (s := S4x512x1) ![0, 0, 0] ![4, 512, 1] inb_S4x512x1_S4x512x1_0_0_0).toLoadRect (M9.view.writes (Elt F) M9.view.junk runA0.sl.H9_1))) (k0_pay18 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 512, 256] inb_S4x1024x256_S4x512x256_0_0_0).toLoadRect f5) (View.readAt (Elt F) M9.view (Rect.unit (s := S4x512x1) ![0, 0, 0] ![4, 512, 1] inb_S4x512x1_S4x512x1_0_0_0).toLoadRect (M9.view.writes (Elt F) M9.view.junk runA0.sl.H9_1))) (View.readAt (Elt F) M6.view (Rect.unit (s := S4x1024x128) ![0, 0, 0] ![4, 512, 128] inb_S4x1024x128_S4x512x128_0_0_0).toLoadRect f6) (View.readAt (Elt F) M10.view (Rect.unit (s := S4x512x256) ![0, 0, 0] ![4, 512, 256] inb_S4x512x256_S4x512x256_0_0_0).toLoadRect (M10.view.writes (Elt F) M10.view.junk runA0.sl.H10_1)) = (stepA w1 ⟨M4.view.read (Elt F) f4, M5.view.read (Elt F) f5, M6.view.read (Elt F) f6⟩ start).acc := by
    rw [E4, E5, E6, E9, E10]
    rfl
  have V60 : runA0.sl.v60 c M4 M5 M6 M9 M10 w1 w3 f4 f5 f6 = (stepA w1 ⟨M4.view.read (Elt F) f4, M5.view.read (Elt F) f5, M6.view.read (Elt F) f6⟩ start).acc :=
    (View.readAt_full _ _ _).trans ((View.read_writes_full _ _ _ _ _).trans P10)
  have V76 : runA0.sl.v76 c M4 M5 M6 M9 w1 w3 f4 f5 f6 = (stepA w1 ⟨M4.view.read (Elt F) f4, M5.view.read (Elt F) f5, M6.view.read (Elt F) f6⟩ start).m :=
    (View.readAt_full _ _ _).trans ((View.read_writes_full _ _ _ _ _).trans P9)
  sl_step
  iapply Hk
  isplitl [Ht0 Ht1]
  · isplitl [Ht0]; · iexact Ht0
    iexact Ht1
  isplitl [H4 H5 H6]
  · isplitl [H4]; · iexists f4; isplitr; · ipureintro; rfl
                    iexact H4
    isplitl [H5]; · iexists f5; isplitr; · ipureintro; rfl
                    iexact H5
    iexists f6; isplitr; · ipureintro; rfl
    iexact H6
  isplitl [H9 H10]
  · isplitl [H9]
    · iexists _; isplitr; swap; · iexact H9
      ipureintro
      exact (View.read_writes_full _ _ _ _ _).trans P9
    iexists _; isplitr; swap; · iexact H10
    ipureintro
    exact (View.read_writes_full _ _ _ _ _).trans P10
  isplitl [H7]
  · iexists _; isplitr; swap; · iexact H7
    ipureintro
    rw [View.read_writes_cons_put _ _ _ _ _ rfl, View.read_writes_cons_put _ _ _ _ _ rfl, View.read_writes_cons_put _ _ _ _ _ rfl, View.read_writes_cons_put _ _ _ _ _ rfl, V60]
    exact put4_any _ _ _ _ _ _
  iexists _; isplitr; swap; · iexact H8
  ipureintro
  refine (View.read_writes_full _ _ _ _ _).trans ?_
  rw [V60, V76]
  rfl

end Cert.Proof.Forward

end
end
-- ==== Proof.Forward.BodyB.lean ====
module

public import proofs.«01_k».proof.Proof.Forward.Held

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 4000000 in
/-- A later step of a row of steps, on the diagonal with an odd block of queries. -/
theorem runB (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (x : Ins F) (s : St F) (o : Vec F S512x512 .f32) (l : Vec F S4x512x1 .f32)
    (c1 : ¬ cFirst w3) (c2 : ¬ cBefore w1 w3) (c3 : ¬ cEven w1 w3) (c4 : cOdd w1 w3) (c5 : k0_cond5 w1 w3 = 1#1)
    (Q : PUnit → sProp 𝕄) :
    iprop(tbl c t0 t1 ∗ insHeld c M4 M5 M6 x ∗ stHeld c M9 M10 s ∗ outHeld c M7 M8 o l
      ∗ (iprop(tbl c t0 t1 ∗ insHeld c M4 M5 M6 x ∗ stHeld c M9 M10 (stepB w1 x s) ∗ outHeld c M7 M8 (outO (stepB w1 x s)) (outL (stepB w1 x s))) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  obtain ⟨q, k, v⟩ := x
  obtain ⟨m, acc⟩ := s
  unfold insHeld stHeld outHeld
  unfold owns
  iintro ⟨⟨Ht0, Ht1⟩, ⟨⟨%f4, %e4, H4⟩, ⟨%f5, %e5, H5⟩, ⟨%f6, %e6, H6⟩⟩, ⟨⟨%f9, %e9, H9⟩, ⟨%f10, %e10, H10⟩⟩, ⟨⟨%f7, %e7, H7⟩, ⟨%f8, %e8, H8⟩⟩, Hk⟩
  dsimp only at e4 e5 e6 e9 e10
  subst e4 e5 e6 e9 e10 e7 e8
  rw [cc0_flash_fwd_eq_skeleton]
  unfold cc0_flash_fwd_skel
  rw [k0_part4_eq_skeleton]
  unfold k0_part4_skel smemLoad smemLoadElt
  rw [k0_part3_eq_skeleton]
  unfold k0_part3_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S4x512x256) ![0, 0, 0] ![4, 512, 256] inb_S4x512x256_S4x512x256_0_0_0).toLoadRect f4 = M4.view.read (Elt F) f4 := View.readAt_full _ _ _
  have E5 : View.readAt (Elt F) M5.view (Rect.unit (s := S4x1024x256) ![0, 0, 0] ![4, 1024, 256] inb_S4x1024x256_S4x1024x256_0_0_0).toLoadRect f5 = M5.view.read (Elt F) f5 := View.readAt_full _ _ _
  have E6 : View.readAt (Elt F) M6.view (Rect.unit (s := S4x1024x128) ![0, 0, 0] ![4, 1024, 128] inb_S4x1024x128_S4x1024x128_0_0_0).toLoadRect f6 = M6.view.read (Elt F) f6 := View.readAt_full _ _ _
  have E9 : View.readAt (Elt F) M9.view (Rect.unit (s := S4x512x1) ![0, 0, 0] ![4, 512, 1] inb_S4x512x1_S4x512x1_0_0_0).toLoadRect f9 = M9.view.read (Elt F) f9 := View.readAt_full _ _ _
  have E10 : View.readAt (Elt F) M10.view (Rect.unit (s := S4x512x256) ![0, 0, 0] ![4, 512, 256] inb_S4x512x256_S4x512x256_0_0_0).toLoadRect f10 = M10.view.read (Elt F) f10 := View.readAt_full _ _ _
  have P9 : k0_pay4 (k0_pay20 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect f9)) = (stepB w1 ⟨M4.view.read (Elt F) f4, M5.view.read (Elt F) f5, M6.view.read (Elt F) f6⟩ ⟨M9.view.read (Elt F) f9, M10.view.read (Elt F) f10⟩).m := by
    rw [E4, E5, E9]
    rfl
  have P10 : k0_pay3 (View.readAt (Elt F) M9.view (Rect.unit (s := S4x512x1) ![0, 0, 0] ![4, 512, 1] inb_S4x512x1_S4x512x1_0_0_0).toLoadRect f9) (k0_pay20 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect f9)) (k0_pay21 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect f9)) (View.readAt (Elt F) M6.view (Rect.unit (s := S4x1024x128) ![0, 0, 0] ![4, 1024, 128] inb_S4x1024x128_S4x1024x128_0_0_0).toLoadRect f6) (View.readAt (Elt F) M10.view (Rect.unit (s := S4x512x256) ![0, 0, 0] ![4, 512, 256] inb_S4x512x256_S4x512x256_0_0_0).toLoadRect f10) = (stepB w1 ⟨M4.view.read (Elt F) f4, M5.view.read (Elt F) f5, M6.view.read (Elt F) f6⟩ ⟨M9.view.read (Elt F) f9, M10.view.read (Elt F) f10⟩).acc := by
    rw [E4, E5, E6, E9, E10]
    rfl
  have V60 : runB.sl.v60 c M4 M5 M6 M9 M10 w1 w3 f4 f5 f6 f9 f10 = (stepB w1 ⟨M4.view.read (Elt F) f4, M5.view.read (Elt F) f5, M6.view.read (Elt F) f6⟩ ⟨M9.view.read (Elt F) f9, M10.view.read (Elt F) f10⟩).acc :=
    (View.readAt_full _ _ _).trans ((View.read_writes_full _ _ _ _ _).trans P10)
  have V76 : runB.sl.v76 c M4 M5 M6 M9 w1 w3 f4 f5 f6 f9 = (stepB w1 ⟨M4.view.read (Elt F) f4, M5.view.read (Elt F) f5, M6.view.read (Elt F) f6⟩ ⟨M9.view.read (Elt F) f9, M10.view.read (Elt F) f10⟩).m :=
    (View.readAt_full _ _ _).trans ((View.read_writes_full _ _ _ _ _).trans P9)
  sl_step
  iapply Hk
  isplitl [Ht0 Ht1]
  · isplitl [Ht0]; · iexact Ht0
    iexact Ht1
  isplitl [H4 H5 H6]
  · isplitl [H4]; · iexists f4; isplitr; · ipureintro; rfl
                    iexact H4
    isplitl [H5]; · iexists f5; isplitr; · ipureintro; rfl
                    iexact H5
    iexists f6; isplitr; · ipureintro; rfl
    iexact H6
  isplitl [H9 H10]
  · isplitl [H9]
    · iexists _; isplitr; swap; · iexact H9
      ipureintro
      exact (View.read_writes_full _ _ _ _ _).trans P9
    iexists _; isplitr; swap; · iexact H10
    ipureintro
    exact (View.read_writes_full _ _ _ _ _).trans P10
  isplitl [H7]
  · iexists _; isplitr; swap; · iexact H7
    ipureintro
    rw [View.read_writes_cons_put _ _ _ _ _ rfl, View.read_writes_cons_put _ _ _ _ _ rfl, View.read_writes_cons_put _ _ _ _ _ rfl, View.read_writes_cons_put _ _ _ _ _ rfl, V60]
    exact put4_any _ _ _ _ _ _
  iexists _; isplitr; swap; · iexact H8
  ipureintro
  refine (View.read_writes_full _ _ _ _ _).trans ?_
  rw [V60, V76]
  rfl

end Cert.Proof.Forward

end
end
-- ==== Proof.Forward.BodyB0.lean ====
module

public import proofs.«01_k».proof.Proof.Forward.Held

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 4000000 in
/-- The first step of a row of steps, on the diagonal with an odd block of queries. -/
theorem runB0 (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (x : Ins F) (s : St F) (o : Vec F S512x512 .f32) (l : Vec F S4x512x1 .f32)
    (c1 : cFirst w3) (c2 : ¬ cBefore w1 w3) (c3 : ¬ cEven w1 w3) (c4 : cOdd w1 w3) (c5 : k0_cond5 w1 w3 = 1#1)
    (Q : PUnit → sProp 𝕄) :
    iprop(tbl c t0 t1 ∗ insHeld c M4 M5 M6 x ∗ stHeld c M9 M10 s ∗ outHeld c M7 M8 o l
      ∗ (iprop(tbl c t0 t1 ∗ insHeld c M4 M5 M6 x ∗ stHeld c M9 M10 (stepB w1 x start) ∗ outHeld c M7 M8 (outO (stepB w1 x start)) (outL (stepB w1 x start))) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  obtain ⟨q, k, v⟩ := x
  obtain ⟨m, acc⟩ := s
  unfold insHeld stHeld outHeld
  unfold owns
  iintro ⟨⟨Ht0, Ht1⟩, ⟨⟨%f4, %e4, H4⟩, ⟨%f5, %e5, H5⟩, ⟨%f6, %e6, H6⟩⟩, ⟨⟨%f9, %e9, H9⟩, ⟨%f10, %e10, H10⟩⟩, ⟨⟨%f7, %e7, H7⟩, ⟨%f8, %e8, H8⟩⟩, Hk⟩
  dsimp only at e4 e5 e6 e9 e10
  subst e4 e5 e6 e9 e10 e7 e8
  rw [cc0_flash_fwd_eq_skeleton]
  unfold cc0_flash_fwd_skel
  rw [k0_part4_eq_skeleton]
  unfold k0_part4_skel smemLoad smemLoadElt
  rw [k0_part3_eq_skeleton]
  unfold k0_part3_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S4x512x256) ![0, 0, 0] ![4, 512, 256] inb_S4x512x256_S4x512x256_0_0_0).toLoadRect f4 = M4.view.read (Elt F) f4 := View.readAt_full _ _ _
  have E5 : View.readAt (Elt F) M5.view (Rect.unit (s := S4x1024x256) ![0, 0, 0] ![4, 1024, 256] inb_S4x1024x256_S4x1024x256_0_0_0).toLoadRect f5 = M5.view.read (Elt F) f5 := View.readAt_full _ _ _
  have E6 : View.readAt (Elt F) M6.view (Rect.unit (s := S4x1024x128) ![0, 0, 0] ![4, 1024, 128] inb_S4x1024x128_S4x1024x128_0_0_0).toLoadRect f6 = M6.view.read (Elt F) f6 := View.readAt_full _ _ _
  have E9 : View.readAt (Elt F) M9.view (Rect.unit (s := S4x512x1) ![0, 0, 0] ![4, 512, 1] inb_S4x512x1_S4x512x1_0_0_0).toLoadRect (M9.view.writes (Elt F) M9.view.junk runB0.sl.H9_1) = k0_pay22 := (View.readAt_full _ _ _).trans (View.read_writes_full _ _ _ _ _)
  have E10 : View.readAt (Elt F) M10.view (Rect.unit (s := S4x512x256) ![0, 0, 0] ![4, 512, 256] inb_S4x512x256_S4x512x256_0_0_0).toLoadRect (M10.view.writes (Elt F) M10.view.junk runB0.sl.H10_1) = k0_pay23 := (View.readAt_full _ _ _).trans (View.read_writes_full _ _ _ _ _)
  have P9 : k0_pay4 (k0_pay20 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect (M9.view.writes (Elt F) M9.view.junk runB0.sl.H9_1))) = (stepB w1 ⟨M4.view.read (Elt F) f4, M5.view.read (Elt F) f5, M6.view.read (Elt F) f6⟩ start).m := by
    rw [E4, E5, E9]
    rfl
  have P10 : k0_pay3 (View.readAt (Elt F) M9.view (Rect.unit (s := S4x512x1) ![0, 0, 0] ![4, 512, 1] inb_S4x512x1_S4x512x1_0_0_0).toLoadRect (M9.view.writes (Elt F) M9.view.junk runB0.sl.H9_1)) (k0_pay20 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect (M9.view.writes (Elt F) M9.view.junk runB0.sl.H9_1))) (k0_pay21 w1 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect (M9.view.writes (Elt F) M9.view.junk runB0.sl.H9_1))) (View.readAt (Elt F) M6.view (Rect.unit (s := S4x1024x128) ![0, 0, 0] ![4, 1024, 128] inb_S4x1024x128_S4x1024x128_0_0_0).toLoadRect f6) (View.readAt (Elt F) M10.view (Rect.unit (s := S4x512x256) ![0, 0, 0] ![4, 512, 256] inb_S4x512x256_S4x512x256_0_0_0).toLoadRect (M10.view.writes (Elt F) M10.view.junk runB0.sl.H10_1)) = (stepB w1 ⟨M4.view.read (Elt F) f4, M5.view.read (Elt F) f5, M6.view.read (Elt F) f6⟩ start).acc := by
    rw [E4, E5, E6, E9, E10]
    rfl
  have V60 : runB0.sl.v60 c M4 M5 M6 M9 M10 w1 w3 f4 f5 f6 = (stepB w1 ⟨M4.view.read (Elt F) f4, M5.view.read (Elt F) f5, M6.view.read (Elt F) f6⟩ start).acc :=
    (View.readAt_full _ _ _).trans ((View.read_writes_full _ _ _ _ _).trans P10)
  have V76 : runB0.sl.v76 c M4 M5 M6 M9 w1 w3 f4 f5 f6 = (stepB w1 ⟨M4.view.read (Elt F) f4, M5.view.read (Elt F) f5, M6.view.read (Elt F) f6⟩ start).m :=
    (View.readAt_full _ _ _).trans ((View.read_writes_full _ _ _ _ _).trans P9)
  sl_step
  iapply Hk
  isplitl [Ht0 Ht1]
  · isplitl [Ht0]; · iexact Ht0
    iexact Ht1
  isplitl [H4 H5 H6]
  · isplitl [H4]; · iexists f4; isplitr; · ipureintro; rfl
                    iexact H4
    isplitl [H5]; · iexists f5; isplitr; · ipureintro; rfl
                    iexact H5
    iexists f6; isplitr; · ipureintro; rfl
    iexact H6
  isplitl [H9 H10]
  · isplitl [H9]
    · iexists _; isplitr; swap; · iexact H9
      ipureintro
      exact (View.read_writes_full _ _ _ _ _).trans P9
    iexists _; isplitr; swap; · iexact H10
    ipureintro
    exact (View.read_writes_full _ _ _ _ _).trans P10
  isplitl [H7]
  · iexists _; isplitr; swap; · iexact H7
    ipureintro
    rw [View.read_writes_cons_put _ _ _ _ _ rfl, View.read_writes_cons_put _ _ _ _ _ rfl, View.read_writes_cons_put _ _ _ _ _ rfl, View.read_writes_cons_put _ _ _ _ _ rfl, V60]
    exact put4_any _ _ _ _ _ _
  iexists _; isplitr; swap; · iexact H8
  ipureintro
  refine (View.read_writes_full _ _ _ _ _).trans ?_
  rw [V60, V76]
  rfl

end Cert.Proof.Forward

end
end
-- ==== Proof.Forward.BodyC.lean ====
module

public import proofs.«01_k».proof.Proof.Forward.Held

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 4000000 in
/-- A later step of a row of steps, before the diagonal. -/
theorem runC (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (x : Ins F) (s : St F)
    (c1 : ¬ cFirst w3) (c2 : cBefore w1 w3) (c3 : ¬ cEven w1 w3) (c4 : ¬ cOdd w1 w3) (c5 : ¬ k0_cond5 w1 w3 = 1#1)
    (Q : PUnit → sProp 𝕄) :
    iprop(tbl c t0 t1 ∗ insHeld c M4 M5 M6 x ∗ stHeld c M9 M10 s
      ∗ (iprop(tbl c t0 t1 ∗ insHeld c M4 M5 M6 x ∗ stHeld c M9 M10 (stepC x s)) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  obtain ⟨q, k, v⟩ := x
  obtain ⟨m, acc⟩ := s
  unfold insHeld stHeld
  unfold owns
  iintro ⟨⟨Ht0, Ht1⟩, ⟨⟨%f4, %e4, H4⟩, ⟨%f5, %e5, H5⟩, ⟨%f6, %e6, H6⟩⟩, ⟨⟨%f9, %e9, H9⟩, ⟨%f10, %e10, H10⟩⟩, Hk⟩
  dsimp only at e4 e5 e6 e9 e10
  subst e4 e5 e6 e9 e10
  rw [cc0_flash_fwd_eq_skeleton]
  unfold cc0_flash_fwd_skel
  rw [k0_part4_eq_skeleton]
  unfold k0_part4_skel smemLoad smemLoadElt
  rw [k0_part1_eq_skeleton]
  unfold k0_part1_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S4x512x256) ![0, 0, 0] ![4, 512, 256] inb_S4x512x256_S4x512x256_0_0_0).toLoadRect f4 = M4.view.read (Elt F) f4 := View.readAt_full _ _ _
  have E5 : View.readAt (Elt F) M5.view (Rect.unit (s := S4x1024x256) ![0, 0, 0] ![4, 1024, 256] inb_S4x1024x256_S4x1024x256_0_0_0).toLoadRect f5 = M5.view.read (Elt F) f5 := View.readAt_full _ _ _
  have E6 : View.readAt (Elt F) M6.view (Rect.unit (s := S4x1024x128) ![0, 0, 0] ![4, 1024, 128] inb_S4x1024x128_S4x1024x128_0_0_0).toLoadRect f6 = M6.view.read (Elt F) f6 := View.readAt_full _ _ _
  have E9 : View.readAt (Elt F) M9.view (Rect.unit (s := S4x512x1) ![0, 0, 0] ![4, 512, 1] inb_S4x512x1_S4x512x1_0_0_0).toLoadRect f9 = M9.view.read (Elt F) f9 := View.readAt_full _ _ _
  have E10 : View.readAt (Elt F) M10.view (Rect.unit (s := S4x512x256) ![0, 0, 0] ![4, 512, 256] inb_S4x512x256_S4x512x256_0_0_0).toLoadRect f10 = M10.view.read (Elt F) f10 := View.readAt_full _ _ _
  have P9 : k0_pay15 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect f9) = (stepC ⟨M4.view.read (Elt F) f4, M5.view.read (Elt F) f5, M6.view.read (Elt F) f6⟩ ⟨M9.view.read (Elt F) f9, M10.view.read (Elt F) f10⟩).m := by
    rw [E4, E5, E9]
    rfl
  have P10 : k0_pay14 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect f9) (View.readAt (Elt F) M6.view (Rect.unit (s := S4x1024x128) ![0, 0, 0] ![4, 1024, 128] inb_S4x1024x128_S4x1024x128_0_0_0).toLoadRect f6) (View.readAt (Elt F) M10.view (Rect.unit (s := S4x512x256) ![0, 0, 0] ![4, 512, 256] inb_S4x512x256_S4x512x256_0_0_0).toLoadRect f10) = (stepC ⟨M4.view.read (Elt F) f4, M5.view.read (Elt F) f5, M6.view.read (Elt F) f6⟩ ⟨M9.view.read (Elt F) f9, M10.view.read (Elt F) f10⟩).acc := by
    rw [E4, E5, E6, E9, E10]
    rfl
  sl_step
  iapply Hk
  isplitl [Ht0 Ht1]
  · isplitl [Ht0]; · iexact Ht0
    iexact Ht1
  isplitl [H4 H5 H6]
  · isplitl [H4]; · iexists f4; isplitr; · ipureintro; rfl
                    iexact H4
    isplitl [H5]; · iexists f5; isplitr; · ipureintro; rfl
                    iexact H5
    iexists f6; isplitr; · ipureintro; rfl
    iexact H6
  isplitl [H9]
  · iexists _; isplitr; swap; · iexact H9
    ipureintro
    exact (View.read_writes_full _ _ _ _ _).trans P9
  iexists _; isplitr; swap; · iexact H10
  ipureintro
  exact (View.read_writes_full _ _ _ _ _).trans P10

end Cert.Proof.Forward

end
end
-- ==== Proof.Forward.BodyC0.lean ====
module

public import proofs.«01_k».proof.Proof.Forward.Held

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

set_option maxHeartbeats 4000000 in
/-- The first step of a row of steps, before the diagonal. -/
theorem runC0 (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (t0 : (T0).view.ty.Contents (Elt F)) (t1 : (T1).view.ty.Contents (Elt F)) (w1 w3 : BitVec 32) (hw1 : wordAt (F := F) i T0 t0 = w1) (hw3 : wordAt (F := F) i T1 t1 = w3)
    (x : Ins F) (s : St F)
    (c1 : cFirst w3) (c2 : cBefore w1 w3) (c3 : ¬ cEven w1 w3) (c4 : ¬ cOdd w1 w3) (c5 : ¬ k0_cond5 w1 w3 = 1#1)
    (Q : PUnit → sProp 𝕄) :
    iprop(tbl c t0 t1 ∗ insHeld c M4 M5 M6 x ∗ stHeld c M9 M10 s
      ∗ (iprop(tbl c t0 t1 ∗ insHeld c M4 M5 M6 x ∗ stHeld c M9 M10 (stepC x start)) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  obtain ⟨q, k, v⟩ := x
  obtain ⟨m, acc⟩ := s
  unfold insHeld stHeld
  unfold owns
  iintro ⟨⟨Ht0, Ht1⟩, ⟨⟨%f4, %e4, H4⟩, ⟨%f5, %e5, H5⟩, ⟨%f6, %e6, H6⟩⟩, ⟨⟨%f9, %e9, H9⟩, ⟨%f10, %e10, H10⟩⟩, Hk⟩
  dsimp only at e4 e5 e6 e9 e10
  subst e4 e5 e6 e9 e10
  rw [cc0_flash_fwd_eq_skeleton]
  unfold cc0_flash_fwd_skel
  rw [k0_part4_eq_skeleton]
  unfold k0_part4_skel smemLoad smemLoadElt
  rw [k0_part1_eq_skeleton]
  unfold k0_part1_skel
  simp only [Prog.bind_op, Prog.bind_ret]
  iapply (wp_load_rect Variants.none (c : Thread nD τ) none Set.univ (m := T0) (r := Rect.unit (s := S72) (k0_off1 i) S1.size (k0_off1_inb i)) (Finset.subset_univ _)) $$ Ht0
  iintro Ht0
  simp only [Prog.bind_op, Prog.bind_ret]
  iapply (wp_load_rect Variants.none (c : Thread nD τ) none Set.univ (m := T1) (r := Rect.unit (s := S72) (k0_off1 i) S1.size (k0_off1_inb i)) (Finset.subset_univ _)) $$ Ht1
  iintro Ht1
  simp only [Prog.bind_op, Prog.bind_ret]
  have hw1' : View.read (Elt F) (T0.access (Rect.unit (s := S72) (k0_off1 i) ![1] (k0_off1_inb i))) t0 only = w1 := hw1
  have hw3' : View.read (Elt F) (T1.access (Rect.unit (s := S72) (k0_off1 i) ![1] (k0_off1_inb i))) t1 only = w3 := hw3
  rw [hw1', hw3']
  sl_exec
  have E4 : View.readAt (Elt F) M4.view (Rect.unit (s := S4x512x256) ![0, 0, 0] ![4, 512, 256] inb_S4x512x256_S4x512x256_0_0_0).toLoadRect f4 = M4.view.read (Elt F) f4 := View.readAt_full _ _ _
  have E5 : View.readAt (Elt F) M5.view (Rect.unit (s := S4x1024x256) ![0, 0, 0] ![4, 1024, 256] inb_S4x1024x256_S4x1024x256_0_0_0).toLoadRect f5 = M5.view.read (Elt F) f5 := View.readAt_full _ _ _
  have E6 : View.readAt (Elt F) M6.view (Rect.unit (s := S4x1024x128) ![0, 0, 0] ![4, 1024, 128] inb_S4x1024x128_S4x1024x128_0_0_0).toLoadRect f6 = M6.view.read (Elt F) f6 := View.readAt_full _ _ _
  have E9 : View.readAt (Elt F) M9.view (Rect.unit (s := S4x512x1) ![0, 0, 0] ![4, 512, 1] inb_S4x512x1_S4x512x1_0_0_0).toLoadRect (M9.view.writes (Elt F) M9.view.junk runC0.sl.H9_1) = k0_pay22 := (View.readAt_full _ _ _).trans (View.read_writes_full _ _ _ _ _)
  have E10 : View.readAt (Elt F) M10.view (Rect.unit (s := S4x512x256) ![0, 0, 0] ![4, 512, 256] inb_S4x512x256_S4x512x256_0_0_0).toLoadRect (M10.view.writes (Elt F) M10.view.junk runC0.sl.H10_1) = k0_pay23 := (View.readAt_full _ _ _).trans (View.read_writes_full _ _ _ _ _)
  have P9 : k0_pay15 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect (M9.view.writes (Elt F) M9.view.junk runC0.sl.H9_1)) = (stepC ⟨M4.view.read (Elt F) f4, M5.view.read (Elt F) f5, M6.view.read (Elt F) f6⟩ start).m := by
    rw [E4, E5, E9]
    rfl
  have P10 : k0_pay14 (View.readAt (Elt F) M4.view (Rect.unit (s := S4x512x256) ![0, 0, 0] ![4, 512, 256] inb_S4x512x256_S4x512x256_0_0_0).toLoadRect f4) (View.readAt (Elt F) M5.view (Rect.unit (s := S4x1024x256) ![0, 0, 0] ![4, 1024, 256] inb_S4x1024x256_S4x1024x256_0_0_0).toLoadRect f5) (View.readAt (Elt F) M9.view (Rect.unit (s := S4x512x1) ![0, 0, 0] ![4, 512, 1] inb_S4x512x1_S4x512x1_0_0_0).toLoadRect (M9.view.writes (Elt F) M9.view.junk runC0.sl.H9_1)) (View.readAt (Elt F) M6.view (Rect.unit (s := S4x1024x128) ![0, 0, 0] ![4, 1024, 128] inb_S4x1024x128_S4x1024x128_0_0_0).toLoadRect f6) (View.readAt (Elt F) M10.view (Rect.unit (s := S4x512x256) ![0, 0, 0] ![4, 512, 256] inb_S4x512x256_S4x512x256_0_0_0).toLoadRect (M10.view.writes (Elt F) M10.view.junk runC0.sl.H10_1)) = (stepC ⟨M4.view.read (Elt F) f4, M5.view.read (Elt F) f5, M6.view.read (Elt F) f6⟩ start).acc := by
    rw [E4, E5, E6, E9, E10]
    rfl
  sl_step
  iapply Hk
  isplitl [Ht0 Ht1]
  · isplitl [Ht0]; · iexact Ht0
    iexact Ht1
  isplitl [H4 H5 H6]
  · isplitl [H4]; · iexists f4; isplitr; · ipureintro; rfl
                    iexact H4
    isplitl [H5]; · iexists f5; isplitr; · ipureintro; rfl
                    iexact H5
    iexists f6; isplitr; · ipureintro; rfl
    iexact H6
  isplitl [H9]
  · iexists _; isplitr; swap; · iexact H9
    ipureintro
    exact (View.read_writes_full _ _ _ _ _).trans P9
  iexists _; isplitr; swap; · iexact H10
  ipureintro
  exact (View.read_writes_full _ _ _ _ _).trans P10

end Cert.Proof.Forward

end
end
-- ==== Proof.Forward.Point.lean ====
/-
  One step of the forward kernel, whichever its kind.
-/
module

public import proofs.«01_k».proof.Proof.Forward.Tables
public import proofs.«01_k».proof.Proof.Forward.BodyA
public import proofs.«01_k».proof.Proof.Forward.BodyA0
public import proofs.«01_k».proof.Proof.Forward.BodyB
public import proofs.«01_k».proof.Proof.Forward.BodyB0
public import proofs.«01_k».proof.Proof.Forward.BodyC
public import proofs.«01_k».proof.Proof.Forward.BodyC0

@[expose] public section

noncomputable section

namespace Cert.Proof.Forward

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- What a step starts from: nothing at the first block of keys, else what the step before left. -/
def from0 (s : Fin 72) (S : St F) : St F := if kjAt s = 0 then start else S

/-- What step `s` of a row leaves. -/
def stepK (s : Fin 72) (x : Ins F) (S : St F) : St F :=
  if kindA s then stepA (lit0 s) x (from0 s S)
  else if kindB s then stepB (lit0 s) x (from0 s S)
  else stepC x (from0 s S)

/-- The tables' contents, one by one. -/
abbrev tab0 : (T0).view.ty.Contents (Elt F) := fun i => lit0 (S72.rowMajor i)
abbrev tab1 : (T1).view.ty.Contents (Elt F) := fun i => lit1 (S72.rowMajor i)

theorem kindB_of (s : Fin 72) (h : kindA s) : ¬ kindB s := by unfold kindA at h; unfold kindB; omega
theorem kindC_of (s : Fin 72) (h : kindA s) : ¬ kindC s := by unfold kindA at h; unfold kindC; omega
theorem kindC_of' (s : Fin 72) (h : kindB s) : ¬ kindC s := by unfold kindB at h; unfold kindC; omega
theorem kindA_of' (s : Fin 72) (h : kindB s) : ¬ kindA s := fun h' => kindB_of s h' h

theorem pointL (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (x : Ins F) (s s' : St F) (o : Vec F S512x512 .f32) (l : Vec F S4x512x1 .f32)
    (hs : kjAt (stepOf i) ≠ 0 → s' = s) (hC : ¬ kindC (stepOf i))
    (Q : PUnit → sProp 𝕄) :
    iprop(tbl c tab0 tab1 ∗ insHeld c M4 M5 M6 x ∗ stHeld c M9 M10 s' ∗ outHeld c M7 M8 o l
      ∗ (iprop(tbl c tab0 tab1 ∗ insHeld c M4 M5 M6 x ∗ stHeld c M9 M10 (stepK (stepOf i) x s)
          ∗ outHeld c M7 M8 (outO (stepK (stepOf i) x s)) (outL (stepK (stepOf i) x s))) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  by_cases hA : kindA (stepOf i)
  · have hB := kindB_of _ hA
    by_cases h0 : kjAt (stepOf i) = 0
    · have e : stepK (stepOf i) x s = stepA (lit0 (stepOf i)) x start := by
        unfold stepK from0
        rw [if_pos hA, if_pos h0]
      rw [e]
      exact runA0 c i M4 h4 M5 h5 M6 h6 M7 h7 M8 h8 M9 h9 M10 h10 _ _ _ _ (word0 i) (word1 i) x s' o l
        ((cond_first _).2 h0) (fun h => hC ((cond_before _).1 h)) ((cond_even _).2 hA) (fun h => hB ((cond_odd _).1 h)) ((cond_last _).2 hC) Q
    · have e : stepK (stepOf i) x s = stepA (lit0 (stepOf i)) x s := by
        unfold stepK from0
        rw [if_pos hA, if_neg h0]
      rw [e, hs h0]
      exact runA c i M4 h4 M5 h5 M6 h6 M7 h7 M8 h8 M9 h9 M10 h10 _ _ _ _ (word0 i) (word1 i) x s o l
        (fun h => h0 ((cond_first _).1 h)) (fun h => hC ((cond_before _).1 h)) ((cond_even _).2 hA) (fun h => hB ((cond_odd _).1 h)) ((cond_last _).2 hC) Q
  · have hB := ((kinds _).resolve_left hA).resolve_right hC
    by_cases h0 : kjAt (stepOf i) = 0
    · have e : stepK (stepOf i) x s = stepB (lit0 (stepOf i)) x start := by
        unfold stepK from0
        rw [if_neg hA, if_pos hB, if_pos h0]
      rw [e]
      exact runB0 c i M4 h4 M5 h5 M6 h6 M7 h7 M8 h8 M9 h9 M10 h10 _ _ _ _ (word0 i) (word1 i) x s' o l
        ((cond_first _).2 h0) (fun h => hC ((cond_before _).1 h)) (fun h => hA ((cond_even _).1 h)) ((cond_odd _).2 hB) ((cond_last _).2 hC) Q
    · have e : stepK (stepOf i) x s = stepB (lit0 (stepOf i)) x s := by
        unfold stepK from0
        rw [if_neg hA, if_pos hB, if_neg h0]
      rw [e, hs h0]
      exact runB c i M4 h4 M5 h5 M6 h6 M7 h7 M8 h8 M9 h9 M10 h10 _ _ _ _ (word0 i) (word1 i) x s o l
        (fun h => h0 ((cond_first _).1 h)) (fun h => hC ((cond_before _).1 h)) (fun h => hA ((cond_even _).1 h)) ((cond_odd _).2 hB) ((cond_last _).2 hC) Q

theorem pointC (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (x : Ins F) (s s' : St F)
    (hs : kjAt (stepOf i) ≠ 0 → s' = s) (hC : kindC (stepOf i))
    (Q : PUnit → sProp 𝕄) :
    iprop(tbl c tab0 tab1 ∗ insHeld c M4 M5 M6 x ∗ stHeld c M9 M10 s'
      ∗ (iprop(tbl c tab0 tab1 ∗ insHeld c M4 M5 M6 x ∗ stHeld c M9 M10 (stepK (stepOf i) x s)) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  have hA : ¬ kindA (stepOf i) := fun h => kindC_of _ h hC
  have hB : ¬ kindB (stepOf i) := fun h => kindC_of' _ h hC
  by_cases h0 : kjAt (stepOf i) = 0
  · have e : stepK (stepOf i) x s = stepC x start := by
      unfold stepK from0
      rw [if_neg hA, if_neg hB, if_pos h0]
    rw [e]
    exact runC0 c i M4 h4 M5 h5 M6 h6 M7 h7 M8 h8 M9 h9 M10 h10 _ _ _ _ (word0 i) (word1 i) x s'
      ((cond_first _).2 h0) ((cond_before _).2 hC) (fun h => hA ((cond_even _).1 h)) (fun h => hB ((cond_odd _).1 h)) (fun h => (cond_last _).1 h hC) Q
  · have e : stepK (stepOf i) x s = stepC x s := by
      unfold stepK from0
      rw [if_neg hA, if_neg hB, if_neg h0]
    rw [e, hs h0]
    exact runC c i M4 h4 M5 h5 M6 h6 M7 h7 M8 h8 M9 h9 M10 h10 _ _ _ _ (word0 i) (word1 i) x s
      (fun h => h0 ((cond_first _).1 h)) ((cond_before _).2 hC) (fun h => hA ((cond_even _).1 h)) (fun h => hB ((cond_odd _).1 h)) (fun h => (cond_last _).1 h hC) Q

end Cert.Proof.Forward

end
end
-- ==== Proof.Forward.Data.lean ====
/-
  What the forward kernel's arrays, staging buffers and scratch hold from point to point of its grid.
-/
module

public import proofs.«01_k».proof.Proof.Forward.Point
public import proofs.«01_k».proof.Proof.Gen.Kernel2Ideal.Launch
public import Idealize.ShloMosaic.Lib.Pipeline.Regions
public import Idealize.ShloMosaic.Lib.Pipeline.RegionArraysT

@[expose] public section

noncomputable section

namespace Cert.Proof.Forward

open Cert.Kernel2Ideal Cert.Kernel2Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The buffers when the kernel starts: five stretches of host operations -/

def W0 (c : Dev nD) : Valuation τ sig (Elt F) := fun b => (s₀ m ρ).mem ((c : Dev nD), b)
def W1 (c : Dev nD) : Valuation τ sig (Elt F) := StableHlo.after hostOps0 (W0 m ρ c)
def W2 (c : Dev nD) : Valuation τ sig (Elt F) := StableHlo.after hostOps0_1 (W1 m ρ c)
def W3 (c : Dev nD) : Valuation τ sig (Elt F) := StableHlo.after hostOps0_2 (W2 m ρ c)
def W4 (c : Dev nD) : Valuation τ sig (Elt F) := StableHlo.after hostOps0_3 (W3 m ρ c)
def W5 (c : Dev nD) : Valuation τ sig (Elt F) := StableHlo.after hostOps0_4 (W4 m ρ c)

abbrev V (c : Dev nD) (b : Ref sig .tc) : Buf (Elt F) ((c : Thread nD τ).loc b) := W5 m ρ c b

/-- An input's block at a point. -/
abbrev stg (c : Dev nD) (w : Fin 5) (t : Fin (cfgA (F := F)).N) : (((cfgA (F := F)).win w).xblock ((cfgA (F := F)).grid.coords t)).Idx → Elt F ((cfgA (F := F)).win w).elt :=
  (((cfgA (F := F)).win w).blk t).view.read (Elt F) (V m ρ c (Pipeline.arrRef spec0 w))

/-- The three blocks of a point. -/
def insAt (c : Dev nD) (t : Fin (cfgA (F := F)).N) : Ins F :=
  ⟨stg m ρ c 0 t, stg m ρ c 1 t, stg m ρ c 2 t⟩

/-- The step of its row that a point is. -/
abbrev stepN (t : Fin (cfgA (F := F)).N) : Fin 72 := stepOf (grid0.coords t)

/-- The carried arrays after `n` points. -/
def stAt (c : Dev nD) : ℕ → St F
  | 0 => start
  | n + 1 => if h : n < (cfgA (F := F)).N then stepK (stepN ⟨n, h⟩) (insAt m ρ c ⟨n, h⟩) (stAt c n) else stAt c n

theorem stAt_succ (c : Dev nD) (t : Fin (cfgA (F := F)).N) :
    stAt m ρ c (t.val + 1) = stepK (stepN t) (insAt m ρ c t) (stAt m ρ c t.val) := by
  rw [stAt, dif_pos t.isLt]

/-- What holds between points: the scratch arrays at the carried values (anything at first), the tables. -/
def Φn (c : Dev nD) (n : ℕ) : sProp 𝕄 :=
  iprop((∃ S : St F, ⌜n ≠ 0 → S = stAt m ρ c n⌝ ∗ stHeld c (Memref.whole cc0_scratch0) (Memref.whole cc0_scratch1) S)
    ∗ tbl c tab0 tab1)

def dats (_ : Fin 1) (c : Dev nD) : Dat τ (Elt F) Unit ℕ (UU nD τ) ℕ (cfgA (F := F)) c where
  A w := V m ρ c (Pipeline.arrRef spec0 w)
  after w t := match w with
    | ⟨0, _⟩ => stg m ρ c 0 t | ⟨1, _⟩ => stg m ρ c 1 t | ⟨2, _⟩ => stg m ρ c 2 t
    | ⟨3, _⟩ => outO (stAt m ρ c (t.val + 1))
    | ⟨4, _⟩ => outL (stAt m ρ c (t.val + 1))
    | ⟨n + 5, h⟩ => absurd h (Nat.not_lt.2 (Nat.le_add_left _ _))
  Φ t := Φn m ρ c t.val
  q _ := fullShare
  owed _ := 0

theorem Φ_eq (c : Dev nD) (t : Fin ((cfgA (F := F)).N + 1)) : (dats m ρ 0 c).Φ t = Φn m ρ c t.val := by
  dsimp only [dats]

theorem owed_eq (c : Dev nD) (t : Fin ((cfgA (F := F)).N + 1)) : (dats m ρ 0 c).owed t = 0 := by
  dsimp only [dats]

theorem A_eq (c : Dev nD) (w : Fin 5) : (dats m ρ 0 c).A w = V m ρ c (Pipeline.arrRef spec0 w) := by
  dsimp only [dats]

theorem before0 (c : Dev nD) (t : Fin (cfgA (F := F)).N) (d) : (dats m ρ 0 c).before (0 : Fin 5) t d = (insAt m ρ c t).q :=
  (Dat.before_in_eq_fetched (dats m ρ 0 c) (0 : Fin 5) rfl (fun i => idle_in 0 (by decide) i) (fun _ _ _ => rfl) (fun _ => rfl) t d).trans rfl
theorem before1 (c : Dev nD) (t : Fin (cfgA (F := F)).N) (d) : (dats m ρ 0 c).before (1 : Fin 5) t d = (insAt m ρ c t).k :=
  (Dat.before_in_eq_fetched (dats m ρ 0 c) (1 : Fin 5) rfl (fun i => idle_in 1 (by decide) i) (fun _ _ _ => rfl) (fun _ => rfl) t d).trans rfl
theorem before2 (c : Dev nD) (t : Fin (cfgA (F := F)).N) (d) : (dats m ρ 0 c).before (2 : Fin 5) t d = (insAt m ρ c t).v :=
  (Dat.before_in_eq_fetched (dats m ρ 0 c) (2 : Fin 5) rfl (fun i => idle_in 2 (by decide) i) (fun _ _ _ => rfl) (fun _ => rfl) t d).trans rfl

/-! ## The schedule of the two written arrays -/

theorem coord0 (t : Fin grid0.N) : (grid0.coords t 0).val = t.val / 72 := by
  have h : t.val < 144 := N_0 ▸ t.isLt
  show t.val / 72 % 2 = t.val / 72
  omega
theorem coord1 (t : Fin grid0.N) : (stepOf (grid0.coords t)).val = t.val % 72 := by
  show t.val / 1 % 72 = _
  rw [Nat.div_one]

/-- Where a step is before the diagonal, the step after it is on the same block of queries. -/
theorem qi_next : ∀ s : Fin 72, kindC s → ∃ h : s.val + 1 < 72, qiAt ⟨s.val + 1, h⟩ = qiAt s := by decide

theorem noflush (c : Dev nD) (t : Fin (cfgA (F := F)).N) (hC : kindC (stepN t)) (w : Fin 5) (hw : w = 3 ∨ w = 4) :
    ((cfgA (F := F)).win w).flush t = false := by
  obtain ⟨hlt, hq⟩ := qi_next _ hC
  have h1 : (stepN t).val = t.val % 72 := coord1 t
  have hN : t.val < 144 := N_0 ▸ t.isLt
  have hn : t.val + 1 < 144 := by omega
  have key : ∀ h : t.val + 1 < grid0.N, (grid0.coords ⟨t.val + 1, h⟩ 0).val = (grid0.coords t 0).val
      ∧ qiAt (stepOf (grid0.coords ⟨t.val + 1, h⟩)) = qiAt (stepOf (grid0.coords t)) := by
    intro h
    have e1 : stepOf (grid0.coords ⟨t.val + 1, h⟩) = ⟨(stepN t).val + 1, hlt⟩ := Fin.ext (by
      rw [coord1]
      show (t.val + 1) % 72 = (stepN t).val + 1
      omega)
    constructor
    · rw [coord0, coord0]
      show (t.val + 1) / 72 = t.val / 72
      omega
    · rw [e1, hq]
  have fin : ∀ {r : ℕ} (ix : grid0.Coords → Fin r → ℕ), (∀ i i', (i 0).val = (i' 0).val → qiAt (stepOf i) = qiAt (stepOf i') → ix i = ix i') → Window.flushOf grid0 true ix t = false := by
    intro r ix hix
    unfold Window.flushOf
    rw [Bool.true_and, Bool.or_eq_false_iff]
    constructor
    · exact decide_eq_false (fun h => absurd (h.trans N_0) (by omega))
    · refine decide_eq_false ?_
      rintro ⟨h, hne⟩
      exact hne (by first | exact hix _ _ (key h).1 (key h).2 | exact (hix _ _ (key h).1 (key h).2).symm)
  rcases hw with rfl | rfl
  · exact fin _ fun i i' h h' => (tf3 i).trans ((two (congrArg Fin.val h') h).trans (tf3 i').symm)
  · exact fin _ fun i i' h h' => (tf4 i).trans ((three h (congrArg Fin.val h') rfl).trans (tf4 i').symm)

/-! ## The body at a point -/

/-- The body of the kernel at a point, with the point's staging buffers. -/
abbrev bodyAt (t : Fin (cfgA (F := F)).N) := cc0_flash_fwd (F := F) (grid0.coords t) (Memref.whole main_c) (Memref.isWhole_whole _) (Memref.whole main_c_0) (Memref.isWhole_whole _)
  (spec0_0.stage ((cfgA (F := F)).slots t 0)) (hstage0_0 (((cfgA (F := F)).slots t 0).cast nbuf0_0))
  (spec0_1.stage ((cfgA (F := F)).slots t 1)) (hstage0_1 (((cfgA (F := F)).slots t 1).cast nbuf0_1))
  (spec0_2.stage ((cfgA (F := F)).slots t 2)) (hstage0_2 (((cfgA (F := F)).slots t 2).cast nbuf0_2))
  (spec0_3.stage ((cfgA (F := F)).slots t 3)) (hstage0_3 (((cfgA (F := F)).slots t 3).cast nbuf0_3))
  (spec0_4.stage ((cfgA (F := F)).slots t 4)) (hstage0_4 (((cfgA (F := F)).slots t 4).cast nbuf0_4))
  (Memref.whole cc0_scratch0) (Memref.isWhole_whole _) (Memref.whole cc0_scratch1) (Memref.isWhole_whole _)

theorem leaves_eq (c : Dev nD) (w : Fin 5) (t : Fin (cfgA (F := F)).N) (hi : (cfgA (F := F)).idle w (grid0.coords t) = false) : ((dats m ρ 0 c).leavesExact w t : sProp 𝕄)
    = owns (c : Thread nD τ) (((cfgA (F := F)).win w).stage ((cfgA (F := F)).slots t w)) fullShare ((dats m ρ 0 c).after w t) := by
  unfold Dat.leavesExact
  rw [show (cfgA (F := F)).idle w ((cfgA (F := F)).grid.coords t) = false from hi]

theorem leaves0 (c : Dev nD) (t : Fin (cfgA (F := F)).N) :
    owns (c : Thread nD τ) (spec0_0.stage ((cfgA (F := F)).slots t 0)) fullShare (insAt m ρ c t).q ⊢ ((dats m ρ 0 c).leavesExact (0 : Fin 5) t : sProp 𝕄) := by
  rw [leaves_eq m ρ c 0 t (idle_in 0 (by decide) _)]
  dsimp only [dats]
  exact .rfl
theorem leaves1 (c : Dev nD) (t : Fin (cfgA (F := F)).N) :
    owns (c : Thread nD τ) (spec0_1.stage ((cfgA (F := F)).slots t 1)) fullShare (insAt m ρ c t).k ⊢ ((dats m ρ 0 c).leavesExact (1 : Fin 5) t : sProp 𝕄) := by
  rw [leaves_eq m ρ c 1 t (idle_in 1 (by decide) _)]
  dsimp only [dats]
  exact .rfl
theorem leaves2 (c : Dev nD) (t : Fin (cfgA (F := F)).N) :
    owns (c : Thread nD τ) (spec0_2.stage ((cfgA (F := F)).slots t 2)) fullShare (insAt m ρ c t).v ⊢ ((dats m ρ 0 c).leavesExact (2 : Fin 5) t : sProp 𝕄) := by
  rw [leaves_eq m ρ c 2 t (idle_in 2 (by decide) _)]
  dsimp only [dats]
  exact .rfl
theorem leaves3 (c : Dev nD) (t : Fin (cfgA (F := F)).N) (hC : ¬ kindC (stepN t)) :
    owns (c : Thread nD τ) (spec0_3.stage ((cfgA (F := F)).slots t 3)) fullShare (outO (stAt m ρ c (t.val + 1))) ⊢ ((dats m ρ 0 c).leavesExact (3 : Fin 5) t : sProp 𝕄) := by
  rw [leaves_eq m ρ c 3 t ((idle_out 3 (by decide) _).trans (decide_eq_false hC))]
  dsimp only [dats]
  exact .rfl
theorem leaves3C (c : Dev nD) (t : Fin (cfgA (F := F)).N) (hC : kindC (stepN t)) (d) :
    owns (c : Thread nD τ) (spec0_3.stage ((cfgA (F := F)).slots t 3)) fullShare ((dats m ρ 0 c).before (3 : Fin 5) t d) ⊢ ((dats m ρ 0 c).leavesExact (3 : Fin 5) t : sProp 𝕄) := by
  rw [Dat.leavesExact_idle (dats m ρ 0 c) (3 : Fin 5) t ((idle_out 3 (by decide) _).trans (decide_eq_true hC)) (noflush (F := F) c t hC 3 (by decide))]
  iintro H
  iexists d
  iexact H
theorem leaves4 (c : Dev nD) (t : Fin (cfgA (F := F)).N) (hC : ¬ kindC (stepN t)) :
    owns (c : Thread nD τ) (spec0_4.stage ((cfgA (F := F)).slots t 4)) fullShare (outL (stAt m ρ c (t.val + 1))) ⊢ ((dats m ρ 0 c).leavesExact (4 : Fin 5) t : sProp 𝕄) := by
  rw [leaves_eq m ρ c 4 t ((idle_out 4 (by decide) _).trans (decide_eq_false hC))]
  dsimp only [dats]
  exact .rfl
theorem leaves4C (c : Dev nD) (t : Fin (cfgA (F := F)).N) (hC : kindC (stepN t)) (d) :
    owns (c : Thread nD τ) (spec0_4.stage ((cfgA (F := F)).slots t 4)) fullShare ((dats m ρ 0 c).before (4 : Fin 5) t d) ⊢ ((dats m ρ 0 c).leavesExact (4 : Fin 5) t : sProp 𝕄) := by
  rw [Dat.leavesExact_idle (dats m ρ 0 c) (4 : Fin 5) t ((idle_out 4 (by decide) _).trans (decide_eq_true hC)) (noflush (F := F) c t hC 4 (by decide))]
  iintro H
  iexists d
  iexact H

theorem zero_kj : kjAt 0 = 0 := by decide

theorem body_obligation (c : Dev nD) : BodyObligation (dats m ρ 0 c) (defs₀ (F := F)) Variants.none () Set.univ := fun t => by
  change _ ⊢ wp frame (wpE defs₀ Variants.none c none) Set.univ (bodyAt t) fun _ =>
    iprop((dats m ρ 0 c).Φ t.succ ∗ (dats m ρ 0 c).owesAt () t.succ ∗ bigSep Finset.univ fun w : Fin 5 => (dats m ρ 0 c).leavesExact w t)
  rw [bigSep_W0, bigSep_W0]
  rw [Φ_eq, Φ_eq, Fin.val_succ, Fin.val_castSucc]
  unfold Φn Dat.owesAt Pipeline.owesWithin
  rw [owed_eq, owed_eq]
  iintro ⟨⟨⟨%S, %hS, HS⟩, HT⟩, ⟨%W, %hW, HO⟩, ⟨%d0, H0⟩, ⟨%d1, H1⟩, ⟨%d2, H2⟩, ⟨%d3, H3⟩, ⟨%d4, H4⟩⟩
  rw [before0, before1, before2]
  have hs : kjAt (stepN t) ≠ 0 → S = stAt m ρ c t.val := fun h0 => hS fun h =>
    h0 (by rw [show stepN t = 0 from Fin.ext (by rw [coord1, h]; rfl)]; exact zero_kj)
  by_cases hC : kindC (stepN t)
  · iapply (pointC c (grid0.coords t) _ _ _ _ _ _ _ _ _ _ _ _ _ _ (insAt m ρ c t) (stAt m ρ c t.val) S hs hC)
    isplitl [HT]; · iexact HT
    isplitl [H0 H1 H2]
    · isplitl [H0]; · iexact H0
      isplitl [H1]; · iexact H1
      iexact H2
    isplitl [HS]; · iexact HS
    rw [← stAt_succ]
    iintro ⟨HT, ⟨H0, H1, H2⟩, HS⟩
    isplitl [HS HT]
    · isplitl [HS]
      · iexists _; isplitr; swap; (· iexact HS); ipureintro; exact fun _ => rfl
      iexact HT
    isplitl [HO]
    · iexists W; isplitr; · ipureintro; exact fun _ _ => Or.inl trivial
      iexact HO
    isplitl [H0]
    · iapply (leaves0 m ρ c t); iexact H0
    isplitl [H1]
    · iapply (leaves1 m ρ c t); iexact H1
    isplitl [H2]
    · iapply (leaves2 m ρ c t); iexact H2
    isplitl [H3]
    · iapply (leaves3C m ρ c t hC d3); iexact H3
    iapply (leaves4C m ρ c t hC d4); iexact H4
  · iapply (pointL c (grid0.coords t) _ _ _ _ _ _ _ _ _ _ _ _ _ _ (insAt m ρ c t) (stAt m ρ c t.val) S
      ((dats m ρ 0 c).before 3 t d3) ((dats m ρ 0 c).before 4 t d4) hs hC)
    isplitl [HT]; · iexact HT
    isplitl [H0 H1 H2]
    · isplitl [H0]; · iexact H0
      isplitl [H1]; · iexact H1
      iexact H2
    isplitl [HS]; · iexact HS
    isplitl [H3 H4]
    · isplitl [H3]; · iexact H3
      iexact H4
    rw [← stAt_succ]
    iintro ⟨HT, ⟨H0, H1, H2⟩, HS, ⟨H3, H4⟩⟩
    isplitl [HS HT]
    · isplitl [HS]
      · iexists _; isplitr; swap; (· iexact HS); ipureintro; exact fun _ => rfl
      iexact HT
    isplitl [HO]
    · iexists W; isplitr; · ipureintro; exact fun _ _ => Or.inl trivial
      iexact HO
    isplitl [H0]
    · iapply (leaves0 m ρ c t); iexact H0
    isplitl [H1]
    · iapply (leaves1 m ρ c t); iexact H1
    isplitl [H2]
    · iapply (leaves2 m ρ c t); iexact H2
    isplitl [H3]
    · iapply (leaves3 m ρ c t hC); iexact H3
    iapply (leaves4 m ρ c t hC); iexact H4

end Cert.Proof.Forward

end
end
-- ==== Proof.Forward.Host.lean ====
/-
  The host's operations before the forward kernel: what they write, and what they leave alone.
-/
module

public import proofs.«01_k».proof.Proof.Forward.Data

@[expose] public section

noncomputable section

namespace Cert.Proof.Forward

open Cert.Kernel2Ideal Cert.Kernel2Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (m : (ℓ : Loc nD τ sig) → Buf (Elt F) ℓ) (ρ : Dev nD → PrngReg)

omit [FloatOps F] [Named F] in
theorem wsub {op : HloOp τ sig (Elt F)} {y : Ref sig .tc} {W : List (Ref sig .tc)} (h : op.writes = {Proc.devRef .tc y}) (hy : y ∈ W) :
    op.writes ⊆ (W.map (Proc.devRef (τ := τ) .tc)).toFinset := by
  rw [h]
  exact Finset.singleton_subset_iff.2 (List.mem_toFinset.2 (List.mem_map_of_mem hy))

abbrev hostOps0_w : List (Ref sig .tc) := [main_c, main_c_0, main_c_1]
theorem hostOps0_wsub : (hostOps0 : List (HloOp τ sig (Elt F))).Forall fun op => op.writes ⊆ ((hostOps0_w).map (Proc.devRef (τ := τ) .tc)).toFinset :=
  ⟨wsub rfl (by decide), wsub rfl (by decide), wsub rfl (by decide)⟩
theorem hostOps0_fresh : ∀ op ∈ (hostOps0 : List (HloOp τ sig (Elt F))), op.fresh = ∅ := by
  intro _ h
  (repeat (cases h with | head => rfl | tail _ h => ?_))
  exact nomatch h
abbrev hostOps0_1_w : List (Ref sig .tc) := [main_call0_v0, main_v0]
theorem hostOps0_1_wsub : (hostOps0_1 : List (HloOp τ sig (Elt F))).Forall fun op => op.writes ⊆ ((hostOps0_1_w).map (Proc.devRef (τ := τ) .tc)).toFinset :=
  ⟨wsub rfl (by decide), wsub rfl (by decide)⟩
theorem hostOps0_1_fresh : ∀ op ∈ (hostOps0_1 : List (HloOp τ sig (Elt F))), op.fresh = ∅ := by
  intro _ h
  (repeat (cases h with | head => rfl | tail _ h => ?_))
  exact nomatch h
abbrev hostOps0_2_w : List (Ref sig .tc) := [main_v1, main_c_2]
theorem hostOps0_2_wsub : (hostOps0_2 : List (HloOp τ sig (Elt F))).Forall fun op => op.writes ⊆ ((hostOps0_2_w).map (Proc.devRef (τ := τ) .tc)).toFinset :=
  ⟨wsub rfl (by decide), wsub rfl (by decide)⟩
theorem hostOps0_2_fresh : ∀ op ∈ (hostOps0_2 : List (HloOp τ sig (Elt F))), op.fresh = ∅ := by
  intro _ h
  (repeat (cases h with | head => rfl | tail _ h => ?_))
  exact nomatch h
abbrev hostOps0_3_w : List (Ref sig .tc) := [main_call1_v0, main_v2]
theorem hostOps0_3_wsub : (hostOps0_3 : List (HloOp τ sig (Elt F))).Forall fun op => op.writes ⊆ ((hostOps0_3_w).map (Proc.devRef (τ := τ) .tc)).toFinset :=
  ⟨wsub rfl (by decide), wsub rfl (by decide)⟩
theorem hostOps0_3_fresh : ∀ op ∈ (hostOps0_3 : List (HloOp τ sig (Elt F))), op.fresh = ∅ := by
  intro _ h
  (repeat (cases h with | head => rfl | tail _ h => ?_))
  exact nomatch h
abbrev hostOps0_4_w : List (Ref sig .tc) := [main_v3, main_v4]
theorem hostOps0_4_wsub : (hostOps0_4 : List (HloOp τ sig (Elt F))).Forall fun op => op.writes ⊆ ((hostOps0_4_w).map (Proc.devRef (τ := τ) .tc)).toFinset :=
  ⟨wsub rfl (by decide), wsub rfl (by decide)⟩
theorem hostOps0_4_fresh : ∀ op ∈ (hostOps0_4 : List (HloOp τ sig (Elt F))), op.fresh = ∅ := by
  intro _ h
  (repeat (cases h with | head => rfl | tail _ h => ?_))
  exact nomatch h

/-- What no operation after the first stretch writes is as the first stretch left it. -/
theorem W5_eq (c : Dev nD) (r : Ref sig .tc)
    (h : r ∉ hostOps0_1_w ++ hostOps0_2_w ++ hostOps0_3_w ++ hostOps0_4_w) :
    W5 m ρ c (Proc.devRef .tc r) = W1 m ρ c (Proc.devRef .tc r) := by
  simp only [List.mem_append, not_or] at h
  obtain ⟨⟨⟨h1, h2⟩, h3⟩, h4⟩ := h
  unfold W5 W4 W3 W2
  rw [StableHlo.after_of_writes_sub _ _ hostOps0_4_wsub h4, StableHlo.after_of_writes_sub _ _ hostOps0_3_wsub h3,
    StableHlo.after_of_writes_sub _ _ hostOps0_2_wsub h2, StableHlo.after_of_writes_sub _ _ hostOps0_1_wsub h1]

theorem W5_arg (c : Dev nD) (r : Ref sig .tc)
    (h : r ∉ hostOps0_1_w ++ hostOps0_2_w ++ hostOps0_3_w ++ hostOps0_4_w) (h0 : r ∉ hostOps0_w) :
    W5 m ρ c (Proc.devRef .tc r) = m ((c : Thread nD τ).loc r) := by
  rw [W5_eq m ρ c r h]
  unfold W1
  rw [StableHlo.after_of_writes_sub _ _ hostOps0_wsub h0]
  rfl

theorem V_arg0 (c : Dev nD) : V m ρ c main_arg0 = m ((c : Thread nD τ).loc main_arg0) := W5_arg m ρ c _ (by decide) (by decide)
theorem V_arg1 (c : Dev nD) : V m ρ c main_arg1 = m ((c : Thread nD τ).loc main_arg1) := W5_arg m ρ c _ (by decide) (by decide)
theorem V_arg2 (c : Dev nD) : V m ρ c main_arg2 = m ((c : Thread nD τ).loc main_arg2) := W5_arg m ρ c _ (by decide) (by decide)

theorem tail1 : ((hostOps0 : List (HloOp τ sig (Elt F))).tail).Forall fun op => op.writes ⊆ ((hostOps0_w.tail).map (Proc.devRef (τ := τ) .tc)).toFinset :=
  ⟨wsub rfl (by decide), wsub rfl (by decide)⟩
theorem tail2 : ((hostOps0 : List (HloOp τ sig (Elt F))).tail.tail).Forall fun op => op.writes ⊆ ((hostOps0_w.tail.tail).map (Proc.devRef (τ := τ) .tc)).toFinset :=
  wsub rfl (by decide)

/-- The tables, when the kernel starts. -/
theorem V_c (c : Dev nD) : V m ρ c main_c = tab0 (F := F) := by
  rw [show V m ρ c main_c = _ from W5_eq m ρ c main_c (by decide)]
  unfold W1
  rw [StableHlo.after_cons]
  refine (StableHlo.after_of_writes_sub (r := main_c) (hostOps0 (F := F)).tail _ tail1 (by decide)).trans ?_
  exact StableHlo.nullary_result ..
theorem V_c0 (c : Dev nD) : V m ρ c main_c_0 = tab1 (F := F) := by
  rw [show V m ρ c main_c_0 = _ from W5_eq m ρ c main_c_0 (by decide)]
  unfold W1
  rw [StableHlo.after_cons, StableHlo.after_cons]
  refine (StableHlo.after_of_writes_sub (r := main_c_0) (hostOps0 (F := F)).tail.tail _ tail2 (by decide)).trans ?_
  exact StableHlo.nullary_result ..

theorem V_tabs (c : Dev nD) : ∀ k, (adm (F := F)).1 k = W5 m ρ c (Proc.devRef .tc (pre0.ref k))
  | 0 => (V_c m ρ c).symm
  | 1 => (V_c0 m ρ c).symm
  | ⟨_ + 2, h⟩ => absurd h (Nat.not_lt.2 (Nat.le_add_left _ _))

end Cert.Proof.Forward

end
end
-- ==== Proof.Forward.Run.lean ====
/-
  The whole run of the forward kernel's program: the host's operations, then the kernel over its grid.
-/
module

public import proofs.«01_k».proof.Proof.Forward.Host

@[expose] public section

noncomputable section

namespace Cert.Proof.Forward

open Cert.Kernel2Ideal Cert.Kernel2Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## The unscoped buffers, sorted -/

abbrev ucs : Finset (DevRef τ sig) := Pipeline.ucRefs τ sig

/-- The three arguments, as device buffers. -/
abbrev three_ : Finset (DevRef τ sig) := ({main_arg0, main_arg1, main_arg2} : Finset (Ref sig .tc)).map ⟨Proc.devRef (sig := sig) .tc, Proc.devRef_injective _⟩

theorem rest_mem (r : Ref sig .tc) (hr : r.isScoped = false) (ha : ∀ w, Pipeline.arrRef spec0 w ≠ r) (ht : ∀ k, pre0.ref k ≠ r) :
    Proc.devRef .tc r ∈ (ucs \ Pipeline.arrRefs spec0) \ Pipeline.tblRefs pre0 := by
  refine Finset.mem_sdiff.2 ⟨Finset.mem_sdiff.2 ⟨Finset.mem_filter.mpr ⟨StableHlo.devRef_mem_tcRefs _, fun h' => Bool.false_ne_true (hr.symm.trans h')⟩, ?_⟩, ?_⟩
  · intro h
    obtain ⟨r', hr', e⟩ := Finset.mem_map.mp h
    obtain ⟨w, -, rfl⟩ := Finset.mem_image.mp hr'
    exact ha w (Proc.devRef_injective _ e)
  · intro h
    obtain ⟨r', hr', e⟩ := Finset.mem_map.mp h
    obtain ⟨w, -, rfl⟩ := Finset.mem_image.mp hr'
    exact ht w (Proc.devRef_injective _ e)

theorem three__sub : three_ ⊆ (ucs \ Pipeline.arrRefs spec0) \ Pipeline.tblRefs pre0 := by
  intro b hb
  obtain ⟨r, hr, rfl⟩ := Finset.mem_map.mp hb
  simp only [Finset.mem_insert, Finset.mem_singleton] at hr
  rcases hr with rfl | rfl | rfl <;> exact rest_mem _ (by decide) (by decide) (by decide)

omit [FloatOps F] [Named F] in
theorem held_three_ (c : Dev nD) (W : Valuation τ sig (Elt F)) :
    (StableHlo.held (c : Thread nD τ) three_ W : sProp 𝕄)
      = iprop(((c : Thread nD τ).loc main_arg0 ↦{fullShare} W (Proc.devRef .tc main_arg0))
        ∗ ((c : Thread nD τ).loc main_arg1 ↦{fullShare} W (Proc.devRef .tc main_arg1)) ∗ ((c : Thread nD τ).loc main_arg2 ↦{fullShare} W (Proc.devRef .tc main_arg2))) := by
  unfold StableHlo.held three_
  rw [bigSep_map, bigSep_insert (by decide), bigSep_insert (by decide), bigSep_singleton]
  rfl

/-! ## The segments -/

abbrev 𝒱₀ : Variants := Variants.none
abbrev L : GSem nD τ sig → Finset Unit := fun _ => ∅
abbrev lv : GSem nD τ sig → Unit → ℕ := fun _ _ => 0
abbrev adms : (p : Fin 1) → (pcfgs (F := F) p).Adm := fun _ => adm

abbrev R (c : Dev nD) : sProp 𝕄 := iprop(∃ W, owes (c : Thread nD τ) (0 : CellTallies nD τ sig Unit) W)

abbrev Hs := Pipeline.HostSeg (Name := ℕ) (U := UU nD τ) (pcfgs (F := F)) defs₀ 𝒱₀ L lv

abbrev hseg (ops : List (HloOp τ sig (Elt F))) (hs : ops.Forall fun op => op.bufs ⊆ StableHlo.tcRefs τ sig) (hf : ∀ op ∈ ops, op.fresh = ∅)
    (W : Dev nD → Valuation τ sig (Elt F)) : Hs (F := F) :=
  Pipeline.HostSeg.ofOps _ _ _ _ _ ucs ops (fun op h => Pipeline.sub_ucRefs op ((List.forall_iff_forall_mem.mp hs) op h)) hf W R

def seg0 : Hs (F := F) := hseg hostOps0 hostOps0_sub hostOps0_fresh (W0 m ρ)
def seg1 : Hs (F := F) := hseg hostOps0_1 hostOps0_1_sub hostOps0_1_fresh (W1 m ρ)
def seg2 : Hs (F := F) := hseg hostOps0_2 hostOps0_2_sub hostOps0_2_fresh (W2 m ρ)
def seg3 : Hs (F := F) := hseg hostOps0_3 hostOps0_3_sub hostOps0_3_fresh (W3 m ρ)
def seg4 : Hs (F := F) := hseg hostOps0_4 hostOps0_4_sub hostOps0_4_fresh (W4 m ρ)

/-- What the kernel leaves for the end: its windows' arrays at their final contents, the three
    arguments. -/
abbrev Tₙ (c : Dev nD) : sProp 𝕄 :=
  iprop((dats m ρ 0 c).arrays ((dats m ρ 0 c).arrAt · (cfgA (F := F)).N)
    ∗ ((c : Thread nD τ).loc main_arg0 ↦{fullShare} V m ρ c main_arg0)
    ∗ ((c : Thread nD τ).loc main_arg1 ↦{fullShare} V m ρ c main_arg1)
    ∗ ((c : Thread nD τ).loc main_arg2 ↦{fullShare} V m ρ c main_arg2))

theorem prefs_tbl (c : Dev nD) : (Pipeline.prefHeld pre0 c (fun _ => fullShare) (adm (F := F)).1 : sProp 𝕄) = tbl c tab0 tab1 := by
  unfold Pipeline.prefHeld
  rw [bigSep_univ_eq_bigSepL [(0 : Fin 2), (1 : Fin 2)] (by decide) (by decide)]
  rfl

set_option backward.isDefEq.respectTransparency.types false in
def reg0 : Pipeline.RegionSeg (pcfgs (F := F)) adms (dats m ρ) () defs₀ 𝒱₀ L lv 0 where
  win := winFacts0.to₀
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) ucs (W5 m ρ c) ∗ R c)
  post c := iprop(Tₙ m ρ c ∗ R c)
  X c := iprop(emp)
  Y c := iprop(emp)
  Z c := iprop(((c : Thread nD τ).loc main_arg0 ↦{fullShare} V m ρ c main_arg0)
    ∗ ((c : Thread nD τ).loc main_arg1 ↦{fullShare} V m ρ c main_arg1)
    ∗ ((c : Thread nD τ).loc main_arg2 ↦{fullShare} V m ρ c main_arg2))
  hentry c := by
    rw [StableHlo.held_sub_split (c : Thread nD τ) (Pipeline.arrRefs_sub_ucRefs spec0 winFacts0.arr_unscoped) (W5 m ρ c),
      StableHlo.held_sub_split (c : Thread nD τ) (Pipeline.tblRefs_sub_ucRefs_sdiff spec0 pre0 preFacts0.unscoped preFacts0.disj) (W5 m ρ c),
      StableHlo.held_sub_split (c : Thread nD τ) three__sub (W5 m ρ c), held_three_,
      ← Pipeline.prefHeld_held pre0 preFacts0.inj c (adm (F := F)).1 (W5 m ρ c) (V_tabs m ρ c)]
    have ha := Pipeline.arrays_held (pcfgs (F := F)) adms (dats m ρ) 0 launch0 c ((dats m ρ 0 c).share_full fun _ => rfl)
      (dats m ρ 0 c).A (W5 m ρ c) (A_eq m ρ c)
    iintro ⟨⟨⟨Ha, Ht, ⟨H0, H1, H2⟩, -⟩, HO⟩, -, -⟩
    imodintro
    isplitl [Ha]
    · iapply (Entails.of_eq ha.symm); iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    isplitl [H0]; · iexact H0
    isplitl [H1]; · iexact H1
    iexact H2
  hin c := by
    rw [Φ_eq, show (((0 : Fin ((cfgA (F := F)).N + 1)).val)) = 0 from rfl]
    unfold Φn stHeld
    simp only [owns_whole_eq]
    rw [← prefs_tbl]
    iintro ⟨-, Ht, Hr⟩
    ihave Hr' := (Entails.of_eq (scopedRest0_eq (Val := Elt F) c)) $$ Hr
    icases Hr' with ⟨⟨%f, Hf⟩, ⟨%g, Hg⟩⟩
    isplitl [Hf Hg]
    · iexists ⟨f, g⟩; isplitr; · ipureintro; exact fun h => absurd rfl h
      isplitl [Hf]
      · iexists f; isplitr; swap; (· iexact Hf); ipureintro; rfl
      iexists g; isplitr; swap; (· iexact Hg); ipureintro; rfl
    iexact Ht
  hout c := by
    rw [Φ_eq]
    unfold Φn stHeld
    simp only [owns_whole_eq]
    iintro ⟨⟨%S, -, ⟨%f, -, Hf⟩, ⟨%g, -, Hg⟩⟩, -⟩
    isplitr; · iempintro
    isplitr; · rw [Pipeline.ownSems0_none]; iempintro
    iapply (Entails.of_eq (scopedRest0_eq (Val := Elt F) c).symm)
    isplitl [Hf]
    · iexists f; iexact Hf
    iexists g; iexact Hg
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-! ## The launch -/

abbrev segs : List (Pipeline.Seg (pcfgs (F := F)) adms (dats m ρ) () defs₀ 𝒱₀ L lv) :=
  [.host (seg0 m ρ), .host (seg1 m ρ), .host (seg2 m ρ), .host (seg3 m ρ), .host (seg4 m ρ), .region (reg0 m ρ)]

set_option backward.isDefEq.respectTransparency.types false in
set_option maxRecDepth 20000 in
theorem main_wp (c : Dev nD) (Q : PUnit → sProp 𝕄) :
    wp frame (wpE (defs (F := F)) 𝒱₀.lift (c.tc : Thread nD τ) none) Set.univ (Pipeline.Seg.run (segs m ρ)) Q
      ⊢ wp frame (wpE (defs (F := F)) 𝒱₀.lift (c.tc : Thread nD τ) none) Set.univ (main (F := F) c) Q := by
  rw [main_chain c, Pipeline.Seg.run_eq_chain]
  simp only [segs, List.map, Pipeline.Seg.prog, seg0, seg1, seg2, seg3, seg4, hseg, Pipeline.HostSeg.ofOps]
  exact .rfl

/-- The launch element: the pipeline library's at the staging cells; no counter yet. -/
def u₀ : UU nD τ := (initOf (Pipeline.cells (pcs (F := F)) (cellOf_inj adms)) (Pipeline.launchToks (pcs (F := F)) (cellOf_inj adms)), 1)

/-- A window's array after the run. -/
def finalA (c : Dev nD) (w : Fin 5) : Buf (Elt F) (((cfgA (F := F)).win w).arr.view.loc (c : Thread nD τ)) := (dats m ρ 0 c).arrAt w (cfgA (F := F)).N

/-- The arrays after the run: the windows' at what the library computes, the arguments as launched. -/
def QC : PUnit × MemSt nD τ sig (Elt F) → Prop := fun r =>
  ∀ c : Dev nD, (∀ w : Fin 5, r.2.mem (((cfgA (F := F)).win w).arr.view.loc (c : Thread nD τ)) = finalA m ρ c w)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
set_option maxRecDepth 20000 in
theorem run_main : θ_run defs (onTc (τ := τ) (main (F := F))) (s₀ m ρ) (fun r => QC m ρ r ∧ r.2.sem = fun _ => 0) :=
  Pipeline.θ_run_regions_kit_sems (pcfgs (F := F)) adms (dats m ρ) () (cellOf_inj adms) EP defs₀ 𝒱₀ L lv m ρ main (segs m ρ)
    (main_wp m ρ)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucs (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucs (W0 m ρ c) from Pipeline.unscopedBufs_held c (W0 m ρ c)]
      iintro ⟨⟨Hh, -, HO, -, -, -⟩, -⟩
      imodintro
      isplitl [Hh]; · iexact Hh
      iexists ∅; iexact HO)
    (QY := fun c s => (∀ w : Fin 5, s.mem (((cfgA (F := F)).win w).arr.view.loc (c : Thread nD τ)) = finalA m ρ c w)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Tₙ]; rw [V_arg0, V_arg1, V_arg2]
      iintro ⟨⟨Ha, H0, H1, H2⟩, HSI⟩
      icombine HSI H0 gives %h0
      icombine HSI H1 gives %h1
      icombine HSI H2 gives %h2
      ihave Hr := (Pipeline.arrays_read (pcfgs (F := F)) adms (dats m ρ) (launch0 (F := F)).arr_whole c ((dats m ρ 0 c).share_full fun _ => rfl) _ s') $$ [Ha HSI]
      · isplitl [Ha] <;> iassumption
      icases Hr with ⟨%ha, HSI⟩
      imodintro
      isplitr; · ipureintro; exact ⟨ha, Buf.eq_of_forall_mem_univ h0, Buf.eq_of_forall_mem_univ h1, Buf.eq_of_forall_mem_univ h2⟩
      iexact HSI)
    (hQ := fun _ h hz => ⟨h, funext fun g => hz g (.inr (by revert g; decide))⟩)

/-- Every argument ends as launched, and every semaphore at zero. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ ∀ ℓ, r.2.sem ℓ = 0) :=
  (θ_run defs _ _).mono (fun r h => ⟨fun c => (h.1 c).2,
    fun ℓ => by rw [h.2]⟩) (run_main m ρ)

end Cert.Proof.Forward

end
end
-- ==== Proof.Forward.Online.lean ====
/-
  The weighted sums of the forward kernel over the extended reals: carried on from a set of keys to a larger one.
-/
module

public import proofs.«01_k».proof.Proof.Tile
public import Idealize.ShloMosaic.PureOps.IdealRules

@[expose] public section

noncomputable section

namespace Cert.Proof.Forward

open Idealize.ShloMosaic
open Cert.Proof.Flash (Args coe_sum exp2_real)

/-- The weight of a score below a largest one. -/
def wt (x M : EReal) : EReal := Ideal.exp2 (x - M)

theorem wt_bot (M : EReal) : wt ⊥ M = 0 := by unfold wt; rw [EReal.bot_sub, Ideal.exp2_bot]
theorem wt_top (x : EReal) : wt x ⊤ = 0 := by unfold wt; rw [EReal.sub_top, Ideal.exp2_bot]
theorem wt_coe (x M : ℝ) : wt x M = ((Real.exp (Real.log 2 * (x - M)) : ℝ) : EReal) := by
  unfold wt; rw [← EReal.coe_sub, exp2_real]

theorem wt_real {x M : EReal} (h : x ≤ M) : ∃ r : ℝ, 0 ≤ r ∧ wt x M = (r : EReal) := by
  induction x using EReal.rec with
  | bot => exact ⟨0, le_rfl, (wt_bot M).trans EReal.coe_zero.symm⟩
  | top => rw [top_le_iff.mp h]; exact ⟨0, le_rfl, (wt_top _).trans EReal.coe_zero.symm⟩
  | coe x =>
    induction M using EReal.rec with
    | bot => exact absurd h (by simp)
    | top => exact ⟨0, le_rfl, (wt_top _).trans EReal.coe_zero.symm⟩
    | coe M => exact ⟨_, (Real.exp_pos _).le, wt_coe x M⟩

theorem wt_mul {x M M' : EReal} (h : x ≤ M) (h' : M ≤ M') : wt M M' * wt x M = wt x M' := by
  induction x using EReal.rec with
  | bot => rw [wt_bot, wt_bot, mul_zero]
  | top => rw [top_le_iff.mp h] at h' ⊢; rw [top_le_iff.mp h', wt_top, zero_mul]
  | coe x =>
    induction M using EReal.rec with
    | bot => exact absurd h (by simp)
    | top => rw [top_le_iff.mp h', wt_top, wt_top, zero_mul]
    | coe M =>
      induction M' using EReal.rec with
      | bot => exact absurd h' (by simp)
      | top => rw [wt_top, wt_top, zero_mul]
      | coe M' =>
        rw [wt_coe, wt_coe, wt_coe, ← EReal.coe_mul, ← Real.exp_add]
        congr 2
        ring

theorem real_mul_sum {ι : Type} (s : Finset ι) (f : ι → EReal) (r : ℝ) (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

/-- The weighted sum over a set of keys, below the largest score `M`. -/
def wsum {ι : Type} (x u : ι → EReal) (S : Finset ι) (M : EReal) : EReal := ∑ j ∈ S, wt (x j) M * u j

/-- What the kernel carries for a set of keys, taken on to a larger set. -/
theorem grow {ι : Type} [DecidableEq ι] (x u : ι → EReal) (S T : Finset ι) (hd : Disjoint S T) :
    wt (S.sup x) ((S ∪ T).sup x) * wsum x u S (S.sup x) + wsum x u T ((S ∪ T).sup x) = wsum x u (S ∪ T) ((S ∪ T).sup x) := by
  have hM : S.sup x ≤ (S ∪ T).sup x := Finset.sup_mono Finset.subset_union_left
  unfold wsum
  rw [Finset.sum_union hd]
  refine congrArg (· + _) ?_
  obtain ⟨r, hr, e⟩ := wt_real hM
  rw [e, real_mul_sum _ _ _ hr]
  refine Finset.sum_congr rfl fun j hj => ?_
  rw [← mul_assoc, ← e, wt_mul (Finset.le_sup hj) hM]

/-- Keys without weight may be left out. -/
theorem sup_all {ι : Type} [Fintype ι] (x : ι → EReal) (S : Finset ι) (h : ∀ j, j ∉ S → x j = ⊥) : S.sup x = Finset.univ.sup x :=
  le_antisymm (Finset.sup_mono (Finset.subset_univ _)) (Finset.sup_le fun j _ => by
    by_cases hj : j ∈ S
    · exact Finset.le_sup hj
    · rw [h j hj]; exact bot_le)
theorem wsum_all {ι : Type} [Fintype ι] (x u : ι → EReal) (S : Finset ι) (h : ∀ j, j ∉ S → x j = ⊥) (M : EReal) : wsum x u S M = wsum x u Finset.univ M :=
  Finset.sum_subset (Finset.subset_univ _) fun j _ hj => by rw [h j hj, wt_bot, zero_mul]

/-! ## The scores of a row -/

section
variable (a : Args) (h : Fin 8) (r : Fin 8192)

/-- The constant that takes a product of queries and keys to a score in base two. -/
abbrev c2 : ℝ := (√192)⁻¹ * (Real.log 2)⁻¹
def sc2 (j : Fin 8192) : ℝ := (∑ d, a.Q h r d * a.K h j d) * c2
/-- The scores a row sees, in base two. -/
def xs (j : Fin 8192) : EReal := if j ≤ r then ((sc2 a h r j : ℝ) : EReal) else ⊥

theorem log2_pos : 0 < Real.log 2 := Real.log_pos one_lt_two

theorem sc2_eq (j : Fin 8192) : sc2 a h r j = a.sc h r j / Real.log 2 := by
  unfold sc2 Args.sc
  rw [show (∑ d, a.Q h r d * a.K h j d) = ∑ d, a.q h r d * a.k h j d from
    (Finset.sum_congr rfl fun d _ => mul_comm _ _).trans (a.sum_QK h r j)]
  have := log2_pos.ne'
  field_simp

theorem sup_xs : Finset.univ.sup (xs a h r) = ((a.mx h r / Real.log 2 : ℝ) : EReal) := by
  refine le_antisymm (Finset.sup_le fun j _ => ?_) ?_
  · unfold xs
    split_ifs with hj
    · rw [sc2_eq]
      exact EReal.coe_le_coe_iff.mpr (div_le_div_of_nonneg_right (Finset.le_sup' (a.sc h r) (by simpa using hj)) log2_pos.le)
    · exact bot_le
  · obtain ⟨j, hj, e⟩ := Finset.exists_mem_eq_sup' (s := Finset.univ.filter fun j : Fin 8192 => j ≤ r) ⟨r, by simp⟩ (a.sc h r)
    have hj' : j ≤ r := by simpa using hj
    have := Finset.le_sup (f := xs a h r) (Finset.mem_univ j)
    rw [show xs a h r j = ((a.mx h r / Real.log 2 : ℝ) : EReal) from by
      unfold xs Args.mx; rw [if_pos hj', sc2_eq, e]] at this
    exact this

theorem wt_xs (j : Fin 8192) : wt (xs a h r j) ((a.mx h r / Real.log 2 : ℝ) : EReal) = ((a.ex h r j : ℝ) : EReal) := by
  unfold xs Args.ex
  split_ifs
  · rw [wt_coe, sc2_eq]
    have := log2_pos.ne'
    congr 2
    field_simp
  · rw [wt_bot, EReal.coe_zero]

theorem wsum_one : wsum (xs a h r) (fun _ => 1) Finset.univ ((a.mx h r / Real.log 2 : ℝ) : EReal) = ((a.sm h r : ℝ) : EReal) := by
  unfold wsum
  simp only [wt_xs, mul_one, coe_sum]
  rfl

/-- The quotient the kernel puts out is the sum of the weights times the values. -/
theorem quotient (u : Fin 8192 → EReal) :
    Ideal.div (wsum (xs a h r) u Finset.univ ((a.mx h r / Real.log 2 : ℝ) : EReal)) ((a.sm h r : ℝ) : EReal) = ∑ j, u j * ((a.p h r j : ℝ) : EReal) := by
  have hs := a.sm_pos h r
  rw [Ideal.div_coe hs.ne', mul_comm]
  unfold wsum
  rw [real_mul_sum _ _ _ (one_div_nonneg.mpr hs.le)]
  refine Finset.sum_congr rfl fun j _ => ?_
  rw [wt_xs, ← mul_assoc, ← EReal.coe_mul, mul_comm]
  unfold Args.p
  congr 2
  ring

/-- The logarithm the kernel puts out is the row's. -/
theorem logsum : ((a.mx h r / Real.log 2 : ℝ) : EReal) + Ideal.log ((a.sm h r : ℝ) : EReal) * (((Real.log 2)⁻¹ : ℝ) : EReal) = ((a.lse h r : ℝ) : EReal) := by
  rw [Ideal.log_coe, if_neg (not_le.mpr (a.sm_pos h r)), ← EReal.coe_mul, ← EReal.coe_add]
  unfold Args.lse
  congr 1
  ring

end

end Cert.Proof.Forward

end
-- ==== Proof.Forward.Pays.lean ====
/-
  The forward kernel's values over the extended reals, read at an index.
-/
module

public import proofs.«01_k».proof.Proof.Forward.State
public import proofs.«01_k».proof.Proof.Forward.Online
public import proofs.«01_k».proof.Proof.Fwd
public import Idealize.ShloMosaic.Lib.Pointwise
public import Idealize.ShloMosaic.PureOps.IdealRules

@[expose] public section

noncomputable section

namespace Cert.Proof.Forward

open Cert.Kernel2Ideal Cert.Kernel2Ideal.Gen
open Idealize.ShloMosaic Idealize.ShloMosaic.VecWindow
open Cert.Proof.Flash (offw bits_neg)

theorem named_c2 : (Named.named κ "c2" 1037384597#32 : Ideal .f32) = ((c2 : ℝ) : EReal) :=
  IdealRules.named_const.ideal_named_scalar _ _ _ _ rfl
theorem named_log2e : (Named.named κ "log2e" 1069066811#32 : Ideal .f32) = (((Real.log 2)⁻¹ : ℝ) : EReal) :=
  IdealRules.named_const.ideal_named_scalar _ _ _ _ rfl

/-- A key's score for a query. -/
def dotc {n : ℕ} (q : Vec Ideal S4x512x256 .bf16) (k : (⟨3, ![4, n, 256]⟩ : Shape).Idx → EReal) (h : Fin 4) (r : Fin 512) (j : Fin n) : EReal :=
  (∑ x : Fin 256, q (ix3 h r x) * k (ix3 h j x)) * ((c2 : ℝ) : EReal)

theorem pay12_at (q : Vec Ideal S4x512x256 .bf16) (k : Vec Ideal S4x1024x256 .bf16) (h : Fin 4) (r : Fin 512) (j : Fin 1024) :
    k0_pay12 (F := Ideal) q k (ix3 h r j) = dotc q k h r j := by
  pointwise [k0_pay12]
  rw [named_c2]; rfl

theorem mask (j r : ℕ) (hj : j < 1024) (hr : r < 512) (n : ℕ) (hn : n ≤ 512) (A B : EReal) :
    Scalar.select (IntOp.cmpi CmpIPredicate.sle (BitVec.ofNat 32 j) (IntOp.addi (BitVec.ofNat 32 n) (BitVec.ofNat 32 r))) A B = if j ≤ r + n then A else B := by
  rw [show IntOp.addi (BitVec.ofNat 32 n) (BitVec.ofNat 32 r) = IntOp.addi (BitVec.ofNat 32 r) (BitVec.ofNat 32 n) from BitVec.add_comm _ _]
  exact Flash.mask j r hj hr n hn A B

theorem pay16_at (w : BitVec 32) (n : ℕ) (hw : offw w = BitVec.ofNat 32 n) (hn : n ≤ 512) (q k : Vec Ideal S4x512x256 .bf16) (h : Fin 4) (r j : Fin 512) :
    k0_pay16 (F := Ideal) w q k (ix3 h r j) = if j.val ≤ r.val + n then dotc q k h r j else ⊥ := by
  pointwise [k0_pay16]
  rw [named_c2, bits_neg]
  refine Eq.trans ?_ (mask j r (by omega) r.isLt n hn _ _)
  rw [← hw]; rfl

theorem pay19_at (w : BitVec 32) (n : ℕ) (hw : offw w = BitVec.ofNat 32 n) (hn : n ≤ 512) (q : Vec Ideal S4x512x256 .bf16) (k : Vec Ideal S4x1024x256 .bf16) (h : Fin 4) (r : Fin 512) (j : Fin 1024) :
    k0_pay19 (F := Ideal) w q k (ix3 h r j) = if j.val ≤ r.val + n then dotc q k h r j else ⊥ := by
  pointwise [k0_pay19]
  rw [named_c2, bits_neg]
  refine Eq.trans ?_ (mask j r (by omega) r.isLt n hn _ _)
  rw [← hw]; rfl

theorem fold_sup {ι : Type} [Fintype ι] (f : ι → EReal) : Finset.fold max (⊥ : EReal) f Finset.univ = Finset.univ.sup f := rfl
theorem wt_def (x M : EReal) : Ideal.exp2 (x - M) = wt x M := rfl

/-! ## The largest scores -/

theorem cast_at (u : FVec Ideal S4x512 .f32) (h : Fin 4) (r : Fin 512) :
    shapeCast S4x512x1 u shapeCasts_S4x512_S4x512x1 (ix3 h r 0) = u (ix2 h r) := by
  pointwise

theorem red128_at (s : FVec Ideal S4x512x128 .f32) (h : Fin 4) (r : Fin 512) :
    multiReduction (F := Ideal) .maximumf [2] S4x512 s 0xFF800000#32 reduces_S4x512x128_S4x512 (.inl rfl) rfl (ix2 h r) =
      Finset.univ.sup fun j : Fin 128 => s (ix3 h r j) := by
  pointwise
  rw [bits_neg, fold_sup]
theorem red512_at (s : FVec Ideal S4x512x512 .f32) (h : Fin 4) (r : Fin 512) :
    multiReduction (F := Ideal) .maximumf [2] S4x512 s 0xFF800000#32 reduces_S4x512x512_S4x512 (.inl rfl) rfl (ix2 h r) =
      Finset.univ.sup fun j : Fin 512 => s (ix3 h r j) := by
  pointwise
  rw [bits_neg, fold_sup]
theorem red1024_at (s : FVec Ideal S4x512x1024 .f32) (h : Fin 4) (r : Fin 512) :
    multiReduction (F := Ideal) .maximumf [2] S4x512 s 0xFF800000#32 reduces_S4x512x1024_S4x512 (.inl rfl) rfl (ix2 h r) =
      Finset.univ.sup fun j : Fin 1024 => s (ix3 h r j) := by
  pointwise
  rw [bits_neg, fold_sup]
def topA (s : FVec Ideal S4x512x512 .f32) (m : Vec Ideal S4x512x1 .f32) : FVec Ideal S4x512x1 .f32 :=
  maximumf m (shapeCast S4x512x1 (multiReduction .maximumf [2] S4x512 s 0xFF800000#32 reduces_S4x512x512_S4x512 (.inl rfl) rfl) shapeCasts_S4x512_S4x512x1)
theorem topA_at (s : FVec Ideal S4x512x512 .f32) (m : Vec Ideal S4x512x1 .f32) (h : Fin 4) (r : Fin 512) :
    topA s m (ix3 h r 0) = max (m (ix3 h r 0)) (Finset.univ.sup fun j : Fin 512 => s (ix3 h r j)) :=
  congrArg (max (m (ix3 h r 0))) ((cast_at _ h r).trans (red512_at s h r))
def topB (s : FVec Ideal S4x512x1024 .f32) (m : Vec Ideal S4x512x1 .f32) : FVec Ideal S4x512x1 .f32 :=
  maximumf m (shapeCast S4x512x1 (multiReduction .maximumf [2] S4x512 s 0xFF800000#32 reduces_S4x512x1024_S4x512 (.inl rfl) rfl) shapeCasts_S4x512_S4x512x1)
theorem topB_at (s : FVec Ideal S4x512x1024 .f32) (m : Vec Ideal S4x512x1 .f32) (h : Fin 4) (r : Fin 512) :
    topB s m (ix3 h r 0) = max (m (ix3 h r 0)) (Finset.univ.sup fun j : Fin 1024 => s (ix3 h r j)) :=
  congrArg (max (m (ix3 h r 0))) ((cast_at _ h r).trans (red1024_at s h r))
theorem pay17_eq (w : BitVec 32) (q k : Vec Ideal S4x512x256 .bf16) (m : Vec Ideal S4x512x1 .f32) : k0_pay17 (F := Ideal) w q k m = topA (k0_pay16 (F := Ideal) w q k) m := by
  delta k0_pay17 topA
  exact rfl
theorem pay17_at (w : BitVec 32) (q k : Vec Ideal S4x512x256 .bf16) (m : Vec Ideal S4x512x1 .f32) (h : Fin 4) (r : Fin 512) :
    k0_pay17 (F := Ideal) w q k m (ix3 h r 0) = max (m (ix3 h r 0)) (Finset.univ.sup fun j : Fin 512 => k0_pay16 (F := Ideal) w q k (ix3 h r j)) := by
  rw [pay17_eq, topA_at]
theorem pay20_eq (w : BitVec 32) (q : Vec Ideal S4x512x256 .bf16) (k : Vec Ideal S4x1024x256 .bf16) (m : Vec Ideal S4x512x1 .f32) : k0_pay20 (F := Ideal) w q k m = topB (k0_pay19 (F := Ideal) w q k) m := by
  delta k0_pay20 topB
  exact rfl
theorem pay20_at (w : BitVec 32) (q : Vec Ideal S4x512x256 .bf16) (k : Vec Ideal S4x1024x256 .bf16) (m : Vec Ideal S4x512x1 .f32) (h : Fin 4) (r : Fin 512) :
    k0_pay20 (F := Ideal) w q k m (ix3 h r 0) = max (m (ix3 h r 0)) (Finset.univ.sup fun j : Fin 1024 => k0_pay19 (F := Ideal) w q k (ix3 h r j)) := by
  rw [pay20_eq, topB_at]
theorem pay13_eq (q : Vec Ideal S4x512x256 .bf16) (k : Vec Ideal S4x1024x256 .bf16) (m : Vec Ideal S4x512x1 .f32) : k0_pay13 (F := Ideal) q k m = topB (k0_pay12 (F := Ideal) q k) m := by
  delta k0_pay13 topB
  exact rfl
theorem pay13_at (q : Vec Ideal S4x512x256 .bf16) (k : Vec Ideal S4x1024x256 .bf16) (m : Vec Ideal S4x512x1 .f32) (h : Fin 4) (r : Fin 512) :
    k0_pay13 (F := Ideal) q k m (ix3 h r 0) = max (m (ix3 h r 0)) (Finset.univ.sup fun j : Fin 1024 => k0_pay12 (F := Ideal) q k (ix3 h r j)) := by
  rw [pay13_eq, topB_at]

/-! ## The weights -/

def weiA (s : FVec Ideal S4x512x512 .f32) (m : FVec Ideal S4x512x1 .f32) : FVec Ideal S4x512x512 .bf16 :=
  truncf .bf16 (exp2 (subf s (broadcastTo S4x512x512 m broadcasts_S4x512x1_S4x512x512))) bitsLt_bf16_f32
theorem weiA_at (s : FVec Ideal S4x512x512 .f32) (m : FVec Ideal S4x512x1 .f32) (h : Fin 4) (r : Fin 512) (j : Fin 512) :
    weiA s m (ix3 h r j) = wt (s (ix3 h r j)) (m (ix3 h r 0)) := by
  pointwise [weiA]
  rfl
theorem pay18_eq (w : BitVec 32) (q k : Vec Ideal S4x512x256 .bf16) (m : Vec Ideal S4x512x1 .f32) : k0_pay18 (F := Ideal) w q k m = weiA (k0_pay16 (F := Ideal) w q k) (k0_pay17 (F := Ideal) w q k m) := rfl
theorem pay18_at (w : BitVec 32) (q k : Vec Ideal S4x512x256 .bf16) (m : Vec Ideal S4x512x1 .f32) (h : Fin 4) (r : Fin 512) (j : Fin 512) :
    k0_pay18 (F := Ideal) w q k m (ix3 h r j) = wt (k0_pay16 (F := Ideal) w q k (ix3 h r j)) (k0_pay17 (F := Ideal) w q k m (ix3 h r 0)) := by
  rw [pay18_eq, weiA_at]
def weiB (s : FVec Ideal S4x512x1024 .f32) (m : FVec Ideal S4x512x1 .f32) : FVec Ideal S4x512x1024 .bf16 :=
  truncf .bf16 (exp2 (subf s (broadcastTo S4x512x1024 m broadcasts_S4x512x1_S4x512x1024))) bitsLt_bf16_f32
theorem weiB_at (s : FVec Ideal S4x512x1024 .f32) (m : FVec Ideal S4x512x1 .f32) (h : Fin 4) (r : Fin 512) (j : Fin 1024) :
    weiB s m (ix3 h r j) = wt (s (ix3 h r j)) (m (ix3 h r 0)) := by
  pointwise [weiB]
  rfl
theorem pay21_eq (w : BitVec 32) (q : Vec Ideal S4x512x256 .bf16) (k : Vec Ideal S4x1024x256 .bf16) (m : Vec Ideal S4x512x1 .f32) : k0_pay21 (F := Ideal) w q k m = weiB (k0_pay19 (F := Ideal) w q k) (k0_pay20 (F := Ideal) w q k m) := rfl
theorem pay21_at (w : BitVec 32) (q : Vec Ideal S4x512x256 .bf16) (k : Vec Ideal S4x1024x256 .bf16) (m : Vec Ideal S4x512x1 .f32) (h : Fin 4) (r : Fin 512) (j : Fin 1024) :
    k0_pay21 (F := Ideal) w q k m (ix3 h r j) = wt (k0_pay19 (F := Ideal) w q k (ix3 h r j)) (k0_pay20 (F := Ideal) w q k m (ix3 h r 0)) := by
  rw [pay21_eq, weiB_at]

/-! ## The weighted sums -/

/-- The values with lanes of ones beside them. -/
def ones {n : ℕ} (v : (⟨3, ![4, n, 128]⟩ : Shape).Idx → EReal) (h : Fin 4) (j : Fin n) (d : Fin 256) : EReal := if hd : d.val < 128 then v (ix3 h j ⟨d.val, hd⟩) else 1

theorem pay1_at (m m' : FVec Ideal S4x512x1 .f32) (p : FVec Ideal S4x512x512 .bf16) (v : Vec Ideal S4x512x128 .bf16) (acc : Vec Ideal S4x512x256 .f32) (h : Fin 4) (r : Fin 512) (d : Fin 256) :
    k0_pay1 (F := Ideal) m m' p v acc (ix3 h r d) = wt (m (ix3 h r 0)) (m' (ix3 h r 0)) * acc (ix3 h r d) + ∑ j : Fin 512, p (ix3 h r j) * ones v h j d := by
  pointwise [k0_pay1]
  rfl
theorem pay3_at (m m' : FVec Ideal S4x512x1 .f32) (p : FVec Ideal S4x512x1024 .bf16) (v : Vec Ideal S4x1024x128 .bf16) (acc : Vec Ideal S4x512x256 .f32) (h : Fin 4) (r : Fin 512) (d : Fin 256) :
    k0_pay3 (F := Ideal) m m' p v acc (ix3 h r d) = wt (m (ix3 h r 0)) (m' (ix3 h r 0)) * acc (ix3 h r d) + ∑ j : Fin 1024, p (ix3 h r j) * ones v h j d := by
  pointwise [k0_pay3]
  rfl
theorem pay14_at (q : Vec Ideal S4x512x256 .bf16) (k : Vec Ideal S4x1024x256 .bf16) (m : Vec Ideal S4x512x1 .f32) (v : Vec Ideal S4x1024x128 .bf16) (acc : Vec Ideal S4x512x256 .f32) (h : Fin 4) (r : Fin 512) (d : Fin 256) :
    k0_pay14 (F := Ideal) q k m v acc (ix3 h r d) = wt (m (ix3 h r 0)) (k0_pay13 q k m (ix3 h r 0)) * acc (ix3 h r d)
      + ∑ j : Fin 1024, wt (k0_pay12 q k (ix3 h r j)) (k0_pay13 q k m (ix3 h r 0)) * ones v h j d := by
  pointwise [k0_pay14]
  rfl

theorem pay2_at (m : FVec Ideal S4x512x1 .f32) (h : Fin 4) (r : Fin 512) : k0_pay2 (F := Ideal) m (ix3 h r 0) = m (ix3 h r 0) := by
  pointwise [k0_pay2]
theorem pay4_at (m : FVec Ideal S4x512x1 .f32) (h : Fin 4) (r : Fin 512) : k0_pay4 (F := Ideal) m (ix3 h r 0) = m (ix3 h r 0) := by
  pointwise [k0_pay4]
theorem pay15_at (q : Vec Ideal S4x512x256 .bf16) (k : Vec Ideal S4x1024x256 .bf16) (m : Vec Ideal S4x512x1 .f32) (h : Fin 4) (r : Fin 512) :
    k0_pay15 (F := Ideal) q k m (ix3 h r 0) = k0_pay13 q k m (ix3 h r 0) := by
  pointwise [k0_pay15]
theorem pay22_at (h : Fin 4) (r : Fin 512) : k0_pay22 (F := Ideal) (ix3 h r 0) = (⊥ : EReal) := by
  pointwise [k0_pay22]
  exact bits_neg
theorem pay23_at (h : Fin 4) (r : Fin 512) (d : Fin 256) : k0_pay23 (F := Ideal) (ix3 h r d) = (0 : EReal) := by
  pointwise [k0_pay23]

/-! ## What is put out -/

theorem pay5_at (acc : Vec Ideal S4x512x256 .f32) (h : Fin 4) (r : Fin 512) (d : Fin 128) : k0_pay5 (F := Ideal) acc (ix3 h r d) = acc (ix3 h r ⟨128 + d.val, by omega⟩) := by
  pointwise [k0_pay5]
theorem pay6_at (acc : Vec Ideal S4x512x256 .f32) (h : Fin 4) (r : Fin 512) (d : Fin 128) :
    k0_pay6 (F := Ideal) acc (ix3 h r d) = Ideal.div (acc (ix3 h r ⟨d.val, by omega⟩)) (acc (ix3 h r ⟨128 + d.val, by omega⟩)) := by
  pointwise [k0_pay6, k0_pay5]
theorem pay7_at (acc : Vec Ideal S4x512x256 .f32) (r : Fin 512) (d : Fin 128) : k0_pay7 (F := Ideal) acc (ix2 r d) = k0_pay6 (F := Ideal) acc (ix3 0 r d) := by
  pointwise [k0_pay7]
theorem pay8_at (acc : Vec Ideal S4x512x256 .f32) (r : Fin 512) (d : Fin 128) : k0_pay8 (F := Ideal) acc (ix2 r d) = k0_pay6 (F := Ideal) acc (ix3 1 r d) := by
  pointwise [k0_pay8]
theorem pay9_at (acc : Vec Ideal S4x512x256 .f32) (r : Fin 512) (d : Fin 128) : k0_pay9 (F := Ideal) acc (ix2 r d) = k0_pay6 (F := Ideal) acc (ix3 2 r d) := by
  pointwise [k0_pay9]
theorem pay10_at (acc : Vec Ideal S4x512x256 .f32) (r : Fin 512) (d : Fin 128) : k0_pay10 (F := Ideal) acc (ix2 r d) = k0_pay6 (F := Ideal) acc (ix3 3 r d) := by
  pointwise [k0_pay10]
def logs (u m : FVec Ideal S4x512x1 .f32) : FVec Ideal S4x512x1 .f32 :=
  addf m (mulf (log u) (broadcast S4x512x1 (Named.named κ "log2e" 0x3FB8AA3B#32 : Ideal .f32)))
theorem logs_at (u m : FVec Ideal S4x512x1 .f32) (h : Fin 4) (r : Fin 512) :
    logs u m (ix3 h r 0) = m (ix3 h r 0) + Ideal.log (u (ix3 h r 0)) * (((Real.log 2)⁻¹ : ℝ) : EReal) := by
  pointwise [logs]
  rw [named_log2e]
theorem pay11_eq (acc : Vec Ideal S4x512x256 .f32) (m : Vec Ideal S4x512x1 .f32) :
    k0_pay11 (F := Ideal) acc m = logs (shapeCast S4x512x1 (multiReduction .maximumf [2] S4x512 (k0_pay5 (F := Ideal) acc) 0xFF800000#32 reduces_S4x512x128_S4x512 (.inl rfl) rfl) shapeCasts_S4x512_S4x512x1) m := by
  delta k0_pay11 logs
  exact rfl
theorem pay11_at (acc : Vec Ideal S4x512x256 .f32) (m : Vec Ideal S4x512x1 .f32) (h : Fin 4) (r : Fin 512) :
    k0_pay11 (F := Ideal) acc m (ix3 h r 0) = m (ix3 h r 0) + Ideal.log (Finset.univ.sup fun j : Fin 128 => k0_pay5 (F := Ideal) acc (ix3 h r j)) * (((Real.log 2)⁻¹ : ℝ) : EReal) := by
  rw [pay11_eq, logs_at, cast_at, red128_at]

end Cert.Proof.Forward

end
-- ==== Proof.Forward.Tile.lean ====
/-
  What a step of the forward kernel carries on, when its blocks hold the arrays' tiles: the largest score and the
  weighted sums of all the keys up to the step's.
-/
module

public import proofs.«01_k».proof.Proof.Forward.Pays
public import proofs.«01_k».proof.Proof.Forward.Point

@[expose] public section

noncomputable section

namespace Cert.Proof.Forward

open Cert.Kernel2Ideal Cert.Kernel2Ideal.Gen
open Idealize.ShloMosaic Idealize.ShloMosaic.VecWindow
open Cert.Proof.Flash (Args coe_sum offw rw' ky up)

/-- The head that a group's head is. -/
def hd4 (g : Fin 2) (h : Fin 4) : Fin 8 := ⟨4 * g.val + h.val, by omega⟩

/-- The values with lanes of ones beside them, over all keys. -/
def vv (va : Fin 8 → Fin 8192 → Fin 128 → EReal) (h : Fin 8) (j : Fin 8192) (d : Fin 256) : EReal := if hd : d.val < 128 then va h j ⟨d.val, hd⟩ else 1

/-- The blocks of a step hold the tiles at heads `g`, rows `qi` and keys `kj`. -/
structure Loaded (a : Args) (va : Fin 8 → Fin 8192 → Fin 128 → EReal) (g : Fin 2) (qi : Fin 16) (kj : Fin 8) (x : Ins Ideal) : Prop where
  q : ∀ h r d, x.q (ix3 h r d) = ((a.Q (hd4 g h) (rw' qi r) d : ℝ) : EReal)
  k : ∀ h j d, x.k (ix3 h j d) = ((a.K (hd4 g h) (ky kj j) d : ℝ) : EReal)
  v : ∀ h j d, x.v (ix3 h j d) = va (hd4 g h) (ky kj j) d

/-- The state holds the largest scores and the weighted sums over the keys in `S`. -/
structure Has (a : Args) (va : Fin 8 → Fin 8192 → Fin 128 → EReal) (g : Fin 2) (qi : Fin 16) (S : Finset (Fin 8192)) (s : St Ideal) : Prop where
  m : ∀ h r, s.m (ix3 h r 0) = S.sup (xs a (hd4 g h) (rw' qi r))
  acc : ∀ h r d, s.acc (ix3 h r d) = wsum (xs a (hd4 g h) (rw' qi r)) (fun j => vv va (hd4 g h) j d) S (S.sup (xs a (hd4 g h) (rw' qi r)))

variable {a : Args} {va : Fin 8 → Fin 8192 → Fin 128 → EReal} {g : Fin 2} {qi : Fin 16} {kj : Fin 8} {x : Ins Ideal}

theorem has_step {S : Finset (Fin 8192)} {s s' : St Ideal} {n : ℕ} (e : Fin n ↪ Fin 8192) (hd : Disjoint S (Finset.univ.map e)) (H : Has a va g qi S s)
    (hm : ∀ h r, s'.m (ix3 h r 0) = max (s.m (ix3 h r 0)) (Finset.univ.sup fun j => xs a (hd4 g h) (rw' qi r) (e j)))
    (hacc : ∀ h r d, s'.acc (ix3 h r d) = wt (s.m (ix3 h r 0)) (s'.m (ix3 h r 0)) * s.acc (ix3 h r d)
      + ∑ j, wt (xs a (hd4 g h) (rw' qi r) (e j)) (s'.m (ix3 h r 0)) * vv va (hd4 g h) (e j) d) :
    Has a va g qi (S ∪ Finset.univ.map e) s' := by
  have hm' : ∀ h r, s'.m (ix3 h r 0) = (S ∪ Finset.univ.map e).sup (xs a (hd4 g h) (rw' qi r)) := fun h r => by
    rw [hm, H.m, Finset.sup_union, Finset.sup_map]; rfl
  refine ⟨hm', fun h r d => ?_⟩
  rw [hacc, hm', H.m, H.acc, ← grow _ _ _ _ hd]
  refine congrArg _ ?_
  unfold wsum
  rw [Finset.sum_map]

/-! ## Sets of keys -/

def before (n : ℕ) : Finset (Fin 8192) := Finset.univ.filter fun j => j.val < n
theorem mem_before (n : ℕ) (j : Fin 8192) : j ∈ before n ↔ j.val < n := by unfold before; simp

def kyE (kj : Fin 8) : Fin 1024 ↪ Fin 8192 := ⟨ky kj, fun i j h => Fin.ext (by have := congrArg Fin.val h; simp only [ky] at this; omega)⟩
def kyU (kj : Fin 8) : Fin 512 ↪ Fin 8192 := ⟨fun j => ky kj (up j), fun i j h => Fin.ext (by have := congrArg Fin.val h; simp only [ky, up] at this; omega)⟩

theorem before_E (kj : Fin 8) : before (1024 * kj.val) ∪ Finset.univ.map (kyE kj) = before (1024 * kj.val + 1024) := by
  ext j
  simp only [Finset.mem_union, mem_before, Finset.mem_map, Finset.mem_univ, true_and]
  constructor
  · rintro (h | ⟨i, rfl⟩)
    · omega
    · show 1024 * kj.val + i.val < _; omega
  · intro h
    by_cases h' : j.val < 1024 * kj.val
    · exact .inl h'
    · exact .inr ⟨⟨j.val - 1024 * kj.val, by omega⟩, Fin.ext (by show 1024 * kj.val + (j.val - 1024 * kj.val) = _; omega)⟩
theorem before_U (kj : Fin 8) : before (1024 * kj.val) ∪ Finset.univ.map (kyU kj) = before (1024 * kj.val + 512) := by
  ext j
  simp only [Finset.mem_union, mem_before, Finset.mem_map, Finset.mem_univ, true_and]
  constructor
  · rintro (h | ⟨i, rfl⟩)
    · omega
    · show 1024 * kj.val + i.val < _; omega
  · intro h
    by_cases h' : j.val < 1024 * kj.val
    · exact .inl h'
    · exact .inr ⟨⟨j.val - 1024 * kj.val, by omega⟩, Fin.ext (by show 1024 * kj.val + (j.val - 1024 * kj.val) = _; omega)⟩

theorem disj_E (kj : Fin 8) : Disjoint (before (1024 * kj.val)) (Finset.univ.map (kyE kj)) := by
  rw [Finset.disjoint_left]
  intro j hj hm
  obtain ⟨i, _, rfl⟩ := Finset.mem_map.mp hm
  have := (mem_before _ _).mp hj
  change 1024 * kj.val + i.val < _ at this
  omega
theorem disj_U (kj : Fin 8) : Disjoint (before (1024 * kj.val)) (Finset.univ.map (kyU kj)) := by
  rw [Finset.disjoint_left]
  intro j hj hm
  obtain ⟨i, _, rfl⟩ := Finset.mem_map.mp hm
  have := (mem_before _ _).mp hj
  change 1024 * kj.val + i.val < _ at this
  omega

/-! ## The blocks' values -/

theorem upK_at (k : Vec Ideal S4x1024x256 .bf16) (h : Fin 4) (j : Fin 512) (d : Fin 256) : upK k (ix3 h j d) = k (ix3 h (up j) d) := by
  unfold upK VecWindow.window
  refine congrArg k ?_
  funext i
  refine Fin.ext ?_
  fin_cases i
  · show 0 + 1 * h.val = h.val; omega
  · show 0 + 1 * j.val = j.val; omega
  · show 0 + 1 * d.val = d.val; omega
theorem upV_at (k : Vec Ideal S4x1024x128 .bf16) (h : Fin 4) (j : Fin 512) (d : Fin 128) : upV k (ix3 h j d) = k (ix3 h (up j) d) := by
  unfold upV VecWindow.window
  refine congrArg k ?_
  funext i
  refine Fin.ext ?_
  fin_cases i
  · show 0 + 1 * h.val = h.val; omega
  · show 0 + 1 * j.val = j.val; omega
  · show 0 + 1 * d.val = d.val; omega

theorem dotc_real {n : ℕ} (q : (⟨3, ![4, 512, 256]⟩ : Shape).Idx → EReal) (k : (⟨3, ![4, n, 256]⟩ : Shape).Idx → EReal) (h : Fin 4) (r : Fin 512) (j : Fin n)
    (H : Fin 8) (R J : Fin 8192) (hq : ∀ d, q (ix3 h r d) = ((a.Q H R d : ℝ) : EReal)) (hk : ∀ d, k (ix3 h j d) = ((a.K H J d : ℝ) : EReal)) :
    dotc q k h r j = ((sc2 a H R J : ℝ) : EReal) := by
  unfold dotc sc2
  simp only [hq, hk, ← EReal.coe_mul, coe_sum]

theorem ones_v (H : Loaded a va g qi kj x) (h : Fin 4) (j : Fin 1024) (d : Fin 256) : ones x.v h j d = vv va (hd4 g h) (kyE kj j) d := by
  unfold ones vv
  split_ifs
  · exact H.v _ _ _
  · rfl
theorem ones_u (H : Loaded a va g qi kj x) (h : Fin 4) (j : Fin 512) (d : Fin 256) : ones (upV x.v) h j d = vv va (hd4 g h) (kyU kj j) d := by
  unfold ones vv
  split_ifs
  · exact (upV_at _ _ _ _).trans (H.v _ _ _)
  · rfl

theorem xs_le {h : Fin 8} {r j : Fin 8192} (hj : j ≤ r) : xs a h r j = ((sc2 a h r j : ℝ) : EReal) := if_pos hj
theorem xs_gt {h : Fin 8} {r j : Fin 8192} (hj : ¬ j ≤ r) : xs a h r j = ⊥ := if_neg hj

/-! ## The three kinds of step -/

theorem stepC_has (H : Loaded a va g qi kj x) (hC : 2 * kj.val + 1 < qi.val) {s : St Ideal} (Hs : Has a va g qi (before (1024 * kj.val)) s) :
    Has a va g qi (before (1024 * kj.val + 1024)) (stepC x s) := by
  have hX : ∀ h r j, k0_pay12 (F := Ideal) x.q x.k (ix3 h r j) = xs a (hd4 g h) (rw' qi r) (kyE kj j) := fun h r j => by
    rw [pay12_at, dotc_real x.q x.k h r j _ _ _ (H.q h r) (H.k h j)]
    exact (xs_le (by show 1024 * kj.val + j.val ≤ 512 * qi.val + r.val; omega)).symm
  rw [← before_E]
  refine has_step (kyE kj) (disj_E kj) Hs (fun h r => ?_) (fun h r d => ?_)
  · simp only [stepC]
    rw [pay15_at, pay13_at]
    simp only [hX]
  · simp only [stepC]
    rw [pay14_at, pay15_at]
    simp only [hX, ones_v H]

theorem stepB_has (H : Loaded a va g qi kj x) (hB : qi.val = 2 * kj.val + 1) (w : BitVec 32) (hw : offw w = BitVec.ofNat 32 512) {s : St Ideal}
    (Hs : Has a va g qi (before (1024 * kj.val)) s) : Has a va g qi (before (1024 * kj.val + 1024)) (stepB w x s) := by
  have hX : ∀ h r j, k0_pay19 (F := Ideal) w x.q x.k (ix3 h r j) = xs a (hd4 g h) (rw' qi r) (kyE kj j) := fun h r j => by
    rw [pay19_at w 512 hw le_rfl, dotc_real x.q x.k h r j _ _ _ (H.q h r) (H.k h j)]
    split_ifs with hj
    · exact (xs_le (by show 1024 * kj.val + j.val ≤ 512 * qi.val + r.val; omega)).symm
    · exact (xs_gt (by show ¬ 1024 * kj.val + j.val ≤ 512 * qi.val + r.val; omega)).symm
  rw [← before_E]
  refine has_step (kyE kj) (disj_E kj) Hs (fun h r => ?_) (fun h r d => ?_)
  · simp only [stepB]
    rw [pay4_at, pay20_at]
    simp only [hX]
  · simp only [stepB]
    rw [pay3_at, pay4_at]
    simp only [pay21_at, hX, ones_v H]

theorem stepA_has (H : Loaded a va g qi kj x) (hA : qi.val = 2 * kj.val) (w : BitVec 32) (hw : offw w = BitVec.ofNat 32 0) {s : St Ideal}
    (Hs : Has a va g qi (before (1024 * kj.val)) s) : Has a va g qi (before (1024 * kj.val + 512)) (stepA w x s) := by
  have hX : ∀ h r j, k0_pay16 (F := Ideal) w x.q (upK x.k) (ix3 h r j) = xs a (hd4 g h) (rw' qi r) (kyU kj j) := fun h r j => by
    rw [pay16_at w 0 hw (by omega), dotc_real x.q (upK x.k) h r j _ _ (kyU kj j) (H.q h r) (fun d => (upK_at _ _ _ _).trans (H.k h (up j) d))]
    split_ifs with hj
    · exact (xs_le (by show 1024 * kj.val + j.val ≤ 512 * qi.val + r.val; omega)).symm
    · exact (xs_gt (by show ¬ 1024 * kj.val + j.val ≤ 512 * qi.val + r.val; omega)).symm
  rw [← before_U]
  refine has_step (kyU kj) (disj_U kj) Hs (fun h r => ?_) (fun h r d => ?_)
  · simp only [stepA]
    rw [pay2_at, pay17_at]
    simp only [hX]
  · simp only [stepA]
    rw [pay1_at, pay2_at]
    simp only [pay18_at, hX, ones_u H]

theorem start_has : Has a va g qi (before 0) start := by
  have e : before 0 = ∅ := by unfold before; simp
  rw [e]
  refine ⟨fun h r => ?_, fun h r d => ?_⟩
  · exact (pay22_at h r).trans Finset.sup_empty.symm
  · exact (pay23_at h r d).trans (by unfold wsum; rw [Finset.sum_empty])

/-! ## All the steps of a row of blocks -/

theorem offw_A : ∀ s : Fin 72, kindA s → offw (lit0 s) = BitVec.ofNat 32 0 := by decide
theorem offw_B : ∀ s : Fin 72, kindB s → offw (lit0 s) = BitVec.ofNat 32 512 := by decide
theorem prevC : ∀ s : Fin 72, kjAt s ≠ 0 → ∃ s' : Fin 72, s'.val + 1 = s.val ∧ kindC s' ∧ qiAt s' = qiAt s ∧ (kjAt s').val + 1 = (kjAt s).val := by decide

section
variable {S : ℕ → St Ideal} {X : Fin 72 → Ins Ideal}

theorem has_from (hS : ∀ s : Fin 72, S (s.val + 1) = stepK s (X s) (S s.val)) (H : ∀ s, Loaded a va g (qiAt s) (kjAt s) (X s)) (n : ℕ) (s : Fin 72) (hs : s.val = n) :
    Has a va g (qiAt s) (before (1024 * (kjAt s).val)) (from0 s (S s.val)) := by
  induction n generalizing s with
  | zero =>
    have h0 : kjAt s = 0 := by
      have : s = 0 := Fin.ext hs
      subst this; decide
    unfold from0
    rw [if_pos h0, h0]
    exact start_has
  | succ n ih =>
    by_cases h0 : kjAt s = 0
    · unfold from0
      rw [if_pos h0, h0]
      exact start_has
    · obtain ⟨s', e1, hC, e2, e3⟩ := prevC s h0
      have P := stepC_has (H s') hC (ih s' (by omega))
      unfold from0
      rw [if_neg h0, ← e1, hS s', ← e2, ← e3]
      unfold stepK
      rw [if_neg (fun h => kindC_of _ h hC), if_neg (fun h => kindC_of' _ h hC)]
      exact P

theorem has_last (hS : ∀ s : Fin 72, S (s.val + 1) = stepK s (X s) (S s.val)) (H : ∀ s, Loaded a va g (qiAt s) (kjAt s) (X s)) (s : Fin 72) (hC : ¬ kindC s) :
    Has a va g (qiAt s) (before (512 * (qiAt s).val + 512)) (S (s.val + 1)) := by
  have P := has_from hS H s.val s rfl
  rw [hS s]
  unfold stepK
  by_cases hA : kindA s
  · rw [if_pos hA]
    have := stepA_has (H s) hA _ (offw_A s hA) P
    rwa [show 1024 * (kjAt s).val + 512 = 512 * (qiAt s).val + 512 by unfold kindA at hA; omega] at this
  · have hB := ((kinds s).resolve_left hA).resolve_right hC
    rw [if_neg hA, if_pos hB]
    have := stepB_has (H s) hB _ (offw_B s hB) P
    rwa [show 1024 * (kjAt s).val + 1024 = 512 * (qiAt s).val + 512 by unfold kindB at hB; omega] at this
end

/-- All the keys of the rows are among those. -/
theorem has_all {s : St Ideal} (H : Has a va g qi (before (512 * qi.val + 512)) s) :
    (∀ h r, s.m (ix3 h r 0) = ((a.mx (hd4 g h) (rw' qi r) / Real.log 2 : ℝ) : EReal)) ∧
    ∀ h r d, s.acc (ix3 h r d) = wsum (xs a (hd4 g h) (rw' qi r)) (fun j => vv va (hd4 g h) j d) Finset.univ ((a.mx (hd4 g h) (rw' qi r) / Real.log 2 : ℝ) : EReal) := by
  have hout : ∀ h r j, j ∉ before (512 * qi.val + 512) → xs a (hd4 g h) (rw' qi r) j = ⊥ := fun h r j hj =>
    xs_gt (by rw [mem_before] at hj; show ¬ j.val ≤ 512 * qi.val + r.val; omega)
  have hm : ∀ h r, (before (512 * qi.val + 512)).sup (xs a (hd4 g h) (rw' qi r)) = ((a.mx (hd4 g h) (rw' qi r) / Real.log 2 : ℝ) : EReal) := fun h r =>
    (sup_all _ _ (hout h r)).trans (sup_xs a _ _)
  refine ⟨fun h r => (H.m h r).trans (hm h r), fun h r d => ?_⟩
  rw [H.acc, hm, wsum_all _ _ _ (hout h r)]

/-! ## What is put out -/

section
variable {s : St Ideal} (H : Has a va g qi (before (512 * qi.val + 512)) s)
include H

theorem sum_lane (h : Fin 4) (r : Fin 512) (d : Fin 256) (hd : ¬ d.val < 128) : s.acc (ix3 h r d) = ((a.sm (hd4 g h) (rw' qi r) : ℝ) : EReal) := by
  rw [(has_all H).2, ← wsum_one]
  unfold vv
  simp only [dif_neg hd]

theorem out6 (h : Fin 4) (r : Fin 512) (d : Fin 128) : k0_pay6 (F := Ideal) s.acc (ix3 h r d) = ∑ j, va (hd4 g h) j d * ((a.p (hd4 g h) (rw' qi r) j : ℝ) : EReal) := by
  rw [pay6_at, sum_lane H h r ⟨128 + d.val, by omega⟩ (by show ¬ 128 + d.val < 128; omega), (has_all H).2, quotient]
  refine Finset.sum_congr rfl fun j _ => ?_
  unfold vv
  rw [dif_pos d.isLt]

theorem outL_at (h : Fin 4) (r : Fin 512) : outL s (ix3 h r 0) = ((a.lse (hd4 g h) (rw' qi r) : ℝ) : EReal) := by
  unfold outL
  rw [pay11_at, (has_all H).1, ← logsum]
  refine congrArg (fun t => _ + Ideal.log t * _) ?_
  have e : ∀ j : Fin 128, k0_pay5 (F := Ideal) s.acc (ix3 h r j) = ((a.sm (hd4 g h) (rw' qi r) : ℝ) : EReal) := fun j => by
    rw [pay5_at, sum_lane H h r _ (by show ¬ 128 + j.val < 128; omega)]
  simp only [e]
  exact Finset.sup_const Finset.univ_nonempty _

/-- The column of a head's lane in a block of four heads. -/
def lane (h : Fin 4) (d : Fin 128) : Fin 512 := ⟨128 * h.val + d.val, by omega⟩

omit H in
theorem put_in (X : Vec Ideal S512x512 .f32) (o : ℕ) (w : Vec Ideal S512x128 .f32) (r : Fin 512) (c : Fin 512) (d : Fin 128) (hc : c.val = o + d.val) :
    put X ![0, o] S512x128.size w (ix2 r c) = w (ix2 r d) := by
  unfold VecWindow.put
  rw [dif_pos]
  · refine congrArg w ?_
    funext i
    refine Fin.ext ?_
    fin_cases i
    · show r.val - 0 = r.val; omega
    · show c.val - o = d.val; omega
  · intro i
    fin_cases i
    · show 0 ≤ r.val ∧ r.val < 0 + 512; omega
    · show o ≤ c.val ∧ c.val < o + 128; omega

omit H in
theorem put_out (X : Vec Ideal S512x512 .f32) (o : ℕ) (w : Vec Ideal S512x128 .f32) (r : Fin 512) (c : Fin 512) (hc : c.val < o) :
    put X ![0, o] S512x128.size w (ix2 r c) = X (ix2 r c) := by
  unfold VecWindow.put
  rw [dif_neg]
  intro hall
  have h1 : o ≤ c.val ∧ c.val < o + 128 := hall 1
  omega

theorem outO_at (h : Fin 4) (r : Fin 512) (d : Fin 128) : outO s (ix2 r (lane h d)) = ∑ j, va (hd4 g h) j d * ((a.p (hd4 g h) (rw' qi r) j : ℝ) : EReal) := by
  rw [← out6 H]
  unfold outO put4
  fin_cases h
  · rw [put_out _ _ _ _ _ (by show 128 * 0 + d.val < 384; omega), put_out _ _ _ _ _ (by show 128 * 0 + d.val < 256; omega), put_out _ _ _ _ _ (by show 128 * 0 + d.val < 128; omega)]
    exact (put_in _ _ _ _ _ d (by show 128 * 0 + d.val = 0 + d.val; omega)).trans (pay7_at _ _ _)
  · rw [put_out _ _ _ _ _ (by show 128 * 1 + d.val < 384; omega), put_out _ _ _ _ _ (by show 128 * 1 + d.val < 256; omega)]
    exact (put_in _ _ _ _ _ d (by show 128 * 1 + d.val = 128 + d.val; omega)).trans (pay8_at _ _ _)
  · rw [put_out _ _ _ _ _ (by show 128 * 2 + d.val < 384; omega)]
    exact (put_in _ _ _ _ _ d (by show 128 * 2 + d.val = 256 + d.val; omega)).trans (pay9_at _ _ _)
  · exact (put_in _ _ _ _ _ d (by show 128 * 3 + d.val = 384 + d.val; omega)).trans (pay10_at _ _ _)
end

end Cert.Proof.Forward

end
-- ==== Proof.Forward.Arrays.lean ====
/-
  The two arrays after the forward kernel's run, over the extended reals, when the queries and keys hold real arrays.
-/
module

public import proofs.«01_k».proof.Proof.Forward.Tile
public import proofs.«01_k».proof.Proof.Forward.Run
public import proofs.«01_k».proof.Proof.Arrays
public import Idealize.ShloMosaic.Lib.StableHlo.Run
public import Idealize.ShloMosaic.Lib.Pipeline.ValueKit.Geometry

@[expose] public section

noncomputable section

namespace Cert.Proof.Forward

open Cert.Kernel2Ideal Cert.Kernel2Ideal.Gen
open Idealize.ShloMosaic Idealize.ShloMosaic.VecWindow Idealize.ShloMosaic.TcCoe Idealize.ShloMosaic.StableHlo
open Idealize.ShloMosaic.Pipeline (Dat Cfg Window)
open Cert.Proof.Flash (Args rw' ky row_eta hPad hPad_at)

variable (m : (ℓ : Loc nD τ sig) → Buf (Elt Ideal) ℓ) (ρ : Dev nD → PrngReg) (c : Dev nD)

/-! ## What the host's arrays hold -/

abbrev aq : FVec Ideal S8x8192x192 .f32 := m ((c : Thread nD τ).loc main_arg0)
abbrev ak : FVec Ideal S8x8192x192 .f32 := m ((c : Thread nD τ).loc main_arg1)
abbrev av : FVec Ideal S8x8192x128 .f32 := m ((c : Thread nD τ).loc main_arg2)

set_option maxRecDepth 8192 in
set_option maxHeartbeats 4000000 in
theorem V_v1 : V m ρ c main_v1 = truncf .bf16 (hPad (aq m c)) bitsLt_bf16_f32 := by
  change W5 m ρ c (Proc.devRef .tc main_v1) = _
  unfold W5 W4 W3 W2 W1
  simp only [hostOps0, hostOps0_1, hostOps0_2, hostOps0_3, hostOps0_4, TRef.binary, TRef.nullary, TRef.ternary, TRef.unary, TRef.toBuf, TRef.ofBuf, cast_eq]
  after_results_simp <;> rfl
set_option maxRecDepth 8192 in
set_option maxHeartbeats 4000000 in
theorem V_v3 : V m ρ c main_v3 = truncf .bf16 (hPad (ak m c)) bitsLt_bf16_f32 := by
  change W5 m ρ c (Proc.devRef .tc main_v3) = _
  unfold W5 W4 W3 W2 W1
  simp only [hostOps0, hostOps0_1, hostOps0_2, hostOps0_3, hostOps0_4, TRef.binary, TRef.nullary, TRef.ternary, TRef.unary, TRef.toBuf, TRef.ofBuf, cast_eq]
  after_results_simp <;> rfl
set_option maxRecDepth 8192 in
set_option maxHeartbeats 4000000 in
theorem V_v4 : V m ρ c main_v4 = truncf .bf16 (av m c) bitsLt_bf16_f32 := by
  change W5 m ρ c (Proc.devRef .tc main_v4) = _
  unfold W5
  simp only [hostOps0_4]
  after_results_simp <;> rfl

/-! ## The grid's points -/

/-- The group of heads of a point, and the point of a group and a step. -/
def grp (t : Fin (cfgA (F := Ideal)).N) : Fin 2 := ⟨t.val / 72, by have : t.val < 144 := N_0 ▸ t.isLt; omega⟩
def pt (g : Fin 2) (s : Fin 72) : Fin (cfgA (F := Ideal)).N := ⟨72 * g.val + s.val, lt_of_lt_of_eq (by omega : _ < 144) N_0.symm⟩

theorem step_pt (g : Fin 2) (s : Fin 72) : stepN (F := Ideal) (pt g s) = s := Fin.ext (by rw [coord1]; show (72 * g.val + s.val) % 72 = _; omega)
theorem grp_pt (g : Fin 2) (s : Fin 72) : grp (pt g s) = g := Fin.ext (by show (72 * g.val + s.val) / 72 = _; omega)
theorem pt_eta (t : Fin (cfgA (F := Ideal)).N) : pt (grp t) (stepN (F := Ideal) t) = t := Fin.ext (by
  have := coord1 t
  show 72 * (t.val / 72) + (stepOf (grid0.coords t)).val = t.val
  omega)

theorem emb0 (t : Fin (cfgA (F := Ideal)).N) (y : S4x512x256.Idx) :
    (((cfgA (F := Ideal)).win 0).blk t).view.emb y = ix3 (hd4 (grp t) (y 0)) (rw' (qiAt (stepN (F := Ideal) t)) (y 1)) (y 2) := by
  have e := tf0 (F := Ideal) (grid0.coords t)
  have c0 := coord0 t
  funext x
  refine Fin.ext ?_
  have : ((((cfgA (F := Ideal)).win 0).blk t).view.emb y x).val
      = cc0_transform_0 k0_off1_inb numel1_S1 (tabs (F := Ideal)) (grid0.coords t) x * S4x512x256.size x + 1 * (y x).val := rfl
  refine this.trans ?_
  rw [e, c0]
  fin_cases x
  · show t.val / 72 * 4 + 1 * (y 0).val = 4 * (t.val / 72) + (y 0).val; omega
  · show (qiAt (stepOf (grid0.coords t))).val * 512 + 1 * (y 1).val = 512 * (qiAt (stepOf (grid0.coords t))).val + (y 1).val; omega
  · show 0 * 256 + 1 * (y 2).val = (y 2).val; omega

theorem emb1 (t : Fin (cfgA (F := Ideal)).N) (y : S4x1024x256.Idx) :
    (((cfgA (F := Ideal)).win 1).blk t).view.emb y = ix3 (hd4 (grp t) (y 0)) (ky (kjAt (stepN (F := Ideal) t)) (y 1)) (y 2) := by
  have e := tf1 (F := Ideal) (grid0.coords t)
  have c0 := coord0 t
  funext x
  refine Fin.ext ?_
  have : ((((cfgA (F := Ideal)).win 1).blk t).view.emb y x).val
      = cc0_transform_1 k0_off1_inb numel1_S1 (tabs (F := Ideal)) (grid0.coords t) x * S4x1024x256.size x + 1 * (y x).val := rfl
  refine this.trans ?_
  rw [e, c0]
  fin_cases x
  · show t.val / 72 * 4 + 1 * (y 0).val = 4 * (t.val / 72) + (y 0).val; omega
  · show (kjAt (stepOf (grid0.coords t))).val * 1024 + 1 * (y 1).val = 1024 * (kjAt (stepOf (grid0.coords t))).val + (y 1).val; omega
  · show 0 * 256 + 1 * (y 2).val = (y 2).val; omega

theorem emb2 (t : Fin (cfgA (F := Ideal)).N) (y : S4x1024x128.Idx) :
    (((cfgA (F := Ideal)).win 2).blk t).view.emb y = ix3 (hd4 (grp t) (y 0)) (ky (kjAt (stepN (F := Ideal) t)) (y 1)) (y 2) := by
  have e := tf2 (F := Ideal) (grid0.coords t)
  have c0 := coord0 t
  funext x
  refine Fin.ext ?_
  have : ((((cfgA (F := Ideal)).win 2).blk t).view.emb y x).val
      = cc0_transform_2 k0_off1_inb numel1_S1 (tabs (F := Ideal)) (grid0.coords t) x * S4x1024x128.size x + 1 * (y x).val := rfl
  refine this.trans ?_
  rw [e, c0]
  fin_cases x
  · show t.val / 72 * 4 + 1 * (y 0).val = 4 * (t.val / 72) + (y 0).val; omega
  · show (kjAt (stepOf (grid0.coords t))).val * 1024 + 1 * (y 1).val = 1024 * (kjAt (stepOf (grid0.coords t))).val + (y 1).val; omega
  · show 0 * 128 + 1 * (y 2).val = (y 2).val; omega

/-- The column of the output that a group's column is. -/
def cols (g : Fin 2) (d : Fin 512) : Fin 1024 := ⟨512 * g.val + d.val, by omega⟩

theorem emb3 (t : Fin (cfgA (F := Ideal)).N) (y : S512x512.Idx) :
    (((cfgA (F := Ideal)).win 3).blk t).view.emb y = ix2 (rw' (qiAt (stepN (F := Ideal) t)) (y 0)) (cols (grp t) (y 1)) := by
  have e := tf3 (F := Ideal) (grid0.coords t)
  have c0 := coord0 t
  funext x
  refine Fin.ext ?_
  have : ((((cfgA (F := Ideal)).win 3).blk t).view.emb y x).val
      = cc0_transform_3 k0_off1_inb numel1_S1 (tabs (F := Ideal)) (grid0.coords t) x * S512x512.size x + 1 * (y x).val := rfl
  refine this.trans ?_
  rw [e, c0]
  fin_cases x
  · show (qiAt (stepOf (grid0.coords t))).val * 512 + 1 * (y 0).val = 512 * (qiAt (stepOf (grid0.coords t))).val + (y 0).val; omega
  · show t.val / 72 * 512 + 1 * (y 1).val = 512 * (t.val / 72) + (y 1).val; omega

theorem emb4 (t : Fin (cfgA (F := Ideal)).N) (y : S4x512x1.Idx) :
    (((cfgA (F := Ideal)).win 4).blk t).view.emb y = ix3 (hd4 (grp t) (y 0)) (rw' (qiAt (stepN (F := Ideal) t)) (y 1)) (y 2) := by
  have e := tf4 (F := Ideal) (grid0.coords t)
  have c0 := coord0 t
  funext x
  refine Fin.ext ?_
  have : ((((cfgA (F := Ideal)).win 4).blk t).view.emb y x).val
      = cc0_transform_4 k0_off1_inb numel1_S1 (tabs (F := Ideal)) (grid0.coords t) x * S4x512x1.size x + 1 * (y x).val := rfl
  refine this.trans ?_
  rw [e, c0]
  fin_cases x
  · show t.val / 72 * 4 + 1 * (y 0).val = 4 * (t.val / 72) + (y 0).val; omega
  · show (qiAt (stepOf (grid0.coords t))).val * 512 + 1 * (y 1).val = 512 * (qiAt (stepOf (grid0.coords t))).val + (y 1).val; omega
  · show 0 * 1 + 1 * (y 2).val = (y 2).val; omega

/-! ## The blocks hold the tiles -/

/-- The queries and the keys hold the real arrays. -/
structure HoldsQK (a : Args) (q k : FVec Ideal S8x8192x192 .f32) : Prop where
  q : ∀ h r d, q (ix3 h r d) = ((a.q h r d : ℝ) : EReal)
  k : ∀ h r d, k (ix3 h r d) = ((a.k h r d : ℝ) : EReal)

/-- The values, head by head. -/
def vals (v : FVec Ideal S8x8192x128 .f32) (h : Fin 8) (j : Fin 8192) (d : Fin 128) : EReal := v (ix3 h j d)

variable {m ρ c} {a : Args}

theorem v1_at (H : HoldsQK a (aq m c) (ak m c)) (h : Fin 8) (r : Fin 8192) (d : Fin 256) : (V m ρ c main_v1 : FVec Ideal S8x8192x256 .bf16) (ix3 h r d) = ((a.Q h r d : ℝ) : EReal) := by
  rw [V_v1]
  exact hPad_at _ a.q H.q h r d
theorem v3_at (H : HoldsQK a (aq m c) (ak m c)) (h : Fin 8) (r : Fin 8192) (d : Fin 256) : (V m ρ c main_v3 : FVec Ideal S8x8192x256 .bf16) (ix3 h r d) = ((a.K h r d : ℝ) : EReal) := by
  rw [V_v3]
  exact hPad_at _ a.k H.k h r d
theorem v4_at (h : Fin 8) (r : Fin 8192) (d : Fin 128) : (V m ρ c main_v4 : FVec Ideal S8x8192x128 .bf16) (ix3 h r d) = vals (av m c) h r d := by
  rw [V_v4]
  rfl

theorem loaded (H : HoldsQK a (aq m c) (ak m c)) (g : Fin 2) (s : Fin 72) : Loaded a (vals (av m c)) g (qiAt s) (kjAt s) (insAt m ρ c (pt g s)) := by
  have hs : stepN (F := Ideal) (pt g s) = s := step_pt g s
  have hg := grp_pt g s
  constructor
  · intro h r d
    refine (congrArg (V m ρ c main_v1) (emb0 (pt g s) (ix3 h r d))).trans ?_
    rw [hs, hg]; exact v1_at H _ _ _
  · intro h r d
    refine (congrArg (V m ρ c main_v3) (emb1 (pt g s) (ix3 h r d))).trans ?_
    rw [hs, hg]; exact v3_at H _ _ _
  · intro h r d
    refine (congrArg (V m ρ c main_v4) (emb2 (pt g s) (ix3 h r d))).trans ?_
    rw [hs, hg]; exact v4_at _ _ _

theorem stepsOf (g : Fin 2) (s : Fin 72) : stAt m ρ c (72 * g.val + (s.val + 1)) = stepK s (insAt m ρ c (pt g s)) (stAt m ρ c (72 * g.val + s.val)) := by
  have := stAt_succ m ρ c (pt g s)
  rw [step_pt] at this
  exact this

theorem has_at (H : HoldsQK a (aq m c) (ak m c)) (t : Fin (cfgA (F := Ideal)).N) (hC : ¬ kindC (stepN (F := Ideal) t)) :
    Has a (vals (av m c)) (grp t) (qiAt (stepN (F := Ideal) t)) (before (512 * (qiAt (stepN (F := Ideal) t)).val + 512)) (stAt m ρ c (t.val + 1)) := by
  have A := has_last (S := fun n => stAt m ρ c (72 * (grp t).val + n)) (X := fun s => insAt m ρ c (pt (grp t) s)) (stepsOf _) (loaded H _) (stepN (F := Ideal) t) hC
  have e : 72 * (grp t).val + ((stepN (F := Ideal) t).val + 1) = t.val + 1 := congrArg (fun t : Fin (cfgA (F := Ideal)).N => t.val + 1) (pt_eta t)
  beta_reduce at A
  rwa [e] at A

/-! ## The two arrays -/

/-- The output and the rows' logarithms of sums. -/
def resO (a : Args) (va : Fin 8 → Fin 8192 → Fin 128 → EReal) : Vec Ideal S8192x1024 .f32 := fun i =>
  ∑ j, va ⟨(i 1).val / 128, by have : (i 1).val < 1024 := (i 1).isLt; omega⟩ j ⟨(i 1).val % 128, by omega⟩ * ((a.p ⟨(i 1).val / 128, by have : (i 1).val < 1024 := (i 1).isLt; omega⟩ (i 0) j : ℝ) : EReal)
def resL (a : Args) : Vec Ideal S8x8192x1 .f32 := fun i => ((a.lse (i 0) (i 1) : ℝ) : EReal)

theorem last_of_flush (c : Dev nD) (w : Fin 5) (hw : w = 3 ∨ w = 4) (t : Fin (cfgA (F := Ideal)).N) (hf : ((cfgA (F := Ideal)).win w).flush t = true) :
    ¬ kindC (stepN (F := Ideal) t) := fun hC =>
  Bool.false_ne_true ((noflush (F := Ideal) c t hC w hw).symm.trans hf)

/-- Each block of queries has a last step, and the next step is of another block. -/
theorem qiHit : ∀ q : Fin 16, ∃ s : Fin 72, qiAt s = q ∧ ∀ h : s.val + 1 < 72, qiAt ⟨s.val + 1, h⟩ ≠ qiAt s := by decide

theorem flush_of_last (w : Fin 5) (hw : w = 3 ∨ w = 4) (g : Fin 2) (s : Fin 72) (hl : ∀ h : s.val + 1 < 72, qiAt ⟨s.val + 1, h⟩ ≠ qiAt s) :
    ((cfgA (F := Ideal)).win w).flush (pt g s) = true := by
  have fin : ∀ {r : ℕ} (ix : grid0.Coords → Fin r → ℕ), (∀ i i', ix i = ix i' → (i 0).val = (i' 0).val ∧ (qiAt (stepOf i)).val = (qiAt (stepOf i')).val) → Window.flushOf grid0 true ix (pt g s) = true := by
    intro r ix hix
    unfold Window.flushOf
    rw [Bool.true_and, Bool.or_eq_true]
    by_cases hN : (pt g s).val + 1 = 144
    · exact .inl (decide_eq_true (hN.trans N_0.symm))
    refine .inr (decide_eq_true ?_)
    have hv : (pt g s).val = 72 * g.val + s.val := rfl
    have hlt : (pt g s).val + 1 < grid0.N := lt_of_lt_of_eq (by omega : (pt g s).val + 1 < 144) N_0.symm
    refine ⟨hlt, fun heq => ?_⟩
    have hh : (grid0.coords (⟨(pt g s).val + 1, hlt⟩ : Fin grid0.N) 0).val = (grid0.coords (pt g s) 0).val
        ∧ (qiAt (stepOf (grid0.coords (⟨(pt g s).val + 1, hlt⟩ : Fin grid0.N)))).val = (qiAt (stepOf (grid0.coords (pt g s)))).val := by
      first | exact hix _ _ heq | exact hix _ _ heq.symm
    obtain ⟨e0, e1⟩ := hh
    rw [coord0, coord0] at e0
    have e0' : ((pt g s).val + 1) / 72 = (pt g s).val / 72 := e0
    have hs : s.val + 1 < 72 := by omega
    have hst : stepOf (grid0.coords (⟨(pt g s).val + 1, hlt⟩ : Fin grid0.N)) = ⟨s.val + 1, hs⟩ := Fin.ext (by
      rw [coord1]; show ((pt g s).val + 1) % 72 = s.val + 1; omega)
    rw [hst, show stepOf (grid0.coords (pt g s)) = s from step_pt g s] at e1
    exact hl hs (Fin.ext e1)
  rcases hw with rfl | rfl
  · exact fin _ fun i i' h => by
      have h' := (tf3 i).symm.trans (h.trans (tf3 i'))
      exact ⟨congrFun h' 1, congrFun h' 0⟩
  · exact fin _ fun i i' h => by
      have h' := (tf4 i).symm.trans (h.trans (tf4 i'))
      exact ⟨congrFun h' 0, congrFun h' 1⟩

theorem head_eta (h : Fin 8) : hd4 ⟨h.val / 4, by omega⟩ ⟨h.val % 4, by omega⟩ = h := Fin.ext (by show 4 * (h.val / 4) + h.val % 4 = _; omega)
theorem cols_eta (d : Fin 1024) : cols ⟨d.val / 512, by omega⟩ ⟨d.val % 512, by omega⟩ = d := Fin.ext (by show 512 * (d.val / 512) + d.val % 512 = _; omega)
theorem lane_eta (d : Fin 512) : lane ⟨d.val / 128, by omega⟩ ⟨d.val % 128, by omega⟩ = d := Fin.ext (by show 128 * (d.val / 128) + d.val % 128 = _; omega)

theorem resO_at (a : Args) (va : Fin 8 → Fin 8192 → Fin 128 → EReal) (R : Fin 8192) (g : Fin 2) (h : Fin 4) (d : Fin 128) :
    resO a va (ix2 R (cols g (lane h d))) = ∑ j, va (hd4 g h) j d * ((a.p (hd4 g h) R j : ℝ) : EReal) := by
  have e1 : ∀ p, (⟨(cols g (lane h d)).val / 128, p⟩ : Fin 8) = hd4 g h := fun _ => Fin.ext (by show (512 * g.val + (128 * h.val + d.val)) / 128 = 4 * g.val + h.val; omega)
  have e2 : ∀ p, (⟨(cols g (lane h d)).val % 128, p⟩ : Fin 128) = d := fun _ => Fin.ext (by show (512 * g.val + (128 * h.val + d.val)) % 128 = d.val; omega)
  refine Finset.sum_congr rfl fun j _ => ?_
  exact congrArg₂ (· * ·) (congrArg₂ (fun x y => va x j y) (e1 _) (e2 _)) (congrArg (fun x => ((a.p x R j : ℝ) : EReal)) (e1 _))

theorem final3 (H : HoldsQK a (aq m c) (ak m c)) : finalA m ρ c 3 = resO a (vals (av m c)) := by
  refine (dats m ρ 0 c).arrAt_eq_of_emb (3 : Fin 5) (resO a (vals (av m c))) (fun t hf y => ?_) fun i => ?_
  · refine Eq.trans ?_ (congrArg (resO a (vals (av m c))) (emb3 t y)).symm
    have A := has_at (ρ := ρ) H t (last_of_flush c 3 (.inl rfl) t hf)
    have h1 : (y 1).val < 512 := (y 1).isLt
    have B := outO_at A ⟨(y 1).val / 128, by omega⟩ (y 0) ⟨(y 1).val % 128, by omega⟩
    have C := resO_at a (vals (av m c)) (rw' (qiAt (stepN (F := Ideal) t)) (y 0)) (grp t) ⟨(y 1).val / 128, by omega⟩ ⟨(y 1).val % 128, by omega⟩
    rw [lane_eta (y 1)] at B C
    refine Eq.trans ?_ (B.trans C.symm)
    exact congrArg (outO (stAt m ρ c (t.val + 1))) (eq_ix2 (n0 := 512) (n1 := 512) y)
  · have h0 : (i 0).val < 8192 := (i 0).isLt
    have h1 : (i 1).val < 1024 := (i 1).isLt
    obtain ⟨s, hk, hl⟩ := qiHit ⟨(i 0).val / 512, by omega⟩
    refine ⟨pt ⟨(i 1).val / 512, by omega⟩ s, flush_of_last 3 (.inl rfl) _ s hl, ?_⟩
    refine Finset.mem_map.mpr ⟨ix2 (⟨(i 0).val % 512, by omega⟩ : Fin 512) (⟨(i 1).val % 512, by omega⟩ : Fin 512), Finset.mem_univ _, ?_⟩
    refine (emb3 _ _).trans ?_
    rw [grp_pt, step_pt, hk]
    refine Eq.trans ?_ (eq_ix2 (n0 := 8192) (n1 := 1024) i).symm
    exact congrArg₂ (fun a b => ix2 a b) (row_eta (i 0)) (cols_eta (i 1))

theorem final4 (H : HoldsQK a (aq m c) (ak m c)) : finalA m ρ c 4 = resL a := by
  refine (dats m ρ 0 c).arrAt_eq_of_emb (4 : Fin 5) (resL a) (fun t hf y => ?_) fun i => ?_
  · refine Eq.trans ?_ (congrArg (resL a) (emb4 t y)).symm
    have A := has_at (ρ := ρ) H t (last_of_flush c 4 (.inr rfl) t hf)
    refine Eq.trans ?_ (outL_at A (y 0) (y 1))
    have h2 : y 2 = (0 : Fin 1) := Fin.ext (by have : (y 2).val < 1 := (y 2).isLt; show (y 2).val = 0; omega)
    refine congrArg (outL (stAt m ρ c (t.val + 1))) ((eq_ix3 (n0 := 4) (n1 := 512) (n2 := 1) y).trans ?_)
    exact congrArg (fun z => ix3 (y 0) (y 1) z) h2
  · have h0 : (i 0).val < 8 := (i 0).isLt
    have h1 : (i 1).val < 8192 := (i 1).isLt
    obtain ⟨s, hk, hl⟩ := qiHit ⟨(i 1).val / 512, by omega⟩
    refine ⟨pt ⟨(i 0).val / 4, by omega⟩ s, flush_of_last 4 (.inr rfl) _ s hl, ?_⟩
    refine Finset.mem_map.mpr ⟨ix3 (⟨(i 0).val % 4, by omega⟩ : Fin 4) (⟨(i 1).val % 512, by omega⟩ : Fin 512) (i 2), Finset.mem_univ _, ?_⟩
    refine (emb4 _ _).trans ?_
    rw [grp_pt, step_pt, hk]
    refine Eq.trans ?_ (eq_ix3 (n0 := 8) (n1 := 8192) (n2 := 1) i).symm
    exact congrArg₂ (fun a b => ix3 a b (i 2)) (head_eta (i 0)) (row_eta (i 1))

end Cert.Proof.Forward

end
-- ==== Proof.Forward.RefOut.lean ====
/-
  The attention's reference, and what the precondition on queries and keys says.
-/
module

public import proofs.«01_k».proof.Proof.Forward.Arrays
public import proofs.«01_k».proof.Proof.RefOut
public import proofs.«01_k».proof.Proof.Finite
public import proofs.«01_k».proof.Pre_finite_qk
public import proofs.«01_k».proof.Proof.Gen.Reference2Ideal.Run

@[expose] public section

noncomputable section

namespace Cert.Proof.Forward

open Idealize.ShloMosaic Idealize.ShloMosaic.TcCoe
open Cert.Proof.Flash (Args and_one all_real argsOf Holds hSc hMx hEx hSm hP hLse hSc_at hMx_at hEx_at hSm_at hP_at hLse_at)
open Cert.Proof.Flash.Refd (rTop rTop_at)

/-! ## The precondition -/

section
open Cert.Pre_finite_qk

theorem finite_qk_facts : Cert.Pre_finite_qk.Facts where
  bcast_S_S8x8192x192 := by decide
  reducesTo_S8x8192x192_S_d0_1_2 := by decide
  h_S_ := by decide

/-- The real arrays that the queries and keys hold, beside zeros. -/
def argsQK (q k : FVec Ideal S8x8192x192 .f32) : Args where
  q h r d := (q (ix3 h r d) : EReal).toReal
  k h r d := (k (ix3 h r d) : EReal).toReal
  v _ _ _ := 0
  g _ _ := 0

theorem holds_of_finite (hF : Cert.Pre_finite_qk.Facts) (q k : FVec Ideal S8x8192x192 .f32) (v : FVec Ideal S8x8192x128 .f32)
    (e : Cert.Pre_finite_qk.fn (F := Ideal) q k v = fun _ => 1#1) : HoldsQK (argsQK q k) q k := by
  have e0 := congrFun e ix0
  unfold Cert.Pre_finite_qk.fn at e0
  obtain ⟨eq, ek⟩ := and_one e0
  exact ⟨fun h r d => all_real q _ _ _ _ eq _, fun h r d => all_real k _ _ _ _ ek _⟩
end

/-! ## The reference's two results -/

open Cert.Reference2Ideal Cert.Reference2Ideal.Gen

def rO (v : FVec Ideal S8x8192x128 .f32) (p : FVec Ideal S8x8192x8192 .f32) : FVec Ideal S8192x1024 .f32 :=
  shapeCast S8192x1024 (transpose S8192x8x128 [2, 0, 1] (Host.dotGeneral dot_S8x8192x128_S8x8192x8192_S8x128x8192_1_2_2_1_0_0 none v p) transposes_S8x128x8192_S8192x8x128_2_0_1) shapeCasts_S8192x8x128_S8192x1024
/-- The rows' greatest scores, with a last dimension of one. -/
def rUp (x : FVec Ideal S8x8192 .f32) : FVec Ideal S8x8192x1 .f32 := broadcastInDim S8x8192x1 ![0, 1] bcast_S8x8192_S8x8192x1_0_1 x

variable (m : (ℓ : Loc nD τ sig) → Buf (Elt Ideal) ℓ) (c : Dev nD)

abbrev bq : FVec Ideal S8x8192x192 .f32 := m ((c : Thread nD τ).loc main_arg0)
abbrev bk : FVec Ideal S8x8192x192 .f32 := m ((c : Thread nD τ).loc main_arg1)
abbrev bv : FVec Ideal S8x8192x128 .f32 := m ((c : Thread nD τ).loc main_arg2)

def uSc : FVec Ideal S8x8192x8192 .f32 := hSc (bq m c) (bk m c)
def uEx : FVec Ideal S8x8192x8192 .f32 := hEx (uSc m c) (rTop (hMx (uSc m c)))
def uP : FVec Ideal S8x8192x8192 .f32 := hP (uEx m c) (hSm (uEx m c))
def uL : FVec Ideal S8x8192x1 .f32 := hLse (rUp (hMx (uSc m c))) (hSm (hEx (uSc m c) (rUp (hMx (uSc m c)))))

set_option maxRecDepth 8192 in
set_option maxHeartbeats 4000000 in
theorem res44 : Cert.Reference2Ideal.Value.res_main_v44 m c = rO (bv m c) (uP m c) := by
  unfold Cert.Reference2Ideal.Value.res_main_v44; rfl

theorem rO_at (v : FVec Ideal S8x8192x128 .f32) (p : FVec Ideal S8x8192x8192 .f32) (R : Fin 8192) (C : Fin 1024) :
    rO v p (ix2 R C) = ∑ j, v (ix3 ⟨C.val / 128, by omega⟩ j ⟨C.val % 128, by omega⟩) * p (ix3 ⟨C.val / 128, by omega⟩ R j) := by
  pointwise [rO]
theorem rUp_at (x : FVec Ideal S8x8192 .f32) (h : Fin 8) (r : Fin 8192) : rUp x (ix3 h r 0) = x (ix2 h r) := by
  pointwise [rUp]

variable {m c} {a : Args}

/-- With zeros for what the reference does not read. -/
def zv : FVec Ideal S8x8192x128 .f32 := fun _ => ((0 : ℝ) : EReal)
def zg : FVec Ideal S8192x1024 .f32 := fun _ => ((0 : ℝ) : EReal)

section
variable (q k : FVec Ideal S8x8192x192 .f32) (H : HoldsQK (argsQK q k) q k)
include H
theorem holds : Holds (argsQK q k) q k zv zg := ⟨H.q, H.k, fun _ _ _ => rfl, fun _ _ => rfl⟩
end

variable (H : Holds a (bq m c) (bk m c) zv zg)
include H

theorem uSc_at (h : Fin 8) (r j : Fin 8192) : uSc m c (ix3 h r j) = if j ≤ r then ((a.sc h r j : ℝ) : EReal) else ⊥ := hSc_at H h r j
theorem uEx_at (h : Fin 8) (r j : Fin 8192) : uEx m c (ix3 h r j) = ((a.ex h r j : ℝ) : EReal) :=
  hEx_at (uSc_at H) (fun h r => (rTop_at _ h r).trans (hMx_at (uSc_at H) h r)) h r j
theorem uP_at (h : Fin 8) (r j : Fin 8192) : uP m c (ix3 h r j) = ((a.p h r j : ℝ) : EReal) := hP_at (uEx_at H) (hSm_at (uEx_at H)) h r j
theorem uMx_at (h : Fin 8) (r : Fin 8192) : rUp (hMx (uSc m c)) (ix3 h r 0) = ((a.mx h r : ℝ) : EReal) :=
  (rUp_at _ h r).trans (hMx_at (uSc_at H) h r)
theorem uL_at (h : Fin 8) (r : Fin 8192) : uL m c (ix3 h r 0) = ((a.lse h r : ℝ) : EReal) :=
  hLse_at (uMx_at H) (hSm_at (hEx_at (uSc_at H) (uMx_at H))) h r

theorem out44 : Cert.Reference2Ideal.Value.res_main_v44 m c = resO a (vals (bv m c)) := by
  rw [res44]
  funext i
  rw [eq_ix2 (n0 := 8192) (n1 := 1024) i]
  refine (rO_at _ _ _ _).trans (Finset.sum_congr rfl fun j _ => ?_)
  exact congrArg₂ (· * ·) rfl (uP_at H _ _ _)
theorem out47 : uL m c = resL a := by
  funext i
  have h2 : i 2 = (0 : Fin 1) := Fin.ext (by have : (i 2).val < 1 := (i 2).isLt; show (i 2).val = 0; omega)
  refine (congrArg (uL m c) ((eq_ix3 (n0 := 8) (n1 := 8192) (n2 := 1) i).trans (congrArg (fun z => ix3 (i 0) (i 1) z) h2))).trans ?_
  exact uL_at H (i 0) (i 1)

end Cert.Proof.Forward

end
-- ==== Proof.ForwardPrinted.Point.lean ====
/-
  One step of the forward kernel, whichever its kind.
-/
module

public import proofs.«01_k».proof.Proof.ForwardPrinted.Tables
public import proofs.«01_k».proof.Proof.ForwardPrinted.BodyA
public import proofs.«01_k».proof.Proof.ForwardPrinted.BodyA0
public import proofs.«01_k».proof.Proof.ForwardPrinted.BodyB
public import proofs.«01_k».proof.Proof.ForwardPrinted.BodyB0
public import proofs.«01_k».proof.Proof.ForwardPrinted.BodyC
public import proofs.«01_k».proof.Proof.ForwardPrinted.BodyC0

@[expose] public section

noncomputable section

namespace Cert.Proof.ForwardPrinted

open Cert.Kernel2 Cert.Kernel2.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- What a step starts from: nothing at the first block of keys, else what the step before left. -/
def from0 (s : Fin 72) (S : St F) : St F := if kjAt s = 0 then start else S

/-- What step `s` of a row leaves. -/
def stepK (s : Fin 72) (x : Ins F) (S : St F) : St F :=
  if kindA s then stepA (lit0 s) x (from0 s S)
  else if kindB s then stepB (lit0 s) x (from0 s S)
  else stepC x (from0 s S)

/-- The tables' contents, one by one. -/
abbrev tab0 : (T0).view.ty.Contents (Elt F) := fun i => lit0 (S72.rowMajor i)
abbrev tab1 : (T1).view.ty.Contents (Elt F) := fun i => lit1 (S72.rowMajor i)

theorem kindB_of (s : Fin 72) (h : kindA s) : ¬ kindB s := by unfold kindA at h; unfold kindB; omega
theorem kindC_of (s : Fin 72) (h : kindA s) : ¬ kindC s := by unfold kindA at h; unfold kindC; omega
theorem kindC_of' (s : Fin 72) (h : kindB s) : ¬ kindC s := by unfold kindB at h; unfold kindC; omega
theorem kindA_of' (s : Fin 72) (h : kindB s) : ¬ kindA s := fun h' => kindB_of s h' h

theorem pointL (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (x : Ins F) (s s' : St F) (o : Vec F S512x512 .f32) (l : Vec F S4x512x1 .f32)
    (hs : kjAt (stepOf i) ≠ 0 → s' = s) (hC : ¬ kindC (stepOf i))
    (Q : PUnit → sProp 𝕄) :
    iprop(tbl c tab0 tab1 ∗ insHeld c M4 M5 M6 x ∗ stHeld c M9 M10 s' ∗ outHeld c M7 M8 o l
      ∗ (iprop(tbl c tab0 tab1 ∗ insHeld c M4 M5 M6 x ∗ stHeld c M9 M10 (stepK (stepOf i) x s)
          ∗ outHeld c M7 M8 (outO (stepK (stepOf i) x s)) (outL (stepK (stepOf i) x s))) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  by_cases hA : kindA (stepOf i)
  · have hB := kindB_of _ hA
    by_cases h0 : kjAt (stepOf i) = 0
    · have e : stepK (stepOf i) x s = stepA (lit0 (stepOf i)) x start := by
        unfold stepK from0
        rw [if_pos hA, if_pos h0]
      rw [e]
      exact runA0 c i M4 h4 M5 h5 M6 h6 M7 h7 M8 h8 M9 h9 M10 h10 _ _ _ _ (word0 i) (word1 i) x s' o l
        ((cond_first _).2 h0) (fun h => hC ((cond_before _).1 h)) ((cond_even _).2 hA) (fun h => hB ((cond_odd _).1 h)) ((cond_last _).2 hC) Q
    · have e : stepK (stepOf i) x s = stepA (lit0 (stepOf i)) x s := by
        unfold stepK from0
        rw [if_pos hA, if_neg h0]
      rw [e, hs h0]
      exact runA c i M4 h4 M5 h5 M6 h6 M7 h7 M8 h8 M9 h9 M10 h10 _ _ _ _ (word0 i) (word1 i) x s o l
        (fun h => h0 ((cond_first _).1 h)) (fun h => hC ((cond_before _).1 h)) ((cond_even _).2 hA) (fun h => hB ((cond_odd _).1 h)) ((cond_last _).2 hC) Q
  · have hB := ((kinds _).resolve_left hA).resolve_right hC
    by_cases h0 : kjAt (stepOf i) = 0
    · have e : stepK (stepOf i) x s = stepB (lit0 (stepOf i)) x start := by
        unfold stepK from0
        rw [if_neg hA, if_pos hB, if_pos h0]
      rw [e]
      exact runB0 c i M4 h4 M5 h5 M6 h6 M7 h7 M8 h8 M9 h9 M10 h10 _ _ _ _ (word0 i) (word1 i) x s' o l
        ((cond_first _).2 h0) (fun h => hC ((cond_before _).1 h)) (fun h => hA ((cond_even _).1 h)) ((cond_odd _).2 hB) ((cond_last _).2 hC) Q
    · have e : stepK (stepOf i) x s = stepB (lit0 (stepOf i)) x s := by
        unfold stepK from0
        rw [if_neg hA, if_pos hB, if_neg h0]
      rw [e, hs h0]
      exact runB c i M4 h4 M5 h5 M6 h6 M7 h7 M8 h8 M9 h9 M10 h10 _ _ _ _ (word0 i) (word1 i) x s o l
        (fun h => h0 ((cond_first _).1 h)) (fun h => hC ((cond_before _).1 h)) (fun h => hA ((cond_even _).1 h)) ((cond_odd _).2 hB) ((cond_last _).2 hC) Q

theorem pointC (c : Dev nD) (i : grid0.Coords) (M4 : Memref sig .tc .vmem S4x512x256 .bf16) (h4 : M4.IsWhole) (M5 : Memref sig .tc .vmem S4x1024x256 .bf16) (h5 : M5.IsWhole)
    (M6 : Memref sig .tc .vmem S4x1024x128 .bf16) (h6 : M6.IsWhole) (M7 : Memref sig .tc .vmem S512x512 .f32) (h7 : M7.IsWhole)
    (M8 : Memref sig .tc .vmem S4x512x1 .f32) (h8 : M8.IsWhole) (M9 : Memref sig .tc .vmem S4x512x1 .f32) (h9 : M9.IsWhole) (M10 : Memref sig .tc .vmem S4x512x256 .f32) (h10 : M10.IsWhole)
    (x : Ins F) (s s' : St F)
    (hs : kjAt (stepOf i) ≠ 0 → s' = s) (hC : kindC (stepOf i))
    (Q : PUnit → sProp 𝕄) :
    iprop(tbl c tab0 tab1 ∗ insHeld c M4 M5 M6 x ∗ stHeld c M9 M10 s'
      ∗ (iprop(tbl c tab0 tab1 ∗ insHeld c M4 M5 M6 x ∗ stHeld c M9 M10 (stepK (stepOf i) x s)) -∗ Q ⟨⟩))
    ⊢ wp frame (wpE (defs₀ (F := F)) Variants.none c none) Set.univ
        (cc0_flash_fwd i T0 (Memref.isWhole_whole _) T1 (Memref.isWhole_whole _) M4 h4 M5 h5 M6 h6 M7 h7 M8 h8 M9 h9 M10 h10) Q := by
  have hA : ¬ kindA (stepOf i) := fun h => kindC_of _ h hC
  have hB : ¬ kindB (stepOf i) := fun h => kindC_of' _ h hC
  by_cases h0 : kjAt (stepOf i) = 0
  · have e : stepK (stepOf i) x s = stepC x start := by
      unfold stepK from0
      rw [if_neg hA, if_neg hB, if_pos h0]
    rw [e]
    exact runC0 c i M4 h4 M5 h5 M6 h6 M7 h7 M8 h8 M9 h9 M10 h10 _ _ _ _ (word0 i) (word1 i) x s'
      ((cond_first _).2 h0) ((cond_before _).2 hC) (fun h => hA ((cond_even _).1 h)) (fun h => hB ((cond_odd _).1 h)) (fun h => (cond_last _).1 h hC) Q
  · have e : stepK (stepOf i) x s = stepC x s := by
      unfold stepK from0
      rw [if_neg hA, if_neg hB, if_neg h0]
    rw [e, hs h0]
    exact runC c i M4 h4 M5 h5 M6 h6 M7 h7 M8 h8 M9 h9 M10 h10 _ _ _ _ (word0 i) (word1 i) x s
      (fun h => h0 ((cond_first _).1 h)) ((cond_before _).2 hC) (fun h => hA ((cond_even _).1 h)) (fun h => hB ((cond_odd _).1 h)) (fun h => (cond_last _).1 h hC) Q

end Cert.Proof.ForwardPrinted

end
end
-- ==== Proof.lean ====
/-
  The certificate of the attention's gradient kernel and of its forward kernel: for each, the frames of the printed and
  of the idealized program, the frame of the reference, the named constants' statements, and the equality of the
  idealized program's results with the reference's, assembled behind the programs' stated facts.
-/
module

public import proofs.«01_k».proof.Defs
public import proofs.«01_k».proof.Proof.Run
public import proofs.«01_k».proof.Proof.Loads
public import proofs.«01_k».proof.Proof.RefOut
public import proofs.«01_k».proof.Proof.Finite
public import proofs.«01_k».proof.Proof.Printed.Run
public import proofs.«01_k».proof.Proof.Gen.Kernel
public import proofs.«01_k».proof.Proof.Gen.KernelIdeal
public import proofs.«01_k».proof.Proof.Gen.ReferenceIdeal.Run
public import proofs.«01_k».proof.Proof.Gen.Kernel2
public import proofs.«01_k».proof.Proof.Forward.Run
public import proofs.«01_k».proof.Proof.Forward.RefOut
public import proofs.«01_k».proof.Proof.ForwardPrinted.Run
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

theorem frame_kernel : Cert.quiescent_Kernel := fun m ρ _ =>
  (θ_run Cert.Kernel.defs _ _).mono (fun _ h => ⟨h.1, funext h.2⟩) (Cert.Proof.Printed.run_frame (F := Bits) m ρ)

theorem frame_ideal : Cert.quiescent_KernelIdeal := fun m ρ _ =>
  (θ_run Cert.KernelIdeal.defs _ _).mono (fun _ h => ⟨h.1, funext h.2⟩) (Cert.Proof.Flash.run_frame (F := Ideal) m ρ)

theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

theorem named : Cert.preserves_Kernel_KernelIdeal :=
  ⟨IdealRules.named_const.statement Cert.KernelIdeal.κ "c2" .f32 0x3DD53B95#32 _ rfl,
    IdealRules.named_const.statement Cert.KernelIdeal.κ "scale" .f32 0x3D93CD3A#32 _ rfl⟩

/-- The idealized program and the reference both end with the three gradients of the real arrays their arguments hold. -/
theorem same (hF : Cert.Pre_finite.Facts) : Cert.algebraic_KernelIdeal_ReferenceIdeal_pre_finite (hPre_finite := hF) := by
  intro m g m' g' hpre hargs
  let a : Dev Cert.KernelIdeal.nD → Flash.Args := fun c => Flash.argsOf (Flash.aq m c) (Flash.ak m c) (Flash.av m c) (Flash.ag m c)
  have H : ∀ c, Flash.HoldsAt m c (a c) := fun c => Flash.holds_of_finite hF _ _ _ _ (hpre c)
  have H' : ∀ c, Flash.Refd.HoldsAt m' c (a c) := fun c => by
    obtain ⟨e0, e1, e2, e3⟩ := hargs c
    have h := H c
    exact ⟨fun h' r d => (congrFun e0 _).trans (h.q h' r d), fun h' r d => (congrFun e1 _).trans (h.k h' r d),
      fun h' r d => (congrFun e2 _).trans (h.v h' r d), fun r d => (congrFun e3 _).trans (h.g r d)⟩
  refine ⟨fun c => Flash.outQ (a c), fun c => Flash.outK (a c), fun c => Flash.outV (a c), ?_, ?_⟩
  · refine (θ_run Cert.KernelIdeal.defs _ _).mono (fun r h c => ?_) (Cert.Proof.Flash.run_main (F := Ideal) m g)
    obtain ⟨hw, h0, ha0, ha1, ha2⟩ := h.1 c
    have L := Flash.loaded (ρ := g) (H c)
    exact ⟨h0.trans (Flash.final0 L), (hw 6).trans (Flash.final6 L), (hw 7).trans (Flash.final7 L), ha0, ha1, ha2,
      (hw 3).trans (Flash.finalA_arg3 m g c)⟩
  · refine (θ_run Cert.ReferenceIdeal.defs _ _).mono (fun r h c => ?_) (Cert.ReferenceIdeal.Value.run (F := Ideal) m' g')
    obtain ⟨h64, h65, h46, hrest⟩ := h c
    exact ⟨h64.trans (Flash.Refd.out64 (H' c)), h65.trans (Flash.Refd.out65 (H' c)), h46.trans (Flash.Refd.out46 (H' c)), hrest⟩

theorem frame_kernel2 : Cert.quiescent_Kernel2 := fun m ρ _ =>
  (θ_run Cert.Kernel2.defs _ _).mono (fun _ h => ⟨h.1, funext h.2⟩) (Cert.Proof.ForwardPrinted.run_frame (F := Bits) m ρ)

theorem frame_ideal2 : Cert.quiescent_Kernel2Ideal := fun m ρ _ =>
  (θ_run Cert.Kernel2Ideal.defs _ _).mono (fun _ h => ⟨h.1, funext h.2⟩) (Cert.Proof.Forward.run_frame (F := Ideal) m ρ)

theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

theorem named2 : Cert.preserves_Kernel2_Kernel2Ideal :=
  ⟨IdealRules.named_const.statement Cert.Kernel2Ideal.κ "c2" .f32 0x3DD53B95#32 _ rfl,
    IdealRules.named_const.statement Cert.Kernel2Ideal.κ "log2e" .f32 0x3FB8AA3B#32 _ rfl⟩

/-- The idealized forward program and its reference both end with the attention's output and the rows' logarithms of
    sums of the real queries and keys, and of whatever values, their arguments hold. -/
theorem same2 (hF : Cert.Pre_finite_qk.Facts) : Cert.algebraic_Kernel2Ideal_Reference2Ideal_pre_finite_qk (hPre_finite_qk := hF) := by
  intro m g m' g' hpre hargs
  let a : Dev Cert.Kernel2Ideal.nD → Flash.Args := fun c => Forward.argsQK (Forward.aq m c) (Forward.ak m c)
  have H : ∀ c, Forward.HoldsQK (a c) (Forward.aq m c) (Forward.ak m c) := fun c => Forward.holds_of_finite hF _ _ _ (hpre c)
  have H' : ∀ c, Flash.Holds (a c) (Forward.bq m' c) (Forward.bk m' c) Forward.zv Forward.zg := fun c => by
    obtain ⟨e0, e1, _⟩ := hargs c
    have h := H c
    exact ⟨fun h' r d => (congrFun e0 _).trans (h.q h' r d), fun h' r d => (congrFun e1 _).trans (h.k h' r d), fun _ _ _ => rfl, fun _ _ => rfl⟩
  refine ⟨fun c => Forward.resO (a c) (Forward.vals (Forward.av m c)), fun c => Forward.resL (a c), ?_, ?_⟩
  · refine (θ_run Cert.Kernel2Ideal.defs _ _).mono (fun r h c => ?_) (Cert.Proof.Forward.run_main (F := Ideal) m g)
    obtain ⟨hw, ha⟩ := h.1 c
    exact ⟨(hw 3).trans (Forward.final3 (ρ := g) (H c)), (hw 4).trans (Forward.final4 (ρ := g) (H c)), ha⟩
  · refine (θ_run Cert.Reference2Ideal.defs _ _).mono (fun r h c => ?_) (Cert.Reference2Ideal.Value.run (F := Ideal) m' g')
    obtain ⟨h44, h47, hrest⟩ := h c
    obtain ⟨_, _, e2⟩ := hargs c
    refine ⟨(h44.trans (Forward.out44 (H' c))).trans ?_, Eq.trans (h47.trans (by rfl : _ = Forward.uL m' c)) (Forward.out47 (H' c)), hrest⟩
    exact congrArg (fun v => Forward.resO (a c) (Forward.vals v)) e2

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Flash.finite_facts, Forward.finite_qk_facts, frame_kernel, frame_ideal, fun m ρ _ => frame_ideal m ρ trivial,
    frame_reference, fun m ρ _ => frame_reference m ρ trivial, frame_kernel2, frame_ideal2, fun m ρ _ => frame_ideal2 m ρ trivial,
    frame_reference2, fun m ρ _ => frame_reference2 m ρ trivial, named, same Flash.finite_facts, named2, same2 Forward.finite_qk_facts⟩

end Cert.Proof

end
